-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S32x8732x4 : Shape := ⟨3, ![32, 8732, 4]⟩
abbrev S32x8732x81 : Shape := ⟨3, ![32, 8732, 81]⟩
abbrev S32x16x4 : Shape := ⟨3, ![32, 16, 4]⟩
abbrev S32x16 : Shape := ⟨2, ![32, 16]⟩
abbrev S8732x4 : Shape := ⟨2, ![8732, 4]⟩
abbrev S8732x1 : Shape := ⟨2, ![8732, 1]⟩
abbrev S8732 : Shape := ⟨1, ![8732]⟩
abbrev S_ : Shape := ⟨0, ![]⟩
abbrev S32x16x2 : Shape := ⟨3, ![32, 16, 2]⟩
abbrev S32x16x1x2 : Shape := ⟨4, ![32, 16, 1, 2]⟩
abbrev S8732x2 : Shape := ⟨2, ![8732, 2]⟩
abbrev S1x8732x2 : Shape := ⟨3, ![1, 8732, 2]⟩
abbrev S1x1x8732x2 : Shape := ⟨4, ![1, 1, 8732, 2]⟩
abbrev S32x16x8732x2 : Shape := ⟨4, ![32, 16, 8732, 2]⟩
abbrev S32x16x8732x1 : Shape := ⟨4, ![32, 16, 8732, 1]⟩
abbrev S32x16x8732 : Shape := ⟨3, ![32, 16, 8732]⟩
abbrev S32x16x1 : Shape := ⟨3, ![32, 16, 1]⟩
abbrev S1x8732 : Shape := ⟨2, ![1, 8732]⟩
abbrev S1x1x8732 : Shape := ⟨3, ![1, 1, 8732]⟩
abbrev S32 : Shape := ⟨1, ![32]⟩
abbrev S32x1 : Shape := ⟨2, ![32, 1]⟩
abbrev S32x8732 : Shape := ⟨2, ![32, 8732]⟩
abbrev S16 : Shape := ⟨1, ![16]⟩
abbrev S32x8732x1 : Shape := ⟨3, ![32, 8732, 1]⟩
abbrev S32x8732x2 : Shape := ⟨3, ![32, 8732, 2]⟩
abbrev S279424x81 : Shape := ⟨2, ![279424, 81]⟩
abbrev S279424 : Shape := ⟨1, ![279424]⟩
abbrev S279424x1 : Shape := ⟨2, ![279424, 1]⟩
abbrev S279424x1x1 : Shape := ⟨3, ![279424, 1, 1]⟩
abbrev S1 : Shape := ⟨1, ![1]⟩
abbrev S1x1x1 : Shape := ⟨3, ![1, 1, 1]⟩
abbrev S32x8731 : Shape := ⟨2, ![32, 8731]⟩

class Facts : Prop where
  slices_S8732x4_S8732x1_0_0 : S8732x4.Slices ![0, 0] S8732x1
  shapeCasts_S8732x1_S8732 : S8732x1.ShapeCasts S8732
  slices_S8732x4_S8732x1_0_2 : S8732x4.Slices ![0, 2] S8732x1
  bcast_S_S8732 : S_.BroadcastsInDim S8732 (![] : Fin 0 → Fin S8732.rank)
  slices_S8732x4_S8732x1_0_1 : S8732x4.Slices ![0, 1] S8732x1
  slices_S8732x4_S8732x1_0_3 : S8732x4.Slices ![0, 3] S8732x1
  bcast_S8732_S8732x1_0 : S8732.BroadcastsInDim S8732x1 (![0] : Fin 1 → Fin S8732x1.rank)
  concatenates_S8732x1_S8732x1_S8732x1_S8732x1_S8732x4_d1 : Shape.Concatenates [S8732x1, S8732x1, S8732x1, S8732x1] S8732x4 1
  slices_S32x16x4_S32x16x2_0_0_0 : S32x16x4.Slices ![0, 0, 0] S32x16x2
  bcast_S32x16x2_S32x16x1x2_0_1_3 : S32x16x2.BroadcastsInDim S32x16x1x2 (![0, 1, 3] : Fin 3 → Fin S32x16x1x2.rank)
  slices_S8732x4_S8732x2_0_0 : S8732x4.Slices ![0, 0] S8732x2
  bcast_S8732x2_S1x8732x2_1_2 : S8732x2.BroadcastsInDim S1x8732x2 (![1, 2] : Fin 2 → Fin S1x8732x2.rank)
  bcast_S1x8732x2_S1x1x8732x2_1_2_3 : S1x8732x2.BroadcastsInDim S1x1x8732x2 (![1, 2, 3] : Fin 3 → Fin S1x1x8732x2.rank)
  bcast_S32x16x1x2_S32x16x8732x2_0_1_2_3 : S32x16x1x2.BroadcastsInDim S32x16x8732x2 (![0, 1, 2, 3] : Fin 4 → Fin S32x16x8732x2.rank)
  bcast_S1x1x8732x2_S32x16x8732x2_0_1_2_3 : S1x1x8732x2.BroadcastsInDim S32x16x8732x2 (![0, 1, 2, 3] : Fin 4 → Fin S32x16x8732x2.rank)
  slices_S32x16x4_S32x16x2_0_0_2 : S32x16x4.Slices ![0, 0, 2] S32x16x2
  slices_S8732x4_S8732x2_0_2 : S8732x4.Slices ![0, 2] S8732x2
  bcast_S_S32x16x8732x2 : S_.BroadcastsInDim S32x16x8732x2 (![] : Fin 0 → Fin S32x16x8732x2.rank)
  slices_S32x16x8732x2_S32x16x8732x1_0_0_0_0 : S32x16x8732x2.Slices ![0, 0, 0, 0] S32x16x8732x1
  shapeCasts_S32x16x8732x1_S32x16x8732 : S32x16x8732x1.ShapeCasts S32x16x8732
  slices_S32x16x8732x2_S32x16x8732x1_0_0_0_1 : S32x16x8732x2.Slices ![0, 0, 0, 1] S32x16x8732x1
  slices_S32x16x4_S32x16x1_0_0_2 : S32x16x4.Slices ![0, 0, 2] S32x16x1
  shapeCasts_S32x16x1_S32x16 : S32x16x1.ShapeCasts S32x16
  slices_S32x16x4_S32x16x1_0_0_0 : S32x16x4.Slices ![0, 0, 0] S32x16x1
  slices_S32x16x4_S32x16x1_0_0_3 : S32x16x4.Slices ![0, 0, 3] S32x16x1
  slices_S32x16x4_S32x16x1_0_0_1 : S32x16x4.Slices ![0, 0, 1] S32x16x1
  bcast_S32x16_S32x16x1_0_1 : S32x16.BroadcastsInDim S32x16x1 (![0, 1] : Fin 2 → Fin S32x16x1.rank)
  bcast_S8732_S1x8732_1 : S8732.BroadcastsInDim S1x8732 (![1] : Fin 1 → Fin S1x8732.rank)
  bcast_S1x8732_S1x1x8732_1_2 : S1x8732.BroadcastsInDim S1x1x8732 (![1, 2] : Fin 2 → Fin S1x1x8732.rank)
  bcast_S32x16x1_S32x16x8732_0_1_2 : S32x16x1.BroadcastsInDim S32x16x8732 (![0, 1, 2] : Fin 3 → Fin S32x16x8732.rank)
  bcast_S1x1x8732_S32x16x8732_0_1_2 : S1x1x8732.BroadcastsInDim S32x16x8732 (![0, 1, 2] : Fin 3 → Fin S32x16x8732.rank)
  bcast_S32_S32x1_0 : S32.BroadcastsInDim S32x1 (![0] : Fin 1 → Fin S32x1.rank)
  reducesTo_S32x16x8732_S32x8732_d1 : S32x16x8732.ReducesTo [1] S32x8732
  h_S_ : 0 < S_.numel
  reducesTo_S32x16x8732_S32x16_d2 : S32x16x8732.ReducesTo [2] S32x16
  bcast_S16_S32x16_1 : S16.BroadcastsInDim S32x16 (![1] : Fin 1 → Fin S32x16.rank)
  bcast_S_S32x1 : S_.BroadcastsInDim S32x1 (![] : Fin 0 → Fin S32x1.rank)
  bcast_S_S32x16 : S_.BroadcastsInDim S32x16 (![] : Fin 0 → Fin S32x16.rank)
  bcast_S32x1_S32x16_0_1 : S32x1.BroadcastsInDim S32x16 (![0, 1] : Fin 2 → Fin S32x16.rank)
  concatenates_S32x16x1_S32x16x1_S32x16x2_d2 : Shape.Concatenates [S32x16x1, S32x16x1] S32x16x2 2
  bcast_S_S32x8732 : S_.BroadcastsInDim S32x8732 (![] : Fin 0 → Fin S32x8732.rank)
  bcast_S32x1_S32x8732_0_1 : S32x1.BroadcastsInDim S32x8732 (![0, 1] : Fin 2 → Fin S32x8732.rank)
  bcast_S32x8732_S32x8732x1_0_1 : S32x8732.BroadcastsInDim S32x8732x1 (![0, 1] : Fin 2 → Fin S32x8732x1.rank)
  concatenates_S32x8732x1_S32x8732x1_S32x8732x2_d2 : Shape.Concatenates [S32x8732x1, S32x8732x1] S32x8732x2 2
  slices_S32x8732x4_S32x8732x1_0_0_0 : S32x8732x4.Slices ![0, 0, 0] S32x8732x1
  shapeCasts_S32x8732x1_S32x8732 : S32x8732x1.ShapeCasts S32x8732
  slices_S32x8732x4_S32x8732x1_0_0_2 : S32x8732x4.Slices ![0, 0, 2] S32x8732x1
  slices_S32x8732x4_S32x8732x1_0_0_1 : S32x8732x4.Slices ![0, 0, 1] S32x8732x1
  slices_S32x8732x4_S32x8732x1_0_0_3 : S32x8732x4.Slices ![0, 0, 3] S32x8732x1
  concatenates_S32x8732x1_S32x8732x1_S32x8732x1_S32x8732x1_S32x8732x4_d2 : Shape.Concatenates [S32x8732x1, S32x8732x1, S32x8732x1, S32x8732x1] S32x8732x4 2
  bcast_S1x8732_S32x8732_0_1 : S1x8732.BroadcastsInDim S32x8732 (![0, 1] : Fin 2 → Fin S32x8732.rank)
  reducesTo_S32x8732_S32_d1 : S32x8732.ReducesTo [1] S32
  shapeCasts_S32x8732x81_S279424x81 : S32x8732x81.ShapeCasts S279424x81
  reducesTo_S279424x81_S279424_d1 : S279424x81.ReducesTo [1] S279424
  bcast_S279424_S279424x1_0 : S279424.BroadcastsInDim S279424x1 (![0] : Fin 1 → Fin S279424x1.rank)
  bcast_S279424x1_S279424x81_0_1 : S279424x1.BroadcastsInDim S279424x81 (![0, 1] : Fin 2 → Fin S279424x81.rank)
  shapeCasts_S32x8732_S279424x1 : S32x8732.ShapeCasts S279424x1
  bcast_S_S279424x1 : S_.BroadcastsInDim S279424x1 (![] : Fin 0 → Fin S279424x1.rank)
  shapeCasts_S279424x1_S279424x1x1 : S279424x1.ShapeCasts S279424x1x1
  bcast_S_S279424x1x1 : S_.BroadcastsInDim S279424x1x1 (![] : Fin 0 → Fin S279424x1x1.rank)
  bcast_S1_S1x1x1_2 : S1.BroadcastsInDim S1x1x1 (![2] : Fin 1 → Fin S1x1x1.rank)
  bcast_S1x1x1_S279424x1x1_0_1_2 : S1x1x1.BroadcastsInDim S279424x1x1 (![0, 1, 2] : Fin 3 → Fin S279424x1x1.rank)
  reducesTo_S279424x1x1_S279424x1_d2 : S279424x1x1.ReducesTo [2] S279424x1
  shapeCasts_S279424x1_S279424 : S279424x1.ShapeCasts S279424
  shapeCasts_S279424_S32x8732 : S279424.ShapeCasts S32x8732
  slices_S32x8732_S32x8731_0_1 : S32x8732.Slices ![0, 1] S32x8731
  concatenates_S32x8731_S32x1_S32x8732_d1 : Shape.Concatenates [S32x8731, S32x1] S32x8732 1
  bcast_S_S32 : S_.BroadcastsInDim S32 (![] : Fin 0 → Fin S32.rank)
  bcast_S_S1x8732 : S_.BroadcastsInDim S1x8732 (![] : Fin 0 → Fin S1x8732.rank)
  slices_S32x8732_S32x1_0_0 : S32x8732.Slices ![0, 0] S32x1
  bcast_S_S32x8732x81 : S_.BroadcastsInDim S32x8732x81 (![] : Fin 0 → Fin S32x8732x81.rank)
  scatter_S32x8732_S32x16x2_S32x16_n_01_01_2_wf : ScatterDims.WF S32x8732 S32x16x2 S32x16 [] [0, 1] [0, 1] 2
  gather_S32x16_S32x8732x2_S32x8732_n_01_n_n_01_2_11_wf : GatherDims.WF S32x16 S32x8732x2 S32x8732 [] [0, 1] [] [0, 1] [] 2 ![1, 1]
  gather_S32x16x4_S32x8732x2_S32x8732x4_2_01_n_n_01_2_114_wf : GatherDims.WF S32x16x4 S32x8732x2 S32x8732x4 [2] [0, 1] [] [0, 1] [] 2 ![1, 1, 4]
  gather_S279424x81_S279424x1x1_S279424x1_n_1_0_0_1_2_11_wf : GatherDims.WF S279424x81 S279424x1x1 S279424x1 [] [1] [0] [1] [0] 2 ![1, 1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S32x8732_S32x16x2_S32x16_n_01_01_2 : ScatterDims S32x8732 S32x16x2 S32x16 where
  updateWindowDims := []
  insertedWindowDims := [0, 1]
  scatterDimsToOperandDims := [0, 1]
  indexVectorDim := 2
  wf := scatter_S32x8732_S32x16x2_S32x16_n_01_01_2_wf
def gather_S32x16_S32x8732x2_S32x8732_n_01_n_n_01_2_11 : GatherDims S32x16 S32x8732x2 S32x8732 where
  offsetDims := []
  collapsedSliceDims := [0, 1]
  operandBatchingDims := []
  startIndicesBatchingDims := []
  startIndexMap := [0, 1]
  indexVectorDim := 2
  sliceSizes := ![1, 1]
  wf := gather_S32x16_S32x8732x2_S32x8732_n_01_n_n_01_2_11_wf
def gather_S32x16x4_S32x8732x2_S32x8732x4_2_01_n_n_01_2_114 : GatherDims S32x16x4 S32x8732x2 S32x8732x4 where
  offsetDims := [2]
  collapsedSliceDims := [0, 1]
  operandBatchingDims := []
  startIndicesBatchingDims := []
  startIndexMap := [0, 1]
  indexVectorDim := 2
  sliceSizes := ![1, 1, 4]
  wf := gather_S32x16x4_S32x8732x2_S32x8732x4_2_01_n_n_01_2_114_wf
def gather_S279424x81_S279424x1x1_S279424x1_n_1_0_0_1_2_11 : GatherDims S279424x81 S279424x1x1 S279424x1 where
  offsetDims := []
  collapsedSliceDims := [1]
  operandBatchingDims := [0]
  startIndicesBatchingDims := [0]
  startIndexMap := [1]
  indexVectorDim := 2
  sliceSizes := ![1, 1]
  wf := gather_S279424x81_S279424x1x1_S279424x1_n_1_0_0_1_2_11_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_clip {F : FTy → Type} [FloatOps F] (arg0 : FVec F S32x16x8732x2 .f32) (arg1 : FVec F S_ .f32) : FVec F S32x16x8732x2 .f32 :=
  let v0 : FVec F S_ .f32 := id arg1
  let v1 : FVec F S32x16x8732x2 .f32 := broadcastInDim S32x16x8732x2 ![] bcast_S_S32x16x8732x2 v0
  let v2 : FVec F S32x16x8732x2 .f32 := maximumf v1 arg0
  v2

def fn_argmax {F : FTy → Type} [FloatOps F] (arg0 : FVec F S32x16x8732 .f32) : IVec S32x8732 32 :=
  let v0 : IVec S32x16x8732 32 := iotaInDim S32x16x8732 32 1
  let cst : FVec F S_ .f32 := constant S_ .f32 0xFF800000#32
  let c : IVec S_ 32 := constantI S_ 32 0#32
  let v1_0 : FVec F S32x8732 .f32 := (fun x y u v j => (Host.argReduce reducer_argmax_f32_i32 x y u v reducesTo_S32x16x8732_S32x8732_d1 h_S_ j).1) arg0 v0 cst c
  let v1_1 : IVec S32x8732 32 := (fun x y u v j => (Host.argReduce reducer_argmax_f32_i32 x y u v reducesTo_S32x16x8732_S32x8732_d1 h_S_ j).2) arg0 v0 cst c
  v1_1

def fn_argmax_0 {F : FTy → Type} [FloatOps F] (arg0 : FVec F S32x16x8732 .f32) : IVec S32x16 32 :=
  let v0 : IVec S32x16x8732 32 := iotaInDim S32x16x8732 32 2
  let cst : FVec F S_ .f32 := constant S_ .f32 0xFF800000#32
  let c : IVec S_ 32 := constantI S_ 32 0#32
  let v1_0 : FVec F S32x16 .f32 := (fun x y u v j => (Host.argReduce reducer_argmax_f32_i32 x y u v reducesTo_S32x16x8732_S32x16_d2 h_S_ j).1) arg0 v0 cst c
  let v1_1 : IVec S32x16 32 := (fun x y u v j => (Host.argReduce reducer_argmax_f32_i32 x y u v reducesTo_S32x16x8732_S32x16_d2 h_S_ j).2) arg0 v0 cst c
  v1_1

def fn_where {F : FTy → Type} [FloatOps F] (arg0 : IVec S32x8732 1) (arg1 : IVec S_ 32) (arg2 : IVec S32x8732 32) : IVec S32x8732 32 :=
  let v0 : IVec S_ 32 := id arg1
  let v1 : IVec S32x8732 32 := broadcastInDim S32x8732 ![] bcast_S_S32x8732 v0
  let v2 : IVec S32x8732 32 := select arg0 v1 arg2
  v2

def fn_take_along_axis {F : FTy → Type} [FloatOps F] (arg0 : FVec F S279424x81 .f32) (arg1 : IVec S279424x1 32) : FVec F S279424x1 .f32 :=
  let c : IVec S_ 32 := constantI S_ 32 0#32
  let v0 : IVec S279424x1 32 := broadcastInDim S279424x1 ![] bcast_S_S279424x1 c
  let v1 : IVec S279424x1 1 := cmpi .slt arg1 v0
  let c_0 : IVec S_ 32 := constantI S_ 32 81#32
  let v2 : IVec S279424x1 32 := broadcastInDim S279424x1 ![] bcast_S_S279424x1 c_0
  let v3 : IVec S279424x1 32 := addi arg1 v2
  let v4 : IVec S279424x1 32 := select v1 v3 arg1
  let v5 : IVec S279424x1x1 32 := shapeCast S279424x1x1 v4 shapeCasts_S279424x1_S279424x1x1
  let c_1 : IVec S1 32 := constantI S1 32 80#32
  let c_2 : IVec S_ 32 := constantI S_ 32 0#32
  let v6 : IVec S279424x1x1 32 := broadcastInDim S279424x1x1 ![] bcast_S_S279424x1x1 c_2
  let v7 : IVec S279424x1x1 1 := cmpi .sge v5 v6
  let v8 : IVec S1x1x1 32 := broadcastInDim S1x1x1 ![2] bcast_S1_S1x1x1_2 c_1
  let v9 : IVec S279424x1x1 32 := broadcastInDim S279424x1x1 ![0, 1, 2] bcast_S1x1x1_S279424x1x1_0_1_2 v8
  let v10 : IVec S279424x1x1 1 := cmpi .sle v5 v9
  let v11 : IVec S279424x1x1 1 := andi v7 v10
  let c_3 : IVec S_ 1 := constantI S_ 1 1#1
  let v12 : IVec S279424x1 1 := (fun x v => Host.reduce IntOp.andi x v reducesTo_S279424x1x1_S279424x1_d2 h_S_) v11 c_3
  let v13 : FVec F S279424x1 .f32 := (fun x i => Host.gather gather_S279424x81_S279424x1x1_S279424x1_n_1_0_0_1_2_11 x i) arg0 v5
  let cst : FVec F S_ .f32 := constant S_ .f32 0x7FC00000#32
  let v14 : FVec F S279424x1 .f32 := broadcastInDim S279424x1 ![] bcast_S_S279424x1 cst
  let v15 : FVec F S279424x1 .f32 := select v12 v13 v14
  v15

def fn_sort {F : FTy → Type} [FloatOps F] (arg0 : FVec F S32x8732 .f32) : FVec F S32x8732 .f32 :=
  let v0 : FVec F S32x8732 .f32 := (fun x => Host.sort S32x8732 1 comparator_f32_d1 x) arg0
  v0

def fn_part12 {F : FTy → Type} [FloatOps F] (main_arg1 : FVec F S32x8732x81 .f32) (main_arg3 : IVec S32x16 32) (main_v238 : FVec F S32x8732 .f32) (main_v241 : FVec F S32x8732 .f32) (main_v253 : IVec S32x8732 1) : IVec S32x16 1 × IVec S32x8732x81 1 × IVec S32x8732 1 :=
  let main_v254 : FVec F S32x8732 .f32 := subf main_v238 main_v241
  let main_v255 : FVec F S32x1 .f32 := (extractStridedSlice S32x1 ![0, 0] · slices_S32x8732_S32x1_0_0) main_v238
  let main_cst_32 : FVec F S_ .f32 := constant S_ .f32 0x2E000000#32
  let main_v256 : FVec F S32x1 .f32 := broadcastInDim S32x1 ![] bcast_S_S32x1 main_cst_32
  let main_v257 : FVec F S32x1 .f32 := mulf main_v255 main_v256
  let main_v258 : FVec F S32x8732 .f32 := broadcastInDim S32x8732 ![0, 1] bcast_S32x1_S32x8732_0_1 main_v257
  let main_v259 : IVec S32x8732 1 := cmpf .oge main_v254 main_v258
  let main_v260 : IVec S32x8732 1 := ori main_v253 main_v259
  let main_c_33 : IVec S_ 32 := constantI S_ 32 1#32
  let main_v261 : IVec S32x16 32 := broadcastInDim S32x16 ![] bcast_S_S32x16 main_c_33
  let main_v262 : IVec S32x16 1 := cmpi .sge main_arg3 main_v261
  let main_c_34 : IVec S_ 32 := constantI S_ 32 81#32
  let main_v263 : IVec S32x16 32 := broadcastInDim S32x16 ![] bcast_S_S32x16 main_c_34
  let main_v264 : IVec S32x16 1 := cmpi .slt main_arg3 main_v263
  let main_v265 : IVec S32x16 1 := andi main_v262 main_v264
  let main_v266 : FVec F S32x8732x81 .f32 := Host.absf main_arg1
  let main_cst_35 : FVec F S_ .f32 := constant S_ .f32 0x7F800000#32
  let main_v267 : FVec F S32x8732x81 .f32 := broadcastInDim S32x8732x81 ![] bcast_S_S32x8732x81 main_cst_35
  let main_v268 : IVec S32x8732x81 1 := cmpf .olt main_v266 main_v267
  (main_v265, main_v268, main_v260)

def fn_part11 {F : FTy → Type} [FloatOps F] (main_arg1 : FVec F S32x8732x81 .f32) (main_arg3 : IVec S32x16 32) (main_v217 : FVec F S32x8732 .f32) (main_v218 : FVec F S32 .f32) (main_v232 : FVec F S32x8732 .f32) (main_v233 : FVec F S32x8732 .f32) : IVec S32x16 1 × IVec S32x8732x81 1 × IVec S32x8732 1 :=
  let main_v234 : FVec F S32x8732 .f32 := subf main_v233 main_v217
  let main_v235 : FVec F S32x8732 .f32 := mulf main_v232 main_v234
  let main_v236 : FVec F S32x8732 .f32 := Host.negf main_v235
  let main_v237 : FVec F S32x8732 .f32 := fn_sort (F := F) main_v236
  let main_v238 : FVec F S32x8732 .f32 := Host.negf main_v237
  let main_v239 : FVec F S32x8731 .f32 := (extractStridedSlice S32x8731 ![0, 1] · slices_S32x8732_S32x8731_0_1) main_v238
  let main_cst_28 : FVec F S_ .f32 := constant S_ .f32 0x00000000#32
  let main_v240 : FVec F S32x1 .f32 := broadcastInDim S32x1 ![] bcast_S_S32x1 main_cst_28
  let main_v241 : FVec F S32x8732 .f32 := (fun a b => concatenate S32x8732 1 [⟨S32x8731, a⟩, ⟨S32x1, b⟩] concatenates_S32x8731_S32x1_S32x8732_d1) main_v239 main_v240
  let main_v242 : FVec F S8732 .f32 := sitofp .f32 (iotaInDim S8732 32 0)
  let main_v243 : FVec F S1x8732 .f32 := broadcastInDim S1x8732 ![1] bcast_S8732_S1x8732_1 main_v242
  let main_cst_29 : FVec F S_ .f32 := constant S_ .f32 0x40400000#32
  let main_v244 : FVec F S32 .f32 := broadcastInDim S32 ![] bcast_S_S32 main_cst_29
  let main_v245 : FVec F S32 .f32 := mulf main_v244 main_v218
  let main_cst_30 : FVec F S_ .f32 := constant S_ .f32 0x46087000#32
  let main_v246 : FVec F S32 .f32 := broadcastInDim S32 ![] bcast_S_S32 main_cst_30
  let main_v247 : FVec F S32 .f32 := minimumf main_v245 main_v246
  let main_v248 : FVec F S32x1 .f32 := broadcastInDim S32x1 ![0] bcast_S32_S32x1_0 main_v247
  let main_cst_31 : FVec F S_ .f32 := constant S_ .f32 0x3F800000#32
  let main_v249 : FVec F S1x8732 .f32 := broadcastInDim S1x8732 ![] bcast_S_S1x8732 main_cst_31
  let main_v250 : FVec F S1x8732 .f32 := addf main_v243 main_v249
  let main_v251 : FVec F S32x8732 .f32 := broadcastInDim S32x8732 ![0, 1] bcast_S1x8732_S32x8732_0_1 main_v250
  let main_v252 : FVec F S32x8732 .f32 := broadcastInDim S32x8732 ![0, 1] bcast_S32x1_S32x8732_0_1 main_v248
  let main_v253 : IVec S32x8732 1 := cmpf .une main_v251 main_v252
  fn_part12 (F := F) main_arg1 main_arg3 main_v238 main_v241 main_v253

def fn_part10 {F : FTy → Type} [FloatOps F] (main_arg1 : FVec F S32x8732x81 .f32) (main_arg3 : IVec S32x16 32) (main_v131 : IVec S32x8732 32) : IVec S32x16 1 × IVec S32x8732x81 1 × IVec S32x8732 1 :=
  let main_c_23 : IVec S_ 32 := constantI S_ 32 0#32
  let main_v215 : IVec S32x8732 32 := broadcastInDim S32x8732 ![] bcast_S_S32x8732 main_c_23
  let main_v216 : IVec S32x8732 1 := cmpi .ne main_v131 main_v215
  let main_v217 : FVec F S32x8732 .f32 := uitofp .f32 main_v216
  let main_cst_24 : FVec F S_ .f32 := constant S_ .f32 0x00000000#32
  let main_v218 : FVec F S32 .f32 := (fun x v => Host.reduceAdd x v reducesTo_S32x8732_S32_d1 h_S_) main_v217 main_cst_24
  let main_v219 : FVec F S279424x81 .f32 := shapeCast S279424x81 main_arg1 shapeCasts_S32x8732x81_S279424x81
  let main_cst_25 : FVec F S_ .f32 := constant S_ .f32 0xFF800000#32
  let main_v220 : FVec F S279424 .f32 := (fun x v => Host.reduce FloatOps.maximumf x v reducesTo_S279424x81_S279424_d1 h_S_) main_v219 main_cst_25
  let main_v221 : FVec F S279424x1 .f32 := broadcastInDim S279424x1 ![0] bcast_S279424_S279424x1_0 main_v220
  let main_v222 : FVec F S279424x81 .f32 := broadcastInDim S279424x81 ![0, 1] bcast_S279424x1_S279424x81_0_1 main_v221
  let main_v223 : FVec F S279424x81 .f32 := subf main_v219 main_v222
  let main_v224 : FVec F S279424x81 .f32 := Host.exp main_v223
  let main_cst_26 : FVec F S_ .f32 := constant S_ .f32 0x00000000#32
  let main_v225 : FVec F S279424 .f32 := (fun x v => Host.reduceAdd x v reducesTo_S279424x81_S279424_d1 h_S_) main_v224 main_cst_26
  let main_v226 : FVec F S279424 .f32 := Host.log main_v225
  let main_v227 : FVec F S279424 .f32 := addf main_v226 main_v220
  let main_v228 : IVec S279424x1 32 := shapeCast S279424x1 main_v131 shapeCasts_S32x8732_S279424x1
  let main_v229 : FVec F S279424x1 .f32 := fn_take_along_axis (F := F) main_v219 main_v228
  let main_v230 : FVec F S279424 .f32 := shapeCast S279424 main_v229 shapeCasts_S279424x1_S279424
  let main_v231 : FVec F S279424 .f32 := subf main_v227 main_v230
  let main_v232 : FVec F S32x8732 .f32 := shapeCast S32x8732 main_v231 shapeCasts_S279424_S32x8732
  let main_cst_27 : FVec F S_ .f32 := constant S_ .f32 0x3F800000#32
  let main_v233 : FVec F S32x8732 .f32 := broadcastInDim S32x8732 ![] bcast_S_S32x8732 main_cst_27
  fn_part11 (F := F) main_arg1 main_arg3 main_v217 main_v218 main_v232 main_v233

def fn_part9 {F : FTy → Type} [FloatOps F] (main_arg1 : FVec F S32x8732x81 .f32) (main_arg3 : IVec S32x16 32) (main_arg4 : FVec F S8732x4 .f32) (main_v131 : IVec S32x8732 32) (main_v169 : FVec F S32x8732x4 .f32) (main_v181 : FVec F S32x8732 .f32) (main_v188 : FVec F S32x8732 .f32) (main_v190 : FVec F S8732 .f32) : IVec S32x16 1 × IVec S32x8732x81 1 × IVec S32x8732 1 :=
  let main_v191 : FVec F S1x8732 .f32 := broadcastInDim S1x8732 ![1] bcast_S8732_S1x8732_1 main_v190
  let main_v192 : FVec F S32x8732 .f32 := broadcastInDim S32x8732 ![0, 1] bcast_S1x8732_S32x8732_0_1 main_v191
  let main_v193 : FVec F S32x8732 .f32 := Host.divf main_v188 main_v192
  let main_v194 : FVec F S32x8732x1 .f32 := (extractStridedSlice S32x8732x1 ![0, 0, 2] · slices_S32x8732x4_S32x8732x1_0_0_2) main_v169
  let main_v195 : FVec F S32x8732 .f32 := shapeCast S32x8732 main_v194 shapeCasts_S32x8732x1_S32x8732
  let main_v196 : FVec F S8732x1 .f32 := (extractStridedSlice S8732x1 ![0, 2] · slices_S8732x4_S8732x1_0_2) main_arg4
  let main_v197 : FVec F S8732 .f32 := shapeCast S8732 main_v196 shapeCasts_S8732x1_S8732
  let main_v198 : FVec F S1x8732 .f32 := broadcastInDim S1x8732 ![1] bcast_S8732_S1x8732_1 main_v197
  let main_v199 : FVec F S32x8732 .f32 := broadcastInDim S32x8732 ![0, 1] bcast_S1x8732_S32x8732_0_1 main_v198
  let main_v200 : FVec F S32x8732 .f32 := Host.divf main_v195 main_v199
  let main_v201 : FVec F S32x8732 .f32 := Host.log main_v200
  let main_v202 : FVec F S32x8732x1 .f32 := (extractStridedSlice S32x8732x1 ![0, 0, 3] · slices_S32x8732x4_S32x8732x1_0_0_3) main_v169
  let main_v203 : FVec F S32x8732 .f32 := shapeCast S32x8732 main_v202 shapeCasts_S32x8732x1_S32x8732
  let main_v204 : FVec F S8732x1 .f32 := (extractStridedSlice S8732x1 ![0, 3] · slices_S8732x4_S8732x1_0_3) main_arg4
  let main_v205 : FVec F S8732 .f32 := shapeCast S8732 main_v204 shapeCasts_S8732x1_S8732
  let main_v206 : FVec F S1x8732 .f32 := broadcastInDim S1x8732 ![1] bcast_S8732_S1x8732_1 main_v205
  let main_v207 : FVec F S32x8732 .f32 := broadcastInDim S32x8732 ![0, 1] bcast_S1x8732_S32x8732_0_1 main_v206
  let main_v208 : FVec F S32x8732 .f32 := Host.divf main_v203 main_v207
  let main_v209 : FVec F S32x8732 .f32 := Host.log main_v208
  let main_v210 : FVec F S32x8732x1 .f32 := broadcastInDim S32x8732x1 ![0, 1] bcast_S32x8732_S32x8732x1_0_1 main_v181
  let main_v211 : FVec F S32x8732x1 .f32 := broadcastInDim S32x8732x1 ![0, 1] bcast_S32x8732_S32x8732x1_0_1 main_v193
  let main_v212 : FVec F S32x8732x1 .f32 := broadcastInDim S32x8732x1 ![0, 1] bcast_S32x8732_S32x8732x1_0_1 main_v201
  let main_v213 : FVec F S32x8732x1 .f32 := broadcastInDim S32x8732x1 ![0, 1] bcast_S32x8732_S32x8732x1_0_1 main_v209
  let main_v214 : FVec F S32x8732x4 .f32 := concatenate S32x8732x4 2 [⟨S32x8732x1, main_v210⟩, ⟨S32x8732x1, main_v211⟩, ⟨S32x8732x1, main_v212⟩, ⟨S32x8732x1, main_v213⟩] concatenates_S32x8732x1_S32x8732x1_S32x8732x1_S32x8732x1_S32x8732x4_d2
  fn_part10 (F := F) main_arg1 main_arg3 main_v131

def fn_part8 {F : FTy → Type} [FloatOps F] (main_arg1 : FVec F S32x8732x81 .f32) (main_arg3 : IVec S32x16 32) (main_arg4 : FVec F S8732x4 .f32) (main_v131 : IVec S32x8732 32) (main_v162 : FVec F S32x8732 .f32) (main_v164 : FVec F S32x8732 .f32) (main_v165 : FVec F S32x8732x1 .f32) (main_v166 : FVec F S32x8732x1 .f32) : IVec S32x16 1 × IVec S32x8732x81 1 × IVec S32x8732 1 :=
  let main_v167 : FVec F S32x8732x1 .f32 := broadcastInDim S32x8732x1 ![0, 1] bcast_S32x8732_S32x8732x1_0_1 main_v162
  let main_v168 : FVec F S32x8732x1 .f32 := broadcastInDim S32x8732x1 ![0, 1] bcast_S32x8732_S32x8732x1_0_1 main_v164
  let main_v169 : FVec F S32x8732x4 .f32 := concatenate S32x8732x4 2 [⟨S32x8732x1, main_v165⟩, ⟨S32x8732x1, main_v166⟩, ⟨S32x8732x1, main_v167⟩, ⟨S32x8732x1, main_v168⟩] concatenates_S32x8732x1_S32x8732x1_S32x8732x1_S32x8732x1_S32x8732x4_d2
  let main_v170 : FVec F S32x8732x1 .f32 := (extractStridedSlice S32x8732x1 ![0, 0, 0] · slices_S32x8732x4_S32x8732x1_0_0_0) main_v169
  let main_v171 : FVec F S32x8732 .f32 := shapeCast S32x8732 main_v170 shapeCasts_S32x8732x1_S32x8732
  let main_v172 : FVec F S8732x1 .f32 := (extractStridedSlice S8732x1 ![0, 0] · slices_S8732x4_S8732x1_0_0) main_arg4
  let main_v173 : FVec F S8732 .f32 := shapeCast S8732 main_v172 shapeCasts_S8732x1_S8732
  let main_v174 : FVec F S1x8732 .f32 := broadcastInDim S1x8732 ![1] bcast_S8732_S1x8732_1 main_v173
  let main_v175 : FVec F S32x8732 .f32 := broadcastInDim S32x8732 ![0, 1] bcast_S1x8732_S32x8732_0_1 main_v174
  let main_v176 : FVec F S32x8732 .f32 := subf main_v171 main_v175
  let main_v177 : FVec F S8732x1 .f32 := (extractStridedSlice S8732x1 ![0, 2] · slices_S8732x4_S8732x1_0_2) main_arg4
  let main_v178 : FVec F S8732 .f32 := shapeCast S8732 main_v177 shapeCasts_S8732x1_S8732
  let main_v179 : FVec F S1x8732 .f32 := broadcastInDim S1x8732 ![1] bcast_S8732_S1x8732_1 main_v178
  let main_v180 : FVec F S32x8732 .f32 := broadcastInDim S32x8732 ![0, 1] bcast_S1x8732_S32x8732_0_1 main_v179
  let main_v181 : FVec F S32x8732 .f32 := Host.divf main_v176 main_v180
  let main_v182 : FVec F S32x8732x1 .f32 := (extractStridedSlice S32x8732x1 ![0, 0, 1] · slices_S32x8732x4_S32x8732x1_0_0_1) main_v169
  let main_v183 : FVec F S32x8732 .f32 := shapeCast S32x8732 main_v182 shapeCasts_S32x8732x1_S32x8732
  let main_v184 : FVec F S8732x1 .f32 := (extractStridedSlice S8732x1 ![0, 1] · slices_S8732x4_S8732x1_0_1) main_arg4
  let main_v185 : FVec F S8732 .f32 := shapeCast S8732 main_v184 shapeCasts_S8732x1_S8732
  let main_v186 : FVec F S1x8732 .f32 := broadcastInDim S1x8732 ![1] bcast_S8732_S1x8732_1 main_v185
  let main_v187 : FVec F S32x8732 .f32 := broadcastInDim S32x8732 ![0, 1] bcast_S1x8732_S32x8732_0_1 main_v186
  let main_v188 : FVec F S32x8732 .f32 := subf main_v183 main_v187
  let main_v189 : FVec F S8732x1 .f32 := (extractStridedSlice S8732x1 ![0, 3] · slices_S8732x4_S8732x1_0_3) main_arg4
  let main_v190 : FVec F S8732 .f32 := shapeCast S8732 main_v189 shapeCasts_S8732x1_S8732
  fn_part9 (F := F) main_arg1 main_arg3 main_arg4 main_v131 main_v169 main_v181 main_v188 main_v190

def fn_part7 {F : FTy → Type} [FloatOps F] (main_arg1 : FVec F S32x8732x81 .f32) (main_arg2 : FVec F S32x16x4 .f32) (main_arg3 : IVec S32x16 32) (main_arg4 : FVec F S8732x4 .f32) (main_v131 : IVec S32x8732 32) (main_v143 : IVec S32x8732x1 32) (main_v144 : IVec S32x8732x1 32) : IVec S32x16 1 × IVec S32x8732x81 1 × IVec S32x8732 1 :=
  let main_v145 : IVec S32x8732x2 32 := (fun a b => concatenate S32x8732x2 2 [⟨S32x8732x1, a⟩, ⟨S32x8732x1, b⟩] concatenates_S32x8732x1_S32x8732x1_S32x8732x2_d2) main_v143 main_v144
  let main_v146 : FVec F S32x8732x4 .f32 := (fun x i => Host.gather gather_S32x16x4_S32x8732x2_S32x8732x4_2_01_n_n_01_2_114 x i) main_arg2 main_v145
  let main_v147 : FVec F S32x8732x1 .f32 := (extractStridedSlice S32x8732x1 ![0, 0, 0] · slices_S32x8732x4_S32x8732x1_0_0_0) main_v146
  let main_v148 : FVec F S32x8732 .f32 := shapeCast S32x8732 main_v147 shapeCasts_S32x8732x1_S32x8732
  let main_v149 : FVec F S32x8732x1 .f32 := (extractStridedSlice S32x8732x1 ![0, 0, 2] · slices_S32x8732x4_S32x8732x1_0_0_2) main_v146
  let main_v150 : FVec F S32x8732 .f32 := shapeCast S32x8732 main_v149 shapeCasts_S32x8732x1_S32x8732
  let main_v151 : FVec F S32x8732 .f32 := addf main_v148 main_v150
  let main_cst_21 : FVec F S_ .f32 := constant S_ .f32 0x40000000#32
  let main_v152 : FVec F S32x8732 .f32 := broadcastInDim S32x8732 ![] bcast_S_S32x8732 main_cst_21
  let main_v153 : FVec F S32x8732 .f32 := Host.divf main_v151 main_v152
  let main_v154 : FVec F S32x8732x1 .f32 := (extractStridedSlice S32x8732x1 ![0, 0, 1] · slices_S32x8732x4_S32x8732x1_0_0_1) main_v146
  let main_v155 : FVec F S32x8732 .f32 := shapeCast S32x8732 main_v154 shapeCasts_S32x8732x1_S32x8732
  let main_v156 : FVec F S32x8732x1 .f32 := (extractStridedSlice S32x8732x1 ![0, 0, 3] · slices_S32x8732x4_S32x8732x1_0_0_3) main_v146
  let main_v157 : FVec F S32x8732 .f32 := shapeCast S32x8732 main_v156 shapeCasts_S32x8732x1_S32x8732
  let main_v158 : FVec F S32x8732 .f32 := addf main_v155 main_v157
  let main_cst_22 : FVec F S_ .f32 := constant S_ .f32 0x40000000#32
  let main_v159 : FVec F S32x8732 .f32 := broadcastInDim S32x8732 ![] bcast_S_S32x8732 main_cst_22
  let main_v160 : FVec F S32x8732 .f32 := Host.divf main_v158 main_v159
  let main_v161 : FVec F S32x8732x1 .f32 := (extractStridedSlice S32x8732x1 ![0, 0, 2] · slices_S32x8732x4_S32x8732x1_0_0_2) main_v146
  let main_v162 : FVec F S32x8732 .f32 := shapeCast S32x8732 main_v161 shapeCasts_S32x8732x1_S32x8732
  let main_v163 : FVec F S32x8732x1 .f32 := (extractStridedSlice S32x8732x1 ![0, 0, 3] · slices_S32x8732x4_S32x8732x1_0_0_3) main_v146
  let main_v164 : FVec F S32x8732 .f32 := shapeCast S32x8732 main_v163 shapeCasts_S32x8732x1_S32x8732
  let main_v165 : FVec F S32x8732x1 .f32 := broadcastInDim S32x8732x1 ![0, 1] bcast_S32x8732_S32x8732x1_0_1 main_v153
  let main_v166 : FVec F S32x8732x1 .f32 := broadcastInDim S32x8732x1 ![0, 1] bcast_S32x8732_S32x8732x1_0_1 main_v160
  fn_part8 (F := F) main_arg1 main_arg3 main_arg4 main_v131 main_v162 main_v164 main_v165 main_v166

def fn_part6 {F : FTy → Type} [FloatOps F] (main_arg1 : FVec F S32x8732x81 .f32) (main_arg2 : FVec F S32x16x4 .f32) (main_arg3 : IVec S32x16 32) (main_arg4 : FVec F S8732x4 .f32) (main_v77 : IVec S32x1 32) (main_v97 : IVec S32x8732 32) (main_v113 : FVec F S32x8732 .f32) (main_v125 : IVec S32x8732x1 32) (main_v126 : IVec S32x8732x1 32) : IVec S32x16 1 × IVec S32x8732x81 1 × IVec S32x8732 1 :=
  let main_v127 : IVec S32x8732x2 32 := (fun a b => concatenate S32x8732x2 2 [⟨S32x8732x1, a⟩, ⟨S32x8732x1, b⟩] concatenates_S32x8732x1_S32x8732x1_S32x8732x2_d2) main_v125 main_v126
  let main_v128 : IVec S32x8732 32 := (fun x i => Host.gather gather_S32x16_S32x8732x2_S32x8732_n_01_n_n_01_2_11 x i) main_arg3 main_v127
  let main_cst_15 : FVec F S_ .f32 := constant S_ .f32 0x3F000000#32
  let main_v129 : FVec F S32x8732 .f32 := broadcastInDim S32x8732 ![] bcast_S_S32x8732 main_cst_15
  let main_v130 : IVec S32x8732 1 := cmpf .olt main_v113 main_v129
  let main_c_16 : IVec S_ 32 := constantI S_ 32 0#32
  let main_v131 : IVec S32x8732 32 := fn_where (F := F) main_v130 main_c_16 main_v128
  let main_c_17 : IVec S_ 32 := constantI S_ 32 0#32
  let main_v132 : IVec S32x1 32 := broadcastInDim S32x1 ![] bcast_S_S32x1 main_c_17
  let main_v133 : IVec S32x1 1 := cmpi .slt main_v77 main_v132
  let main_c_18 : IVec S_ 32 := constantI S_ 32 32#32
  let main_v134 : IVec S32x1 32 := broadcastInDim S32x1 ![] bcast_S_S32x1 main_c_18
  let main_v135 : IVec S32x1 32 := addi main_v77 main_v134
  let main_v136 : IVec S32x1 32 := select main_v133 main_v135 main_v77
  let main_c_19 : IVec S_ 32 := constantI S_ 32 0#32
  let main_v137 : IVec S32x8732 32 := broadcastInDim S32x8732 ![] bcast_S_S32x8732 main_c_19
  let main_v138 : IVec S32x8732 1 := cmpi .slt main_v97 main_v137
  let main_c_20 : IVec S_ 32 := constantI S_ 32 16#32
  let main_v139 : IVec S32x8732 32 := broadcastInDim S32x8732 ![] bcast_S_S32x8732 main_c_20
  let main_v140 : IVec S32x8732 32 := addi main_v97 main_v139
  let main_v141 : IVec S32x8732 32 := select main_v138 main_v140 main_v97
  let main_v142 : IVec S32x8732 32 := broadcastInDim S32x8732 ![0, 1] bcast_S32x1_S32x8732_0_1 main_v136
  let main_v143 : IVec S32x8732x1 32 := broadcastInDim S32x8732x1 ![0, 1] bcast_S32x8732_S32x8732x1_0_1 main_v142
  let main_v144 : IVec S32x8732x1 32 := broadcastInDim S32x8732x1 ![0, 1] bcast_S32x8732_S32x8732x1_0_1 main_v141
  fn_part7 (F := F) main_arg1 main_arg2 main_arg3 main_arg4 main_v131 main_v143 main_v144

def fn_part5 {F : FTy → Type} [FloatOps F] (main_arg1 : FVec F S32x8732x81 .f32) (main_arg2 : FVec F S32x16x4 .f32) (main_arg3 : IVec S32x16 32) (main_arg4 : FVec F S8732x4 .f32) (main_v77 : IVec S32x1 32) (main_v78 : FVec F S32x8732 .f32) (main_v97 : IVec S32x8732 32) (main_v102 : IVec S32x1 32) (main_v107 : IVec S32x16 32) : IVec S32x16 1 × IVec S32x8732x81 1 × IVec S32x8732 1 :=
  let main_v108 : IVec S32x16 32 := broadcastInDim S32x16 ![0, 1] bcast_S32x1_S32x16_0_1 main_v102
  let main_v109 : IVec S32x16x1 32 := broadcastInDim S32x16x1 ![0, 1] bcast_S32x16_S32x16x1_0_1 main_v108
  let main_v110 : IVec S32x16x1 32 := broadcastInDim S32x16x1 ![0, 1] bcast_S32x16_S32x16x1_0_1 main_v107
  let main_v111 : IVec S32x16x2 32 := (fun a b => concatenate S32x16x2 2 [⟨S32x16x1, a⟩, ⟨S32x16x1, b⟩] concatenates_S32x16x1_S32x16x1_S32x16x2_d2) main_v109 main_v110
  let main_cst_10 : FVec F S_ .f32 := constant S_ .f32 0x3F000000#32
  let main_v112 : FVec F S32x16 .f32 := broadcastInDim S32x16 ![] bcast_S_S32x16 main_cst_10
  let main_v113 : FVec F S32x8732 .f32 := (fun x i u => Host.scatter scatter_S32x8732_S32x16x2_S32x16_n_01_01_2 (fun _ b => b) x i u) main_v78 main_v111 main_v112
  let main_c_11 : IVec S_ 32 := constantI S_ 32 0#32
  let main_v114 : IVec S32x1 32 := broadcastInDim S32x1 ![] bcast_S_S32x1 main_c_11
  let main_v115 : IVec S32x1 1 := cmpi .slt main_v77 main_v114
  let main_c_12 : IVec S_ 32 := constantI S_ 32 32#32
  let main_v116 : IVec S32x1 32 := broadcastInDim S32x1 ![] bcast_S_S32x1 main_c_12
  let main_v117 : IVec S32x1 32 := addi main_v77 main_v116
  let main_v118 : IVec S32x1 32 := select main_v115 main_v117 main_v77
  let main_c_13 : IVec S_ 32 := constantI S_ 32 0#32
  let main_v119 : IVec S32x8732 32 := broadcastInDim S32x8732 ![] bcast_S_S32x8732 main_c_13
  let main_v120 : IVec S32x8732 1 := cmpi .slt main_v97 main_v119
  let main_c_14 : IVec S_ 32 := constantI S_ 32 16#32
  let main_v121 : IVec S32x8732 32 := broadcastInDim S32x8732 ![] bcast_S_S32x8732 main_c_14
  let main_v122 : IVec S32x8732 32 := addi main_v97 main_v121
  let main_v123 : IVec S32x8732 32 := select main_v120 main_v122 main_v97
  let main_v124 : IVec S32x8732 32 := broadcastInDim S32x8732 ![0, 1] bcast_S32x1_S32x8732_0_1 main_v118
  let main_v125 : IVec S32x8732x1 32 := broadcastInDim S32x8732x1 ![0, 1] bcast_S32x8732_S32x8732x1_0_1 main_v124
  let main_v126 : IVec S32x8732x1 32 := broadcastInDim S32x8732x1 ![0, 1] bcast_S32x8732_S32x8732x1_0_1 main_v123
  fn_part6 (F := F) main_arg1 main_arg2 main_arg3 main_arg4 main_v77 main_v97 main_v113 main_v125 main_v126

def fn_part4 {F : FTy → Type} [FloatOps F] (main_arg1 : FVec F S32x8732x81 .f32) (main_arg2 : FVec F S32x16x4 .f32) (main_arg3 : IVec S32x16 32) (main_arg4 : FVec F S8732x4 .f32) (main_v77 : IVec S32x1 32) (main_v78 : FVec F S32x8732 .f32) (main_v79 : IVec S32x8732 32) (main_v80 : IVec S32x16 32) (main_v82 : IVec S32x16 32) (main_v87 : IVec S32x1 32) (main_v88 : IVec S32x16 32) : IVec S32x16 1 × IVec S32x8732x81 1 × IVec S32x8732 1 :=
  let main_v89 : IVec S32x16 1 := cmpi .slt main_v80 main_v88
  let main_c_5 : IVec S_ 32 := constantI S_ 32 8732#32
  let main_v90 : IVec S32x16 32 := broadcastInDim S32x16 ![] bcast_S_S32x16 main_c_5
  let main_v91 : IVec S32x16 32 := addi main_v80 main_v90
  let main_v92 : IVec S32x16 32 := select main_v89 main_v91 main_v80
  let main_v93 : IVec S32x16 32 := broadcastInDim S32x16 ![0, 1] bcast_S32x1_S32x16_0_1 main_v87
  let main_v94 : IVec S32x16x1 32 := broadcastInDim S32x16x1 ![0, 1] bcast_S32x16_S32x16x1_0_1 main_v93
  let main_v95 : IVec S32x16x1 32 := broadcastInDim S32x16x1 ![0, 1] bcast_S32x16_S32x16x1_0_1 main_v92
  let main_v96 : IVec S32x16x2 32 := (fun a b => concatenate S32x16x2 2 [⟨S32x16x1, a⟩, ⟨S32x16x1, b⟩] concatenates_S32x16x1_S32x16x1_S32x16x2_d2) main_v94 main_v95
  let main_v97 : IVec S32x8732 32 := (fun x i u => Host.scatter scatter_S32x8732_S32x16x2_S32x16_n_01_01_2 (fun _ b => b) x i u) main_v79 main_v96 main_v82
  let main_c_6 : IVec S_ 32 := constantI S_ 32 0#32
  let main_v98 : IVec S32x1 32 := broadcastInDim S32x1 ![] bcast_S_S32x1 main_c_6
  let main_v99 : IVec S32x1 1 := cmpi .slt main_v77 main_v98
  let main_c_7 : IVec S_ 32 := constantI S_ 32 32#32
  let main_v100 : IVec S32x1 32 := broadcastInDim S32x1 ![] bcast_S_S32x1 main_c_7
  let main_v101 : IVec S32x1 32 := addi main_v77 main_v100
  let main_v102 : IVec S32x1 32 := select main_v99 main_v101 main_v77
  let main_c_8 : IVec S_ 32 := constantI S_ 32 0#32
  let main_v103 : IVec S32x16 32 := broadcastInDim S32x16 ![] bcast_S_S32x16 main_c_8
  let main_v104 : IVec S32x16 1 := cmpi .slt main_v80 main_v103
  let main_c_9 : IVec S_ 32 := constantI S_ 32 8732#32
  let main_v105 : IVec S32x16 32 := broadcastInDim S32x16 ![] bcast_S_S32x16 main_c_9
  let main_v106 : IVec S32x16 32 := addi main_v80 main_v105
  let main_v107 : IVec S32x16 32 := select main_v104 main_v106 main_v80
  fn_part5 (F := F) main_arg1 main_arg2 main_arg3 main_arg4 main_v77 main_v78 main_v97 main_v102 main_v107

def fn_part3 {F : FTy → Type} [FloatOps F] (main_arg1 : FVec F S32x8732x81 .f32) (main_arg2 : FVec F S32x16x4 .f32) (main_arg3 : IVec S32x16 32) (main_arg4 : FVec F S8732x4 .f32) (main_v45 : FVec F S32x16x8732 .f32) (main_v67 : FVec F S8732 .f32) (main_v68 : FVec F S32x16x1 .f32) : IVec S32x16 1 × IVec S32x8732x81 1 × IVec S32x8732 1 :=
  let main_v69 : FVec F S1x8732 .f32 := broadcastInDim S1x8732 ![1] bcast_S8732_S1x8732_1 main_v67
  let main_v70 : FVec F S1x1x8732 .f32 := broadcastInDim S1x1x8732 ![1, 2] bcast_S1x8732_S1x1x8732_1_2 main_v69
  let main_v71 : FVec F S32x16x8732 .f32 := broadcastInDim S32x16x8732 ![0, 1, 2] bcast_S32x16x1_S32x16x8732_0_1_2 main_v68
  let main_v72 : FVec F S32x16x8732 .f32 := broadcastInDim S32x16x8732 ![0, 1, 2] bcast_S1x1x8732_S32x16x8732_0_1_2 main_v70
  let main_v73 : FVec F S32x16x8732 .f32 := addf main_v71 main_v72
  let main_v74 : FVec F S32x16x8732 .f32 := subf main_v73 main_v45
  let main_v75 : FVec F S32x16x8732 .f32 := Host.divf main_v45 main_v74
  let main_v76 : IVec S32 32 := iotaInDim S32 32 0
  let main_v77 : IVec S32x1 32 := broadcastInDim S32x1 ![0] bcast_S32_S32x1_0 main_v76
  let main_cst_2 : FVec F S_ .f32 := constant S_ .f32 0xFF800000#32
  let main_v78 : FVec F S32x8732 .f32 := (fun x v => Host.reduce FloatOps.maximumf x v reducesTo_S32x16x8732_S32x8732_d1 h_S_) main_v75 main_cst_2
  let main_v79 : IVec S32x8732 32 := fn_argmax (F := F) main_v75
  let main_v80 : IVec S32x16 32 := fn_argmax_0 (F := F) main_v75
  let main_v81 : IVec S16 32 := iotaInDim S16 32 0
  let main_v82 : IVec S32x16 32 := broadcastInDim S32x16 ![1] bcast_S16_S32x16_1 main_v81
  let main_c : IVec S_ 32 := constantI S_ 32 0#32
  let main_v83 : IVec S32x1 32 := broadcastInDim S32x1 ![] bcast_S_S32x1 main_c
  let main_v84 : IVec S32x1 1 := cmpi .slt main_v77 main_v83
  let main_c_3 : IVec S_ 32 := constantI S_ 32 32#32
  let main_v85 : IVec S32x1 32 := broadcastInDim S32x1 ![] bcast_S_S32x1 main_c_3
  let main_v86 : IVec S32x1 32 := addi main_v77 main_v85
  let main_v87 : IVec S32x1 32 := select main_v84 main_v86 main_v77
  let main_c_4 : IVec S_ 32 := constantI S_ 32 0#32
  let main_v88 : IVec S32x16 32 := broadcastInDim S32x16 ![] bcast_S_S32x16 main_c_4
  fn_part4 (F := F) main_arg1 main_arg2 main_arg3 main_arg4 main_v77 main_v78 main_v79 main_v80 main_v82 main_v87 main_v88

def fn_part2 {F : FTy → Type} [FloatOps F] (main_arg1 : FVec F S32x8732x81 .f32) (main_arg2 : FVec F S32x16x4 .f32) (main_arg3 : IVec S32x16 32) (main_arg4 : FVec F S8732x4 .f32) (main_v22 : FVec F S8732x4 .f32) (main_v42 : FVec F S32x16x8732 .f32) (main_v44 : FVec F S32x16x8732 .f32) : IVec S32x16 1 × IVec S32x8732x81 1 × IVec S32x8732 1 :=
  let main_v45 : FVec F S32x16x8732 .f32 := mulf main_v42 main_v44
  let main_v46 : FVec F S32x16x1 .f32 := (extractStridedSlice S32x16x1 ![0, 0, 2] · slices_S32x16x4_S32x16x1_0_0_2) main_arg2
  let main_v47 : FVec F S32x16 .f32 := shapeCast S32x16 main_v46 shapeCasts_S32x16x1_S32x16
  let main_v48 : FVec F S32x16x1 .f32 := (extractStridedSlice S32x16x1 ![0, 0, 0] · slices_S32x16x4_S32x16x1_0_0_0) main_arg2
  let main_v49 : FVec F S32x16 .f32 := shapeCast S32x16 main_v48 shapeCasts_S32x16x1_S32x16
  let main_v50 : FVec F S32x16 .f32 := subf main_v47 main_v49
  let main_v51 : FVec F S32x16x1 .f32 := (extractStridedSlice S32x16x1 ![0, 0, 3] · slices_S32x16x4_S32x16x1_0_0_3) main_arg2
  let main_v52 : FVec F S32x16 .f32 := shapeCast S32x16 main_v51 shapeCasts_S32x16x1_S32x16
  let main_v53 : FVec F S32x16x1 .f32 := (extractStridedSlice S32x16x1 ![0, 0, 1] · slices_S32x16x4_S32x16x1_0_0_1) main_arg2
  let main_v54 : FVec F S32x16 .f32 := shapeCast S32x16 main_v53 shapeCasts_S32x16x1_S32x16
  let main_v55 : FVec F S32x16 .f32 := subf main_v52 main_v54
  let main_v56 : FVec F S32x16 .f32 := mulf main_v50 main_v55
  let main_v57 : FVec F S8732x1 .f32 := (extractStridedSlice S8732x1 ![0, 2] · slices_S8732x4_S8732x1_0_2) main_v22
  let main_v58 : FVec F S8732 .f32 := shapeCast S8732 main_v57 shapeCasts_S8732x1_S8732
  let main_v59 : FVec F S8732x1 .f32 := (extractStridedSlice S8732x1 ![0, 0] · slices_S8732x4_S8732x1_0_0) main_v22
  let main_v60 : FVec F S8732 .f32 := shapeCast S8732 main_v59 shapeCasts_S8732x1_S8732
  let main_v61 : FVec F S8732 .f32 := subf main_v58 main_v60
  let main_v62 : FVec F S8732x1 .f32 := (extractStridedSlice S8732x1 ![0, 3] · slices_S8732x4_S8732x1_0_3) main_v22
  let main_v63 : FVec F S8732 .f32 := shapeCast S8732 main_v62 shapeCasts_S8732x1_S8732
  let main_v64 : FVec F S8732x1 .f32 := (extractStridedSlice S8732x1 ![0, 1] · slices_S8732x4_S8732x1_0_1) main_v22
  let main_v65 : FVec F S8732 .f32 := shapeCast S8732 main_v64 shapeCasts_S8732x1_S8732
  let main_v66 : FVec F S8732 .f32 := subf main_v63 main_v65
  let main_v67 : FVec F S8732 .f32 := mulf main_v61 main_v66
  let main_v68 : FVec F S32x16x1 .f32 := broadcastInDim S32x16x1 ![0, 1] bcast_S32x16_S32x16x1_0_1 main_v56
  fn_part3 (F := F) main_arg1 main_arg2 main_arg3 main_arg4 main_v45 main_v67 main_v68

def fn_part1 {F : FTy → Type} [FloatOps F] (main_arg1 : FVec F S32x8732x81 .f32) (main_arg2 : FVec F S32x16x4 .f32) (main_arg3 : IVec S32x16 32) (main_arg4 : FVec F S8732x4 .f32) (main_v18 : FVec F S8732x1 .f32) (main_v19 : FVec F S8732x1 .f32) (main_v20 : FVec F S8732x1 .f32) (main_v21 : FVec F S8732x1 .f32) : IVec S32x16 1 × IVec S32x8732x81 1 × IVec S32x8732 1 :=
  let main_v22 : FVec F S8732x4 .f32 := concatenate S8732x4 1 [⟨S8732x1, main_v18⟩, ⟨S8732x1, main_v19⟩, ⟨S8732x1, main_v20⟩, ⟨S8732x1, main_v21⟩] concatenates_S8732x1_S8732x1_S8732x1_S8732x1_S8732x4_d1
  let main_v23 : FVec F S32x16x2 .f32 := (extractStridedSlice S32x16x2 ![0, 0, 0] · slices_S32x16x4_S32x16x2_0_0_0) main_arg2
  let main_v24 : FVec F S32x16x1x2 .f32 := broadcastInDim S32x16x1x2 ![0, 1, 3] bcast_S32x16x2_S32x16x1x2_0_1_3 main_v23
  let main_v25 : FVec F S8732x2 .f32 := (extractStridedSlice S8732x2 ![0, 0] · slices_S8732x4_S8732x2_0_0) main_v22
  let main_v26 : FVec F S1x8732x2 .f32 := broadcastInDim S1x8732x2 ![1, 2] bcast_S8732x2_S1x8732x2_1_2 main_v25
  let main_v27 : FVec F S1x1x8732x2 .f32 := broadcastInDim S1x1x8732x2 ![1, 2, 3] bcast_S1x8732x2_S1x1x8732x2_1_2_3 main_v26
  let main_v28 : FVec F S32x16x8732x2 .f32 := broadcastInDim S32x16x8732x2 ![0, 1, 2, 3] bcast_S32x16x1x2_S32x16x8732x2_0_1_2_3 main_v24
  let main_v29 : FVec F S32x16x8732x2 .f32 := broadcastInDim S32x16x8732x2 ![0, 1, 2, 3] bcast_S1x1x8732x2_S32x16x8732x2_0_1_2_3 main_v27
  let main_v30 : FVec F S32x16x8732x2 .f32 := maximumf main_v28 main_v29
  let main_v31 : FVec F S32x16x2 .f32 := (extractStridedSlice S32x16x2 ![0, 0, 2] · slices_S32x16x4_S32x16x2_0_0_2) main_arg2
  let main_v32 : FVec F S32x16x1x2 .f32 := broadcastInDim S32x16x1x2 ![0, 1, 3] bcast_S32x16x2_S32x16x1x2_0_1_3 main_v31
  let main_v33 : FVec F S8732x2 .f32 := (extractStridedSlice S8732x2 ![0, 2] · slices_S8732x4_S8732x2_0_2) main_v22
  let main_v34 : FVec F S1x8732x2 .f32 := broadcastInDim S1x8732x2 ![1, 2] bcast_S8732x2_S1x8732x2_1_2 main_v33
  let main_v35 : FVec F S1x1x8732x2 .f32 := broadcastInDim S1x1x8732x2 ![1, 2, 3] bcast_S1x8732x2_S1x1x8732x2_1_2_3 main_v34
  let main_v36 : FVec F S32x16x8732x2 .f32 := broadcastInDim S32x16x8732x2 ![0, 1, 2, 3] bcast_S32x16x1x2_S32x16x8732x2_0_1_2_3 main_v32
  let main_v37 : FVec F S32x16x8732x2 .f32 := broadcastInDim S32x16x8732x2 ![0, 1, 2, 3] bcast_S1x1x8732x2_S32x16x8732x2_0_1_2_3 main_v35
  let main_v38 : FVec F S32x16x8732x2 .f32 := minimumf main_v36 main_v37
  let main_v39 : FVec F S32x16x8732x2 .f32 := subf main_v38 main_v30
  let main_cst_1 : FVec F S_ .f32 := constant S_ .f32 0x00000000#32
  let main_v40 : FVec F S32x16x8732x2 .f32 := fn_clip (F := F) main_v39 main_cst_1
  let main_v41 : FVec F S32x16x8732x1 .f32 := (extractStridedSlice S32x16x8732x1 ![0, 0, 0, 0] · slices_S32x16x8732x2_S32x16x8732x1_0_0_0_0) main_v40
  let main_v42 : FVec F S32x16x8732 .f32 := shapeCast S32x16x8732 main_v41 shapeCasts_S32x16x8732x1_S32x16x8732
  let main_v43 : FVec F S32x16x8732x1 .f32 := (extractStridedSlice S32x16x8732x1 ![0, 0, 0, 1] · slices_S32x16x8732x2_S32x16x8732x1_0_0_0_1) main_v40
  let main_v44 : FVec F S32x16x8732 .f32 := shapeCast S32x16x8732 main_v43 shapeCasts_S32x16x8732x1_S32x16x8732
  fn_part2 (F := F) main_arg1 main_arg2 main_arg3 main_arg4 main_v22 main_v42 main_v44

def fn {F : FTy → Type} [FloatOps F] (main_arg0 : FVec F S32x8732x4 .f32) (main_arg1 : FVec F S32x8732x81 .f32) (main_arg2 : FVec F S32x16x4 .f32) (main_arg3 : IVec S32x16 32) (main_arg4 : FVec F S8732x4 .f32) : IVec S32x16 1 × IVec S32x8732x81 1 × IVec S32x8732 1 :=
  let main_v0 : FVec F S8732x1 .f32 := (extractStridedSlice S8732x1 ![0, 0] · slices_S8732x4_S8732x1_0_0) main_arg4
  let main_v1 : FVec F S8732 .f32 := shapeCast S8732 main_v0 shapeCasts_S8732x1_S8732
  let main_v2 : FVec F S8732x1 .f32 := (extractStridedSlice S8732x1 ![0, 2] · slices_S8732x4_S8732x1_0_2) main_arg4
  let main_v3 : FVec F S8732 .f32 := shapeCast S8732 main_v2 shapeCasts_S8732x1_S8732
  let main_cst : FVec F S_ .f32 := constant S_ .f32 0x40000000#32
  let main_v4 : FVec F S8732 .f32 := broadcastInDim S8732 ![] bcast_S_S8732 main_cst
  let main_v5 : FVec F S8732 .f32 := Host.divf main_v3 main_v4
  let main_v6 : FVec F S8732 .f32 := subf main_v1 main_v5
  let main_v7 : FVec F S8732x1 .f32 := (extractStridedSlice S8732x1 ![0, 1] · slices_S8732x4_S8732x1_0_1) main_arg4
  let main_v8 : FVec F S8732 .f32 := shapeCast S8732 main_v7 shapeCasts_S8732x1_S8732
  let main_v9 : FVec F S8732x1 .f32 := (extractStridedSlice S8732x1 ![0, 3] · slices_S8732x4_S8732x1_0_3) main_arg4
  let main_v10 : FVec F S8732 .f32 := shapeCast S8732 main_v9 shapeCasts_S8732x1_S8732
  let main_cst_0 : FVec F S_ .f32 := constant S_ .f32 0x40000000#32
  let main_v11 : FVec F S8732 .f32 := broadcastInDim S8732 ![] bcast_S_S8732 main_cst_0
  let main_v12 : FVec F S8732 .f32 := Host.divf main_v10 main_v11
  let main_v13 : FVec F S8732 .f32 := subf main_v8 main_v12
  let main_v14 : FVec F S8732x1 .f32 := (extractStridedSlice S8732x1 ![0, 2] · slices_S8732x4_S8732x1_0_2) main_arg4
  let main_v15 : FVec F S8732 .f32 := shapeCast S8732 main_v14 shapeCasts_S8732x1_S8732
  let main_v16 : FVec F S8732x1 .f32 := (extractStridedSlice S8732x1 ![0, 3] · slices_S8732x4_S8732x1_0_3) main_arg4
  let main_v17 : FVec F S8732 .f32 := shapeCast S8732 main_v16 shapeCasts_S8732x1_S8732
  let main_v18 : FVec F S8732x1 .f32 := broadcastInDim S8732x1 ![0] bcast_S8732_S8732x1_0 main_v6
  let main_v19 : FVec F S8732x1 .f32 := broadcastInDim S8732x1 ![0] bcast_S8732_S8732x1_0 main_v13
  let main_v20 : FVec F S8732x1 .f32 := broadcastInDim S8732x1 ![0] bcast_S8732_S8732x1_0 main_v15
  let main_v21 : FVec F S8732x1 .f32 := broadcastInDim S8732x1 ![0] bcast_S8732_S8732x1_0 main_v17
  fn_part1 (F := F) main_arg1 main_arg2 main_arg3 main_arg4 main_v18 main_v19 main_v20 main_v21
-- ==== Kernel.lean ====
abbrev S32x8732x4 : Shape := ⟨3, ![32, 8732, 4]⟩
abbrev S32x8732x81 : Shape := ⟨3, ![32, 8732, 81]⟩
abbrev S32x16x4 : Shape := ⟨3, ![32, 16, 4]⟩
abbrev S32x16 : Shape := ⟨2, ![32, 16]⟩
abbrev S8732x4 : Shape := ⟨2, ![8732, 4]⟩
abbrev S32x4x8732 : Shape := ⟨3, ![32, 4, 8732]⟩
abbrev S32x81x8732 : Shape := ⟨3, ![32, 81, 8732]⟩
abbrev S32x16x1 : Shape := ⟨3, ![32, 16, 1]⟩
abbrev S4x8732 : Shape := ⟨2, ![4, 8732]⟩
abbrev S1x128 : Shape := ⟨2, ![1, 128]⟩
abbrev S2x4x8732 : Shape := ⟨3, ![2, 4, 8732]⟩
abbrev S2x81x8732 : Shape := ⟨3, ![2, 81, 8732]⟩
abbrev S2x16x4 : Shape := ⟨3, ![2, 16, 4]⟩
abbrev S2x16x1 : Shape := ⟨3, ![2, 16, 1]⟩
abbrev S1x4x8732 : Shape := ⟨3, ![1, 4, 8732]⟩
abbrev S1x81x8732 : Shape := ⟨3, ![1, 81, 8732]⟩
abbrev S81x8732 : Shape := ⟨2, ![81, 8732]⟩
abbrev S1x16x4 : Shape := ⟨3, ![1, 16, 4]⟩
abbrev S16x4 : Shape := ⟨2, ![16, 4]⟩
abbrev S1x16x1 : Shape := ⟨3, ![1, 16, 1]⟩
abbrev S16x1 : Shape := ⟨2, ![16, 1]⟩
abbrev S1x8732 : Shape := ⟨2, ![1, 8732]⟩
abbrev S16x8732 : Shape := ⟨2, ![16, 8732]⟩
abbrev S8732 : Shape := ⟨1, ![8732]⟩
abbrev S16 : Shape := ⟨1, ![16]⟩
abbrev S1x1x8732 : Shape := ⟨3, ![1, 1, 8732]⟩
abbrev S1 : Shape := ⟨1, ![1]⟩
abbrev S1x1x1 : Shape := ⟨3, ![1, 1, 1]⟩
abbrev S32x1 : Shape := ⟨2, ![32, 1]⟩
abbrev S32x8732 : Shape := ⟨2, ![32, 8732]⟩
abbrev S32 : Shape := ⟨1, ![32]⟩
abbrev S1x32x1 : Shape := ⟨3, ![1, 32, 1]⟩
abbrev S128 : Shape := ⟨1, ![128]⟩
abbrev S_ : Shape := ⟨0, ![]⟩

abbrev nBuf : Space → Nat
  | .hbm => 27
  | .vmem => 10
  | .smem => 0
  | _ => 0

abbrev bufTy : (tb : Table) → Fin (tcTables nBuf tb) → BufTy
  | .hbm, ⟨0, _⟩ => ⟨S32x8732x4, .f32⟩
  | .hbm, ⟨1, _⟩ => ⟨S32x8732x81, .f32⟩
  | .hbm, ⟨2, _⟩ => ⟨S32x16x4, .f32⟩
  | .hbm, ⟨3, _⟩ => ⟨S32x16, .i32⟩
  | .hbm, ⟨4, _⟩ => ⟨S8732x4, .f32⟩
  | .hbm, ⟨5, _⟩ => ⟨S32x4x8732, .f32⟩
  | .hbm, ⟨6, _⟩ => ⟨S32x81x8732, .f32⟩
  | .hbm, ⟨7, _⟩ => ⟨S32x16x1, .i32⟩
  | .hbm, ⟨8, _⟩ => ⟨S4x8732, .f32⟩
  | .hbm, ⟨9, _⟩ => ⟨S1x128, .f32⟩
  | .hbm, ⟨10, _⟩ => ⟨S128, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S2x4x8732, .f32⟩
  | .local _ .vmem, ⟨1, _⟩ => ⟨S2x4x8732, .f32⟩
  | .local _ .vmem, ⟨2, _⟩ => ⟨S2x81x8732, .f32⟩
  | .local _ .vmem, ⟨3, _⟩ => ⟨S2x81x8732, .f32⟩
  | .local _ .vmem, ⟨4, _⟩ => ⟨S2x16x4, .f32⟩
  | .local _ .vmem, ⟨5, _⟩ => ⟨S2x16x4, .f32⟩
  | .local _ .vmem, ⟨6, _⟩ => ⟨S2x16x1, .i32⟩
  | .local _ .vmem, ⟨7, _⟩ => ⟨S2x16x1, .i32⟩
  | .local _ .vmem, ⟨8, _⟩ => ⟨S4x8732, .f32⟩
  | .local _ .vmem, ⟨9, _⟩ => ⟨S1x128, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_50 : BitVec 32 := 0#32
  let c7_i32 : BitVec 32 := 7#32
  let v211 : BitVec 32 := Scalar.addi c0_i32_50 c7_i32
  let c1_i32 : BitVec 32 := 1#32
  ⟨c0_i32_50, v211, c1_i32⟩
@[reducible] def k0_t2_loop : Scf.Loop 32 :=
  let c0_i32_108 : BitVec 32 := 0#32
  let c7_i32_109 : BitVec 32 := 7#32
  let v440 : BitVec 32 := Scalar.addi c0_i32_108 c7_i32_109
  let c1_i32_110 : BitVec 32 := 1#32
  ⟨c0_i32_108, v440, c1_i32_110⟩
def k0_cond1 (i : grid0.Coords) : BitVec 1 :=
  let arg0 : BitVec 32 := BitVec.ofNat 32 (i 0).val
  let c0_i32_125 : BitVec 32 := 0#32
  let v492 : BitVec 1 := Scalar.cmpi .eq arg0 c0_i32_125
  let v493 : BitVec 32 := Scalar.extui v492
  let c0_i32_126 : BitVec 32 := 0#32
  let v494 : BitVec 1 := Scalar.cmpi .ne v493 c0_i32_126
  v494

def k0_cond2 (i : grid0.Coords) : BitVec 1 :=
  let arg0 : BitVec 32 := BitVec.ofNat 32 (i 0).val
  let c0_i32_127 : BitVec 32 := 0#32
  let v495 : BitVec 1 := Scalar.cmpi .sgt arg0 c0_i32_127
  let v496 : BitVec 32 := Scalar.extui v495
  let c0_i32_128 : BitVec 32 := 0#32
  let v497 : BitVec 1 := Scalar.cmpi .ne v496 c0_i32_128
  v497

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x8732 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x81x8732 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x8732 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32x8732x4 : Shape := ⟨3, ![32, 8732, 4]⟩
abbrev S32x8732x81 : Shape := ⟨3, ![32, 8732, 81]⟩
abbrev S32x16x4 : Shape := ⟨3, ![32, 16, 4]⟩
abbrev S32x16 : Shape := ⟨2, ![32, 16]⟩
abbrev S8732x4 : Shape := ⟨2, ![8732, 4]⟩
abbrev S8732x1 : Shape := ⟨2, ![8732, 1]⟩
abbrev S8732 : Shape := ⟨1, ![8732]⟩
abbrev S_ : Shape := ⟨0, ![]⟩
abbrev S32x16x2 : Shape := ⟨3, ![32, 16, 2]⟩
abbrev S32x16x1x2 : Shape := ⟨4, ![32, 16, 1, 2]⟩
abbrev S8732x2 : Shape := ⟨2, ![8732, 2]⟩
abbrev S1x8732x2 : Shape := ⟨3, ![1, 8732, 2]⟩
abbrev S1x1x8732x2 : Shape := ⟨4, ![1, 1, 8732, 2]⟩
abbrev S32x16x8732x2 : Shape := ⟨4, ![32, 16, 8732, 2]⟩
abbrev S32x16x8732x1 : Shape := ⟨4, ![32, 16, 8732, 1]⟩
abbrev S32x16x8732 : Shape := ⟨3, ![32, 16, 8732]⟩
abbrev S32x16x1 : Shape := ⟨3, ![32, 16, 1]⟩
abbrev S1x8732 : Shape := ⟨2, ![1, 8732]⟩
abbrev S1x1x8732 : Shape := ⟨3, ![1, 1, 8732]⟩
abbrev S32 : Shape := ⟨1, ![32]⟩
abbrev S32x1 : Shape := ⟨2, ![32, 1]⟩
abbrev S32x8732 : Shape := ⟨2, ![32, 8732]⟩
abbrev S16 : Shape := ⟨1, ![16]⟩
abbrev S32x8732x1 : Shape := ⟨3, ![32, 8732, 1]⟩
abbrev S32x8732x2 : Shape := ⟨3, ![32, 8732, 2]⟩
abbrev S279424x81 : Shape := ⟨2, ![279424, 81]⟩
abbrev S279424 : Shape := ⟨1, ![279424]⟩
abbrev S279424x1 : Shape := ⟨2, ![279424, 1]⟩
abbrev S279424x1x1 : Shape := ⟨3, ![279424, 1, 1]⟩
abbrev S1 : Shape := ⟨1, ![1]⟩
abbrev S1x1x1 : Shape := ⟨3, ![1, 1, 1]⟩

abbrev nBuf : Space → Nat
  | .hbm => 342
  | .vmem => 0
  | .smem => 0
  | _ => 0

abbrev hbmTy0_0 (i : Nat) : BufTy := match i % 128 with
  | 0 => ⟨S32x8732x4, .f32⟩
  | 1 => ⟨S32x8732x81, .f32⟩
  | 2 => ⟨S32x16x4, .f32⟩
  | 3 => ⟨S32x16, .i32⟩
  | 4 => ⟨S8732x4, .f32⟩
  | 5 => ⟨S8732x1, .f32⟩
  | 6 => ⟨S8732, .f32⟩
  | 7 => ⟨S8732x1, .f32⟩
  | 8 => ⟨S8732, .f32⟩
  | 9 => ⟨S_, .f32⟩
  | 10 => ⟨S8732, .f32⟩
  | 11 => ⟨S8732, .f32⟩
  | 12 => ⟨S8732, .f32⟩
  | 13 => ⟨S8732x1, .f32⟩
  | 14 => ⟨S8732, .f32⟩
  | 15 => ⟨S8732x1, .f32⟩
  | 16 => ⟨S8732, .f32⟩
  | 17 => ⟨S_, .f32⟩
  | 18 => ⟨S8732, .f32⟩
  | 19 => ⟨S8732, .f32⟩
  | 20 => ⟨S8732, .f32⟩
  | 21 => ⟨S8732x1, .f32⟩
  | 22 => ⟨S8732, .f32⟩
  | 23 => ⟨S8732x1, .f32⟩
  | 24 => ⟨S8732, .f32⟩
  | 25 => ⟨S8732x1, .f32⟩
  | 26 => ⟨S8732x1, .f32⟩
  | 27 => ⟨S8732x1, .f32⟩
  | 28 => ⟨S8732x1, .f32⟩
  | 29 => ⟨S8732x4, .f32⟩
  | 30 => ⟨S32x16x2, .f32⟩
  | 31 => ⟨S32x16x1x2, .f32⟩
  | 32 => ⟨S8732x2, .f32⟩
  | 33 => ⟨S1x8732x2, .f32⟩
  | 34 => ⟨S1x1x8732x2, .f32⟩
  | 35 => ⟨S32x16x8732x2, .f32⟩
  | 36 => ⟨S32x16x8732x2, .f32⟩
  | 37 => ⟨S32x16x8732x2, .f32⟩
  | 38 => ⟨S32x16x2, .f32⟩
  | 39 => ⟨S32x16x1x2, .f32⟩
  | 40 => ⟨S8732x2, .f32⟩
  | 41 => ⟨S1x8732x2, .f32⟩
  | 42 => ⟨S1x1x8732x2, .f32⟩
  | 43 => ⟨S32x16x8732x2, .f32⟩
  | 44 => ⟨S32x16x8732x2, .f32⟩
  | 45 => ⟨S32x16x8732x2, .f32⟩
  | 46 => ⟨S32x16x8732x2, .f32⟩
  | 47 => ⟨S_, .f32⟩
  | 48 => ⟨S_, .f32⟩
  | 49 => ⟨S32x16x8732x2, .f32⟩
  | 50 => ⟨S32x16x8732x2, .f32⟩
  | 51 => ⟨S32x16x8732x1, .f32⟩
  | 52 => ⟨S32x16x8732, .f32⟩
  | 53 => ⟨S32x16x8732x1, .f32⟩
  | 54 => ⟨S32x16x8732, .f32⟩
  | 55 => ⟨S32x16x8732, .f32⟩
  | 56 => ⟨S32x16x1, .f32⟩
  | 57 => ⟨S32x16, .f32⟩
  | 58 => ⟨S32x16x1, .f32⟩
  | 59 => ⟨S32x16, .f32⟩
  | 60 => ⟨S32x16, .f32⟩
  | 61 => ⟨S32x16x1, .f32⟩
  | 62 => ⟨S32x16, .f32⟩
  | 63 => ⟨S32x16x1, .f32⟩
  | 64 => ⟨S32x16, .f32⟩
  | 65 => ⟨S32x16, .f32⟩
  | 66 => ⟨S32x16, .f32⟩
  | 67 => ⟨S8732x1, .f32⟩
  | 68 => ⟨S8732, .f32⟩
  | 69 => ⟨S8732x1, .f32⟩
  | 70 => ⟨S8732, .f32⟩
  | 71 => ⟨S8732, .f32⟩
  | 72 => ⟨S8732x1, .f32⟩
  | 73 => ⟨S8732, .f32⟩
  | 74 => ⟨S8732x1, .f32⟩
  | 75 => ⟨S8732, .f32⟩
  | 76 => ⟨S8732, .f32⟩
  | 77 => ⟨S8732, .f32⟩
  | 78 => ⟨S32x16x1, .f32⟩
  | 79 => ⟨S1x8732, .f32⟩
  | 80 => ⟨S1x1x8732, .f32⟩
  | 81 => ⟨S32x16x8732, .f32⟩
  | 82 => ⟨S32x16x8732, .f32⟩
  | 83 => ⟨S32x16x8732, .f32⟩
  | 84 => ⟨S32x16x8732, .f32⟩
  | 85 => ⟨S32x16x8732, .f32⟩
  | 86 => ⟨S32, .i32⟩
  | 87 => ⟨S32x1, .i32⟩
  | 88 => ⟨S_, .f32⟩
  | 89 => ⟨S32x8732, .f32⟩
  | 90 => ⟨S32x16x8732, .i32⟩
  | 91 => ⟨S_, .f32⟩
  | 92 => ⟨S_, .i32⟩
  | 93 => ⟨S32x8732, .f32⟩
  | 94 => ⟨S32x8732, .i32⟩
  | 95 => ⟨S32x16x8732, .i32⟩
  | 96 => ⟨S_, .f32⟩
  | 97 => ⟨S_, .i32⟩
  | 98 => ⟨S32x16, .f32⟩
  | 99 => ⟨S32x16, .i32⟩
  | 100 => ⟨S16, .i32⟩
  | 101 => ⟨S32x16, .i32⟩
  | 102 => ⟨S_, .i32⟩
  | 103 => ⟨S32x1, .i32⟩
  | 104 => ⟨S32x1, .i1⟩
  | 105 => ⟨S_, .i32⟩
  | 106 => ⟨S32x1, .i32⟩
  | 107 => ⟨S32x1, .i32⟩
  | 108 => ⟨S32x1, .i32⟩
  | 109 => ⟨S_, .i32⟩
  | 110 => ⟨S32x16, .i32⟩
  | 111 => ⟨S32x16, .i1⟩
  | 112 => ⟨S_, .i32⟩
  | 113 => ⟨S32x16, .i32⟩
  | 114 => ⟨S32x16, .i32⟩
  | 115 => ⟨S32x16, .i32⟩
  | 116 => ⟨S32x16, .i32⟩
  | 117 => ⟨S32x16x1, .i32⟩
  | 118 => ⟨S32x16x1, .i32⟩
  | 119 => ⟨S32x16x2, .i32⟩
  | 120 => ⟨S32x8732, .i32⟩
  | 121 => ⟨S_, .i32⟩
  | 122 => ⟨S32x1, .i32⟩
  | 123 => ⟨S32x1, .i1⟩
  | 124 => ⟨S_, .i32⟩
  | 125 => ⟨S32x1, .i32⟩
  | 126 => ⟨S32x1, .i32⟩
  | 127 => ⟨S32x1, .i32⟩
  | _ => ⟨S32x8732x4, .f32⟩

abbrev hbmTy0_1 (i : Nat) : BufTy := match i % 128 with
  | 0 => ⟨S_, .i32⟩
  | 1 => ⟨S32x16, .i32⟩
  | 2 => ⟨S32x16, .i1⟩
  | 3 => ⟨S_, .i32⟩
  | 4 => ⟨S32x16, .i32⟩
  | 5 => ⟨S32x16, .i32⟩
  | 6 => ⟨S32x16, .i32⟩
  | 7 => ⟨S32x16, .i32⟩
  | 8 => ⟨S32x16x1, .i32⟩
  | 9 => ⟨S32x16x1, .i32⟩
  | 10 => ⟨S32x16x2, .i32⟩
  | 11 => ⟨S_, .f32⟩
  | 12 => ⟨S32x16, .f32⟩
  | 13 => ⟨S32x8732, .f32⟩
  | 14 => ⟨S_, .i32⟩
  | 15 => ⟨S32x1, .i32⟩
  | 16 => ⟨S32x1, .i1⟩
  | 17 => ⟨S_, .i32⟩
  | 18 => ⟨S32x1, .i32⟩
  | 19 => ⟨S32x1, .i32⟩
  | 20 => ⟨S32x1, .i32⟩
  | 21 => ⟨S_, .i32⟩
  | 22 => ⟨S32x8732, .i32⟩
  | 23 => ⟨S32x8732, .i1⟩
  | 24 => ⟨S_, .i32⟩
  | 25 => ⟨S32x8732, .i32⟩
  | 26 => ⟨S32x8732, .i32⟩
  | 27 => ⟨S32x8732, .i32⟩
  | 28 => ⟨S32x8732, .i32⟩
  | 29 => ⟨S32x8732x1, .i32⟩
  | 30 => ⟨S32x8732x1, .i32⟩
  | 31 => ⟨S32x8732x2, .i32⟩
  | 32 => ⟨S32x8732, .i32⟩
  | 33 => ⟨S_, .f32⟩
  | 34 => ⟨S32x8732, .f32⟩
  | 35 => ⟨S32x8732, .i1⟩
  | 36 => ⟨S_, .i32⟩
  | 37 => ⟨S_, .i32⟩
  | 38 => ⟨S32x8732, .i32⟩
  | 39 => ⟨S32x8732, .i32⟩
  | 40 => ⟨S_, .i32⟩
  | 41 => ⟨S32x1, .i32⟩
  | 42 => ⟨S32x1, .i1⟩
  | 43 => ⟨S_, .i32⟩
  | 44 => ⟨S32x1, .i32⟩
  | 45 => ⟨S32x1, .i32⟩
  | 46 => ⟨S32x1, .i32⟩
  | 47 => ⟨S_, .i32⟩
  | 48 => ⟨S32x8732, .i32⟩
  | 49 => ⟨S32x8732, .i1⟩
  | 50 => ⟨S_, .i32⟩
  | 51 => ⟨S32x8732, .i32⟩
  | 52 => ⟨S32x8732, .i32⟩
  | 53 => ⟨S32x8732, .i32⟩
  | 54 => ⟨S32x8732, .i32⟩
  | 55 => ⟨S32x8732x1, .i32⟩
  | 56 => ⟨S32x8732x1, .i32⟩
  | 57 => ⟨S32x8732x2, .i32⟩
  | 58 => ⟨S32x8732x4, .f32⟩
  | 59 => ⟨S32x8732x1, .f32⟩
  | 60 => ⟨S32x8732, .f32⟩
  | 61 => ⟨S32x8732x1, .f32⟩
  | 62 => ⟨S32x8732, .f32⟩
  | 63 => ⟨S32x8732, .f32⟩
  | 64 => ⟨S_, .f32⟩
  | 65 => ⟨S32x8732, .f32⟩
  | 66 => ⟨S32x8732, .f32⟩
  | 67 => ⟨S32x8732x1, .f32⟩
  | 68 => ⟨S32x8732, .f32⟩
  | 69 => ⟨S32x8732x1, .f32⟩
  | 70 => ⟨S32x8732, .f32⟩
  | 71 => ⟨S32x8732, .f32⟩
  | 72 => ⟨S_, .f32⟩
  | 73 => ⟨S32x8732, .f32⟩
  | 74 => ⟨S32x8732, .f32⟩
  | 75 => ⟨S32x8732x1, .f32⟩
  | 76 => ⟨S32x8732, .f32⟩
  | 77 => ⟨S32x8732x1, .f32⟩
  | 78 => ⟨S32x8732, .f32⟩
  | 79 => ⟨S32x8732x1, .f32⟩
  | 80 => ⟨S32x8732x1, .f32⟩
  | 81 => ⟨S32x8732x1, .f32⟩
  | 82 => ⟨S32x8732x1, .f32⟩
  | 83 => ⟨S32x8732x4, .f32⟩
  | 84 => ⟨S32x8732x1, .f32⟩
  | 85 => ⟨S32x8732, .f32⟩
  | 86 => ⟨S8732x1, .f32⟩
  | 87 => ⟨S8732, .f32⟩
  | 88 => ⟨S1x8732, .f32⟩
  | 89 => ⟨S32x8732, .f32⟩
  | 90 => ⟨S32x8732, .f32⟩
  | 91 => ⟨S8732x1, .f32⟩
  | 92 => ⟨S8732, .f32⟩
  | 93 => ⟨S1x8732, .f32⟩
  | 94 => ⟨S32x8732, .f32⟩
  | 95 => ⟨S32x8732, .f32⟩
  | 96 => ⟨S32x8732x1, .f32⟩
  | 97 => ⟨S32x8732, .f32⟩
  | 98 => ⟨S8732x1, .f32⟩
  | 99 => ⟨S8732, .f32⟩
  | 100 => ⟨S1x8732, .f32⟩
  | 101 => ⟨S32x8732, .f32⟩
  | 102 => ⟨S32x8732, .f32⟩
  | 103 => ⟨S8732x1, .f32⟩
  | 104 => ⟨S8732, .f32⟩
  | 105 => ⟨S1x8732, .f32⟩
  | 106 => ⟨S32x8732, .f32⟩
  | 107 => ⟨S32x8732, .f32⟩
  | 108 => ⟨S32x8732x1, .f32⟩
  | 109 => ⟨S32x8732, .f32⟩
  | 110 => ⟨S8732x1, .f32⟩
  | 111 => ⟨S8732, .f32⟩
  | 112 => ⟨S1x8732, .f32⟩
  | 113 => ⟨S32x8732, .f32⟩
  | 114 => ⟨S32x8732, .f32⟩
  | 115 => ⟨S32x8732, .f32⟩
  | 116 => ⟨S32x8732x1, .f32⟩
  | 117 => ⟨S32x8732, .f32⟩
  | 118 => ⟨S8732x1, .f32⟩
  | 119 => ⟨S8732, .f32⟩
  | 120 => ⟨S1x8732, .f32⟩
  | 121 => ⟨S32x8732, .f32⟩
  | 122 => ⟨S32x8732, .f32⟩
  | 123 => ⟨S32x8732, .f32⟩
  | 124 => ⟨S32x8732x1, .f32⟩
  | 125 => ⟨S32x8732x1, .f32⟩
  | 126 => ⟨S32x8732x1, .f32⟩
  | 127 => ⟨S32x8732x1, .f32⟩
  | _ => ⟨S32x8732x4, .f32⟩

abbrev hbmTy0_2 (i : Nat) : BufTy := match i % 128 with
  | 0 => ⟨S32x8732x4, .f32⟩
  | 1 => ⟨S_, .i32⟩
  | 2 => ⟨S32x8732, .i32⟩
  | 3 => ⟨S32x8732, .i1⟩
  | 4 => ⟨S32x8732, .f32⟩
  | 5 => ⟨S_, .f32⟩
  | 6 => ⟨S32, .f32⟩
  | 7 => ⟨S32x8732x4, .f32⟩
  | 8 => ⟨S32x8732x4, .f32⟩
  | 9 => ⟨S32x8732x1, .f32⟩
  | 10 => ⟨S32x8732x4, .f32⟩
  | 11 => ⟨S32x8732x4, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S279424x81, .f32⟩
  | 20 => ⟨S_, .f32⟩
  | 21 => ⟨S279424, .f32⟩
  | 22 => ⟨S279424x1, .f32⟩
  | 23 => ⟨S279424x81, .f32⟩
  | 24 => ⟨S279424x81, .f32⟩
  | 25 => ⟨S279424x81, .f32⟩
  | 26 => ⟨S_, .f32⟩
  | 27 => ⟨S279424, .f32⟩
  | 28 => ⟨S279424, .f32⟩
  | 29 => ⟨S279424, .f32⟩
  | 30 => ⟨S279424x1, .i32⟩
  | 31 => ⟨S_, .i32⟩
  | 32 => ⟨S279424x1, .i32⟩
  | 33 => ⟨S279424x1, .i1⟩
  | 34 => ⟨S_, .i32⟩
  | 35 => ⟨S279424x1, .i32⟩
  | 36 => ⟨S279424x1, .i32⟩
  | 37 => ⟨S279424x1, .i32⟩
  | 38 => ⟨S279424x1x1, .i32⟩
  | 39 => ⟨S1, .i32⟩
  | 40 => ⟨S_, .i32⟩
  | 41 => ⟨S279424x1x1, .i32⟩
  | 42 => ⟨S279424x1x1, .i1⟩
  | 43 => ⟨S1x1x1, .i32⟩
  | 44 => ⟨S279424x1x1, .i32⟩
  | 45 => ⟨S279424x1x1, .i1⟩
  | 46 => ⟨S279424x1x1, .i1⟩
  | 47 => ⟨S_, .i1⟩
  | 48 => ⟨S279424x1, .i1⟩
  | 49 => ⟨S279424x1, .f32⟩
  | 50 => ⟨S_, .f32⟩
  | 51 => ⟨S279424x1, .f32⟩
  | 52 => ⟨S279424x1, .f32⟩
  | 53 => ⟨S279424, .f32⟩
  | 54 => ⟨S279424, .f32⟩
  | 55 => ⟨S32x8732, .f32⟩
  | 56 => ⟨S32x8732, .f32⟩
  | 57 => ⟨S_, .f32⟩
  | 58 => ⟨S_, .f32⟩
  | 59 => ⟨S_, .f32⟩
  | 60 => ⟨S32x8732, .f32⟩
  | 61 => ⟨S32x8732, .f32⟩
  | 62 => ⟨S32x8732, .f32⟩
  | 63 => ⟨S32x8732, .f32⟩
  | 64 => ⟨S32x8732, .f32⟩
  | 65 => ⟨S32x8732, .f32⟩
  | 66 => ⟨S8732, .f32⟩
  | 67 => ⟨S1x8732, .f32⟩
  | 68 => ⟨S32x1, .f32⟩
  | 69 => ⟨S_, .f32⟩
  | 70 => ⟨S32x1, .f32⟩
  | 71 => ⟨S32x1, .f32⟩
  | 72 => ⟨S32x8732, .f32⟩
  | 73 => ⟨S32x8732, .f32⟩
  | 74 => ⟨S32x8732, .i1⟩
  | 75 => ⟨S32x8732, .f32⟩
  | 76 => ⟨S32x8732, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S32x8732x4, .f32⟩

abbrev hbmTy (i : Nat) : BufTy := match i / 128 with
  | 0 => hbmTy0_0 i
  | 1 => hbmTy0_1 i
  | 2 => hbmTy0_2 i
  | _ => ⟨S32x8732x4, .f32⟩

abbrev bufTy : (tb : Table) → Fin (tcTables nBuf tb) → BufTy
  | .hbm, ⟨i, _⟩ => hbmTy i
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_call0_v0 : Ref sig .tc := ⟨.hbm, 48, rfl⟩
abbrev main_call0_v1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_2 : Ref sig .tc := ⟨.hbm, 88, rfl⟩
abbrev main_v78 : Ref sig .tc := ⟨.hbm, 89, rfl⟩
abbrev main_call1_v0 : Ref sig .tc := ⟨.hbm, 90, rfl⟩
abbrev main_call1_cst : Ref sig .tc := ⟨.hbm, 91, rfl⟩
abbrev main_call1_c : Ref sig .tc := ⟨.hbm, 92, rfl⟩
abbrev main_call1_v1_0 : Ref sig .tc := ⟨.hbm, 93, rfl⟩
abbrev main_v79 : Ref sig .tc := ⟨.hbm, 94, rfl⟩
abbrev main_call2_v0 : Ref sig .tc := ⟨.hbm, 95, rfl⟩
abbrev main_call2_cst : Ref sig .tc := ⟨.hbm, 96, rfl⟩
abbrev main_call2_c : Ref sig .tc := ⟨.hbm, 97, rfl⟩
abbrev main_call2_v1_0 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c : Ref sig .tc := ⟨.hbm, 102, rfl⟩
abbrev main_v83 : Ref sig .tc := ⟨.hbm, 103, rfl⟩
abbrev main_v84 : Ref sig .tc := ⟨.hbm, 104, rfl⟩
abbrev main_c_3 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_4 : Ref sig .tc := ⟨.hbm, 109, rfl⟩
abbrev main_v88 : Ref sig .tc := ⟨.hbm, 110, rfl⟩
abbrev main_v89 : Ref sig .tc := ⟨.hbm, 111, rfl⟩
abbrev main_c_5 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_c_6 : Ref sig .tc := ⟨.hbm, 121, rfl⟩
abbrev main_v98 : Ref sig .tc := ⟨.hbm, 122, rfl⟩
abbrev main_v99 : Ref sig .tc := ⟨.hbm, 123, rfl⟩
abbrev main_c_7 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_8 : Ref sig .tc := ⟨.hbm, 128, rfl⟩
abbrev main_v103 : Ref sig .tc := ⟨.hbm, 129, rfl⟩
abbrev main_v104 : Ref sig .tc := ⟨.hbm, 130, rfl⟩
abbrev main_c_9 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_10 : Ref sig .tc := ⟨.hbm, 139, rfl⟩
abbrev main_v112 : Ref sig .tc := ⟨.hbm, 140, rfl⟩
abbrev main_v113 : Ref sig .tc := ⟨.hbm, 141, rfl⟩
abbrev main_c_11 : Ref sig .tc := ⟨.hbm, 142, rfl⟩
abbrev main_v114 : Ref sig .tc := ⟨.hbm, 143, rfl⟩
abbrev main_v115 : Ref sig .tc := ⟨.hbm, 144, rfl⟩
abbrev main_c_12 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_c_13 : Ref sig .tc := ⟨.hbm, 149, rfl⟩
abbrev main_v119 : Ref sig .tc := ⟨.hbm, 150, rfl⟩
abbrev main_v120 : Ref sig .tc := ⟨.hbm, 151, rfl⟩
abbrev main_c_14 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_15 : Ref sig .tc := ⟨.hbm, 161, rfl⟩
abbrev main_v129 : Ref sig .tc := ⟨.hbm, 162, rfl⟩
abbrev main_v130 : Ref sig .tc := ⟨.hbm, 163, rfl⟩
abbrev main_c_16 : Ref sig .tc := ⟨.hbm, 164, rfl⟩
abbrev main_call3_v0 : Ref sig .tc := ⟨.hbm, 165, rfl⟩
abbrev main_call3_v1 : Ref sig .tc := ⟨.hbm, 166, rfl⟩
abbrev main_v131 : Ref sig .tc := ⟨.hbm, 167, rfl⟩
abbrev main_c_17 : Ref sig .tc := ⟨.hbm, 168, rfl⟩
abbrev main_v132 : Ref sig .tc := ⟨.hbm, 169, rfl⟩
abbrev main_v133 : Ref sig .tc := ⟨.hbm, 170, rfl⟩
abbrev main_c_18 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_c_19 : Ref sig .tc := ⟨.hbm, 175, rfl⟩
abbrev main_v137 : Ref sig .tc := ⟨.hbm, 176, rfl⟩
abbrev main_v138 : Ref sig .tc := ⟨.hbm, 177, rfl⟩
abbrev main_c_20 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_21 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_22 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_c_23 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_cst_24 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_cst_25 : Ref sig .tc := ⟨.hbm, 268, rfl⟩
abbrev main_v224 : Ref sig .tc := ⟨.hbm, 269, rfl⟩
abbrev main_cst_26 : Ref sig .tc := ⟨.hbm, 270, rfl⟩
abbrev main_v225 : Ref sig .tc := ⟨.hbm, 271, rfl⟩
abbrev main_cst_27 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_cst_28 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_cst_29 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_call4_c : Ref sig .tc := ⟨.hbm, 287, rfl⟩
abbrev main_call4_v0 : Ref sig .tc := ⟨.hbm, 288, rfl⟩
abbrev main_call4_v1 : Ref sig .tc := ⟨.hbm, 289, rfl⟩
abbrev main_call4_c_0 : Ref sig .tc := ⟨.hbm, 290, rfl⟩
abbrev main_call4_v2 : Ref sig .tc := ⟨.hbm, 291, rfl⟩
abbrev main_call4_v3 : Ref sig .tc := ⟨.hbm, 292, rfl⟩
abbrev main_call4_v4 : Ref sig .tc := ⟨.hbm, 293, rfl⟩
abbrev main_call4_v5 : Ref sig .tc := ⟨.hbm, 294, rfl⟩
abbrev main_call4_c_1 : Ref sig .tc := ⟨.hbm, 295, rfl⟩
abbrev main_call4_c_2 : Ref sig .tc := ⟨.hbm, 296, rfl⟩
abbrev main_call4_v6 : Ref sig .tc := ⟨.hbm, 297, rfl⟩
abbrev main_call4_v7 : Ref sig .tc := ⟨.hbm, 298, rfl⟩
abbrev main_call4_v8 : Ref sig .tc := ⟨.hbm, 299, rfl⟩
abbrev main_call4_v9 : Ref sig .tc := ⟨.hbm, 300, rfl⟩
abbrev main_call4_v10 : Ref sig .tc := ⟨.hbm, 301, rfl⟩
abbrev main_call4_v11 : Ref sig .tc := ⟨.hbm, 302, rfl⟩
abbrev main_call4_c_3 : Ref sig .tc := ⟨.hbm, 303, rfl⟩
abbrev main_call4_v12 : Ref sig .tc := ⟨.hbm, 304, rfl⟩
abbrev main_call4_v13 : Ref sig .tc := ⟨.hbm, 305, rfl⟩
abbrev main_call4_cst : Ref sig .tc := ⟨.hbm, 306, rfl⟩
abbrev main_call4_v14 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_cst_30 : Ref sig .tc := ⟨.hbm, 313, rfl⟩
abbrev main_v243 : Ref sig .tc := ⟨.hbm, 314, rfl⟩
abbrev main_cst_31 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_cst_32 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_cst_33 : Ref sig .tc := ⟨.hbm, 333, rfl⟩
abbrev main_v260 : Ref sig .tc := ⟨.hbm, 334, rfl⟩
abbrev main_v261 : Ref sig .tc := ⟨.hbm, 335, rfl⟩
abbrev main_cst_34 : Ref sig .tc := ⟨.hbm, 336, rfl⟩
abbrev main_v262 : Ref sig .tc := ⟨.hbm, 337, rfl⟩
abbrev main_v263 : Ref sig .tc := ⟨.hbm, 338, rfl⟩
abbrev main_cst_35 : Ref sig .tc := ⟨.hbm, 339, rfl⟩
abbrev main_v264 : Ref sig .tc := ⟨.hbm, 340, rfl⟩
abbrev main_v265 : Ref sig .tc := ⟨.hbm, 341, rfl⟩

abbrev nD : Nat := 1
abbrev τ : Topo := Topo.v7x

variable {F : FTy → Type} [FloatOps F]
-- ==== Proof.RefOps.lean ====
/-
The reference's operations as a list, in the windows its text has, with what each window writes.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v22`, named. It packs its operands into a list of dependent pairs
    whose shapes a later argument's type mentions, so `simp` cannot rewrite an operand where it stands; applied by
    name, the operands are plain arguments, which the window lemmas below rewrite before the name unfolds. -/
def fn_main_v22 : (main_v18 : Ref sig .tc).ty.Contents (Elt F) → (main_v19 : Ref sig .tc).ty.Contents (Elt F) → (main_v20 : Ref sig .tc).ty.Contents (Elt F) → (main_v21 : Ref sig .tc).ty.Contents (Elt F) → (main_v22 : Ref sig .tc).ty.Contents (Elt F) :=
  (fun u0 u1 u2 u3 => (concatenate S8732x4 1 [⟨S8732x1, (u0 : (⟨S8732x1, .f32⟩ : BufTy).Contents (Elt F))⟩, ⟨S8732x1, (u1 : (⟨S8732x1, .f32⟩ : BufTy).Contents (Elt F))⟩, ⟨S8732x1, (u2 : (⟨S8732x1, .f32⟩ : BufTy).Contents (Elt F))⟩, ⟨S8732x1, (u3 : (⟨S8732x1, .f32⟩ : BufTy).Contents (Elt F))⟩] concatenates_S8732x1_S8732x1_S8732x1_S8732x1_S8732x4_d1 : (⟨S8732x4, .f32⟩ : BufTy).Contents (Elt F)))

/-- The function of the operation that writes `main_v96`, named. It packs its operands into a list of dependent pairs
    whose shapes a later argument's type mentions, so `simp` cannot rewrite an operand where it stands; applied by
    name, the operands are plain arguments, which the window lemmas below rewrite before the name unfolds. -/
def fn_main_v96 : (⟨S32x16x1, .i32⟩ : BufTy).Contents (Elt F) → (⟨S32x16x1, .i32⟩ : BufTy).Contents (Elt F) → (⟨S32x16x2, .i32⟩ : BufTy).Contents (Elt F) :=
  (fun a b => concatenate S32x16x2 2 [⟨S32x16x1, a⟩, ⟨S32x16x1, b⟩] concatenates_S32x16x1_S32x16x1_S32x16x2_d2)

/-- The function of the operation that writes `main_v111`, named. It packs its operands into a list of dependent pairs
    whose shapes a later argument's type mentions, so `simp` cannot rewrite an operand where it stands; applied by
    name, the operands are plain arguments, which the window lemmas below rewrite before the name unfolds. -/
def fn_main_v111 : (⟨S32x16x1, .i32⟩ : BufTy).Contents (Elt F) → (⟨S32x16x1, .i32⟩ : BufTy).Contents (Elt F) → (⟨S32x16x2, .i32⟩ : BufTy).Contents (Elt F) :=
  (fun a b => concatenate S32x16x2 2 [⟨S32x16x1, a⟩, ⟨S32x16x1, b⟩] concatenates_S32x16x1_S32x16x1_S32x16x2_d2)

/-- The function of the operation that writes `main_v127`, named. It packs its operands into a list of dependent pairs
    whose shapes a later argument's type mentions, so `simp` cannot rewrite an operand where it stands; applied by
    name, the operands are plain arguments, which the window lemmas below rewrite before the name unfolds. -/
def fn_main_v127 : (⟨S32x8732x1, .i32⟩ : BufTy).Contents (Elt F) → (⟨S32x8732x1, .i32⟩ : BufTy).Contents (Elt F) → (⟨S32x8732x2, .i32⟩ : BufTy).Contents (Elt F) :=
  (fun a b => concatenate S32x8732x2 2 [⟨S32x8732x1, a⟩, ⟨S32x8732x1, b⟩] concatenates_S32x8732x1_S32x8732x1_S32x8732x2_d2)

/-- The function of the operation that writes `main_v145`, named. It packs its operands into a list of dependent pairs
    whose shapes a later argument's type mentions, so `simp` cannot rewrite an operand where it stands; applied by
    name, the operands are plain arguments, which the window lemmas below rewrite before the name unfolds. -/
def fn_main_v145 : (⟨S32x8732x1, .i32⟩ : BufTy).Contents (Elt F) → (⟨S32x8732x1, .i32⟩ : BufTy).Contents (Elt F) → (⟨S32x8732x2, .i32⟩ : BufTy).Contents (Elt F) :=
  (fun a b => concatenate S32x8732x2 2 [⟨S32x8732x1, a⟩, ⟨S32x8732x1, b⟩] concatenates_S32x8732x1_S32x8732x1_S32x8732x2_d2)

/-- The function of the operation that writes `main_v169`, named. It packs its operands into a list of dependent pairs
    whose shapes a later argument's type mentions, so `simp` cannot rewrite an operand where it stands; applied by
    name, the operands are plain arguments, which the window lemmas below rewrite before the name unfolds. -/
def fn_main_v169 : (main_v165 : Ref sig .tc).ty.Contents (Elt F) → (main_v166 : Ref sig .tc).ty.Contents (Elt F) → (main_v167 : Ref sig .tc).ty.Contents (Elt F) → (main_v168 : Ref sig .tc).ty.Contents (Elt F) → (main_v169 : Ref sig .tc).ty.Contents (Elt F) :=
  (fun u0 u1 u2 u3 => (concatenate S32x8732x4 2 [⟨S32x8732x1, (u0 : (⟨S32x8732x1, .f32⟩ : BufTy).Contents (Elt F))⟩, ⟨S32x8732x1, (u1 : (⟨S32x8732x1, .f32⟩ : BufTy).Contents (Elt F))⟩, ⟨S32x8732x1, (u2 : (⟨S32x8732x1, .f32⟩ : BufTy).Contents (Elt F))⟩, ⟨S32x8732x1, (u3 : (⟨S32x8732x1, .f32⟩ : BufTy).Contents (Elt F))⟩] concatenates_S32x8732x1_S32x8732x1_S32x8732x1_S32x8732x1_S32x8732x4_d2 : (⟨S32x8732x4, .f32⟩ : BufTy).Contents (Elt F)))

/-- The function of the operation that writes `main_v214`, named. It packs its operands into a list of dependent pairs
    whose shapes a later argument's type mentions, so `simp` cannot rewrite an operand where it stands; applied by
    name, the operands are plain arguments, which the window lemmas below rewrite before the name unfolds. -/
def fn_main_v214 : (main_v210 : Ref sig .tc).ty.Contents (Elt F) → (main_v211 : Ref sig .tc).ty.Contents (Elt F) → (main_v212 : Ref sig .tc).ty.Contents (Elt F) → (main_v213 : Ref sig .tc).ty.Contents (Elt F) → (main_v214 : Ref sig .tc).ty.Contents (Elt F) :=
  (fun u0 u1 u2 u3 => (concatenate S32x8732x4 2 [⟨S32x8732x1, (u0 : (⟨S32x8732x1, .f32⟩ : BufTy).Contents (Elt F))⟩, ⟨S32x8732x1, (u1 : (⟨S32x8732x1, .f32⟩ : BufTy).Contents (Elt F))⟩, ⟨S32x8732x1, (u2 : (⟨S32x8732x1, .f32⟩ : BufTy).Contents (Elt F))⟩, ⟨S32x8732x1, (u3 : (⟨S32x8732x1, .f32⟩ : BufTy).Contents (Elt F))⟩] concatenates_S32x8732x1_S32x8732x1_S32x8732x1_S32x8732x1_S32x8732x4_d2 : (⟨S32x8732x4, .f32⟩ : BufTy).Contents (Elt F)))

/-- @main's operations 1 … 30 of 337 (window `main_part0`). -/
abbrev ops_part0_0 : List (HloOp τ sig (Elt F)) :=
  [ unary main_arg4 main_v0 ((extractStridedSlice S8732x1 ![0, 0] · slices_S8732x4_S8732x1_0_0) : (⟨S8732x4, .f32⟩ : BufTy).Contents (Elt F) → (⟨S8732x1, .f32⟩ : BufTy).Contents (Elt F)),
    reshape main_v0 main_v1 (rfl : (.f32 : EltTy) = .f32) shapeCasts_S8732x1_S8732,
    unary main_arg4 main_v2 ((extractStridedSlice S8732x1 ![0, 2] · slices_S8732x4_S8732x1_0_2) : (⟨S8732x4, .f32⟩ : BufTy).Contents (Elt F) → (⟨S8732x1, .f32⟩ : BufTy).Contents (Elt F)),
    reshape main_v2 main_v3 (rfl : (.f32 : EltTy) = .f32) shapeCasts_S8732x1_S8732,
    nullary main_cst (constant S_ .f32 0x40000000#32),
    unary main_cst main_v4 (broadcastInDim S8732 ![] bcast_S_S8732 : (⟨S_, .f32⟩ : BufTy).Contents (Elt F) → (⟨S8732, .f32⟩ : BufTy).Contents (Elt F)),
    binary main_v3 main_v4 main_v5 (Host.divf : (⟨S8732, .f32⟩ : BufTy).Contents (Elt F) → (⟨S8732, .f32⟩ : BufTy).Contents (Elt F) → (⟨S8732, .f32⟩ : BufTy).Contents (Elt F)),
    binary main_v1 main_v5 main_v6 (subf : (⟨S8732, .f32⟩ : BufTy).Contents (Elt F) → (⟨S8732, .f32⟩ : BufTy).Contents (Elt F) → (⟨S8732, .f32⟩ : BufTy).Contents (Elt F)),
    unary main_arg4 main_v7 ((extractStridedSlice S8732x1 ![0, 1] · slices_S8732x4_S8732x1_0_1) : (⟨S8732x4, .f32⟩ : BufTy).Contents (Elt F) → (⟨S8732x1, .f32⟩ : BufTy).Contents (Elt F)),
    reshape main_v7 main_v8 (rfl : (.f32 : EltTy) = .f32) shapeCasts_S8732x1_S8732,
    unary main_arg4 main_v9 ((extractStridedSlice S8732x1 ![0, 3] · slices_S8732x4_S8732x1_0_3) : (⟨S8732x4, .f32⟩ : BufTy).Contents (Elt F) → (⟨S8732x1, .f32⟩ : BufTy).Contents (Elt F)),
    reshape main_v9 main_v10 (rfl : (.f32 : EltTy) = .f32) shapeCasts_S8732x1_S8732,
    nullary main_cst_0 (constant S_ .f32 0x40000000#32),
    unary main_cst_0 main_v11 (broadcastInDim S8732 ![] bcast_S_S8732 : (⟨S_, .f32⟩ : BufTy).Contents (Elt F) → (⟨S8732, .f32⟩ : BufTy).Contents (Elt F)),
    binary main_v10 main_v11 main_v12 (Host.divf : (⟨S8732, .f32⟩ : BufTy).Contents (Elt F) → (⟨S8732, .f32⟩ : BufTy).Contents (Elt F) → (⟨S8732, .f32⟩ : BufTy).Contents (Elt F)),
    binary main_v8 main_v12 main_v13 (subf : (⟨S8732, .f32⟩ : BufTy).Contents (Elt F) → (⟨S8732, .f32⟩ : BufTy).Contents (Elt F) → (⟨S8732, .f32⟩ : BufTy).Contents (Elt F)),
    unary main_arg4 main_v14 ((extractStridedSlice S8732x1 ![0, 2] · slices_S8732x4_S8732x1_0_2) : (⟨S8732x4, .f32⟩ : BufTy).Contents (Elt F) → (⟨S8732x1, .f32⟩ : BufTy).Contents (Elt F)),
    reshape main_v14 main_v15 (rfl : (.f32 : EltTy) = .f32) shapeCasts_S8732x1_S8732,
    unary main_arg4 main_v16 ((extractStridedSlice S8732x1 ![0, 3] · slices_S8732x4_S8732x1_0_3) : (⟨S8732x4, .f32⟩ : BufTy).Contents (Elt F) → (⟨S8732x1, .f32⟩ : BufTy).Contents (Elt F)),
    reshape main_v16 main_v17 (rfl : (.f32 : EltTy) = .f32) shapeCasts_S8732x1_S8732,
    unary main_v6 main_v18 (broadcastInDim S8732x1 ![0] bcast_S8732_S8732x1_0 : (⟨S8732, .f32⟩ : BufTy).Contents (Elt F) → (⟨S8732x1, .f32⟩ : BufTy).Contents (Elt F)),
    unary main_v13 main_v19 (broadcastInDim S8732x1 ![0] bcast_S8732_S8732x1_0 : (⟨S8732, .f32⟩ : BufTy).Contents (Elt F) → (⟨S8732x1, .f32⟩ : BufTy).Contents (Elt F)),
    unary main_v15 main_v20 (broadcastInDim S8732x1 ![0] bcast_S8732_S8732x1_0 : (⟨S8732, .f32⟩ : BufTy).Contents (Elt F) → (⟨S8732x1, .f32⟩ : BufTy).Contents (Elt F)),
    unary main_v17 main_v21 (broadcastInDim S8732x1 ![0] bcast_S8732_S8732x1_0 : (⟨S8732, .f32⟩ : BufTy).Contents (Elt F) → (⟨S8732x1, .f32⟩ : BufTy).Contents (Elt F)),
    nary ![main_v18, main_v19, main_v20, main_v21] main_v22 (fun u => fn_main_v22 (F := F) (u 0) (u 1) (u 2) (u 3)),
    unary main_arg2 main_v23 ((extractStridedSlice S32x16x2 ![0, 0, 0] · slices_S32x16x4_S32x16x2_0_0_0) : (⟨S32x16x4, .f32⟩ : BufTy).Contents (Elt F) → (⟨S32x16x2, .f32⟩ : BufTy).Contents (Elt F)),
    unary main_v23 main_v24 (broadcastInDim S32x16x1x2 ![0, 1, 3] bcast_S32x16x2_S32x16x1x2_0_1_3 : (⟨S32x16x2, .f32⟩ : BufTy).Contents (Elt F) → (⟨S32x16x1x2, .f32⟩ : BufTy).Contents (Elt F)),
    unary main_v22 main_v25 ((extractStridedSlice S8732x2 ![0, 0] · slices_S8732x4_S8732x2_0_0) : (⟨S8732x4, .f32⟩ : BufTy).Contents (Elt F) → (⟨S8732x2, .f32⟩ : BufTy).Contents (Elt F)),
    unary main_v25 main_v26 (broadcastInDim S1x8732x2 ![1, 2] bcast_S8732x2_S1x8732x2_1_2 : (⟨S8732x2, .f32⟩ : BufTy).Contents (Elt F) → (⟨S1x8732x2, .f32⟩ : BufTy).Contents (Elt F)),
    unary main_v26 main_v27 (broadcastInDim S1x1x8732x2 ![1, 2, 3] bcast_S1x8732x2_S1x1x8732x2_1_2_3 : (⟨S1x8732x2, .f32⟩ : BufTy).Contents (Elt F) → (⟨S1x1x8732x2, .f32⟩ : BufTy).Contents (Elt F)) ]

/-- @main's operations 31 … 60 of 337 (window `main_part0`). -/
abbrev ops_part0_1 : List (HloOp τ sig (Elt F)) :=
  [ unary main_v24 main_v28 (broadcastInDim S32x16x8732x2 ![0, 1, 2, 3] bcast_S32x16x1x2_S32x16x8732x2_0_1_2_3 : (⟨S32x16x1x2, .f32⟩ : BufTy).Contents (Elt F) → (⟨S32x16x8732x2, .f32⟩ : BufTy).Contents (Elt F)),
    unary main_v27 main_v29 (broadcastInDim S32x16x8732x2 ![0, 1, 2, 3] bcast_S1x1x8732x2_S32x16x8732x2_0_1_2_3 : (⟨S1x1x8732x2, .f32⟩ : BufTy).Contents (Elt F) → (⟨S32x16x8732x2, .f32⟩ : BufTy).Contents (Elt F)),
    binary main_v28 main_v29 main_v30 (maximumf : (⟨S32x16x8732x2, .f32⟩ : BufTy).Contents (Elt F) → (⟨S32x16x8732x2, .f32⟩ : BufTy).Contents (Elt F) → (⟨S32x16x8732x2, .f32⟩ : BufTy).Contents (Elt F)),
    unary main_arg2 main_v31 ((extractStridedSlice S32x16x2 ![0, 0, 2] · slices_S32x16x4_S32x16x2_0_0_2) : (⟨S32x16x4, .f32⟩ : BufTy).Contents (Elt F) → (⟨S32x16x2, .f32⟩ : BufTy).Contents (Elt F)),
    unary main_v31 main_v32 (broadcastInDim S32x16x1x2 ![0, 1, 3] bcast_S32x16x2_S32x16x1x2_0_1_3 : (⟨S32x16x2, .f32⟩ : BufTy).Contents (Elt F) → (⟨S32x16x1x2, .f32⟩ : BufTy).Contents (Elt F)),
    unary main_v22 main_v33 ((extractStridedSlice S8732x2 ![0, 2] · slices_S8732x4_S8732x2_0_2) : (⟨S8732x4, .f32⟩ : BufTy).Contents (Elt F) → (⟨S8732x2, .f32⟩ : BufTy).Contents (Elt F)),
    unary main_v33 main_v34 (broadcastInDim S1x8732x2 ![1, 2] bcast_S8732x2_S1x8732x2_1_2 : (⟨S8732x2, .f32⟩ : BufTy).Contents (Elt F) → (⟨S1x8732x2, .f32⟩ : BufTy).Contents (Elt F)),
    unary main_v34 main_v35 (broadcastInDim S1x1x8732x2 ![1, 2, 3] bcast_S1x8732x2_S1x1x8732x2_1_2_3 : (⟨S1x8732x2, .f32⟩ : BufTy).Contents (Elt F) → (⟨S1x1x8732x2, .f32⟩ : BufTy).Contents (Elt F)),
    unary main_v32 main_v36 (broadcastInDim S32x16x8732x2 ![0, 1, 2, 3] bcast_S32x16x1x2_S32x16x8732x2_0_1_2_3 : (⟨S32x16x1x2, .f32⟩ : BufTy).Contents (Elt F) → (⟨S32x16x8732x2, .f32⟩ : BufTy).Contents (Elt F)),
    unary main_v35 main_v37 (broadcastInDim S32x16x8732x2 ![0, 1, 2, 3] bcast_S1x1x8732x2_S32x16x8732x2_0_1_2_3 : (⟨S1x1x8732x2, .f32⟩ : BufTy).Contents (Elt F) → (⟨S32x16x8732x2, .f32⟩ : BufTy).Contents (Elt F)),
    binary main_v36 main_v37 main_v38 (minimumf : (⟨S32x16x8732x2, .f32⟩ : BufTy).Contents (Elt F) → (⟨S32x16x8732x2, .f32⟩ : BufTy).Contents (Elt F) → (⟨S32x16x8732x2, .f32⟩ : BufTy).Contents (Elt F)),
    binary main_v38 main_v30 main_v39 (subf : (⟨S32x16x8732x2, .f32⟩ : BufTy).Contents (Elt F) → (⟨S32x16x8732x2, .f32⟩ : BufTy).Contents (Elt F) → (⟨S32x16x8732x2, .f32⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S32x16x8732x2, .f32⟩) main_call0_v1) (broadcastInDim S32x16x8732x2 ![] bcast_S_S32x16x8732x2),
    TRef.binary (TRef.of (T := ⟨S32x16x8732x2, .f32⟩) main_call0_v1) (TRef.of (T := ⟨S32x16x8732x2, .f32⟩) main_v39) (TRef.of (T := ⟨S32x16x8732x2, .f32⟩) main_v40) maximumf,
    unary main_v40 main_v41 ((extractStridedSlice S32x16x8732x1 ![0, 0, 0, 0] · slices_S32x16x8732x2_S32x16x8732x1_0_0_0_0) : (⟨S32x16x8732x2, .f32⟩ : BufTy).Contents (Elt F) → (⟨S32x16x8732x1, .f32⟩ : BufTy).Contents (Elt F)),
    reshape main_v41 main_v42 (rfl : (.f32 : EltTy) = .f32) shapeCasts_S32x16x8732x1_S32x16x8732,
    unary main_v40 main_v43 ((extractStridedSlice S32x16x8732x1 ![0, 0, 0, 1] · slices_S32x16x8732x2_S32x16x8732x1_0_0_0_1) : (⟨S32x16x8732x2, .f32⟩ : BufTy).Contents (Elt F) → (⟨S32x16x8732x1, .f32⟩ : BufTy).Contents (Elt F)),
    reshape main_v43 main_v44 (rfl : (.f32 : EltTy) = .f32) shapeCasts_S32x16x8732x1_S32x16x8732,
    binary main_v42 main_v44 main_v45 (mulf : (⟨S32x16x8732, .f32⟩ : BufTy).Contents (Elt F) → (⟨S32x16x8732, .f32⟩ : BufTy).Contents (Elt F) → (⟨S32x16x8732, .f32⟩ : BufTy).Contents (Elt F)),
    unary main_arg2 main_v46 ((extractStridedSlice S32x16x1 ![0, 0, 2] · slices_S32x16x4_S32x16x1_0_0_2) : (⟨S32x16x4, .f32⟩ : BufTy).Contents (Elt F) → (⟨S32x16x1, .f32⟩ : BufTy).Contents (Elt F)),
    reshape main_v46 main_v47 (rfl : (.f32 : EltTy) = .f32) shapeCasts_S32x16x1_S32x16,
    unary main_arg2 main_v48 ((extractStridedSlice S32x16x1 ![0, 0, 0] · slices_S32x16x4_S32x16x1_0_0_0) : (⟨S32x16x4, .f32⟩ : BufTy).Contents (Elt F) → (⟨S32x16x1, .f32⟩ : BufTy).Contents (Elt F)),
    reshape main_v48 main_v49 (rfl : (.f32 : EltTy) = .f32) shapeCasts_S32x16x1_S32x16,
    binary main_v47 main_v49 main_v50 (subf : (⟨S32x16, .f32⟩ : BufTy).Contents (Elt F) → (⟨S32x16, .f32⟩ : BufTy).Contents (Elt F) → (⟨S32x16, .f32⟩ : BufTy).Contents (Elt F)),
    unary main_arg2 main_v51 ((extractStridedSlice S32x16x1 ![0, 0, 3] · slices_S32x16x4_S32x16x1_0_0_3) : (⟨S32x16x4, .f32⟩ : BufTy).Contents (Elt F) → (⟨S32x16x1, .f32⟩ : BufTy).Contents (Elt F)),
    reshape main_v51 main_v52 (rfl : (.f32 : EltTy) = .f32) shapeCasts_S32x16x1_S32x16,
    unary main_arg2 main_v53 ((extractStridedSlice S32x16x1 ![0, 0, 1] · slices_S32x16x4_S32x16x1_0_0_1) : (⟨S32x16x4, .f32⟩ : BufTy).Contents (Elt F) → (⟨S32x16x1, .f32⟩ : BufTy).Contents (Elt F)),
    reshape main_v53 main_v54 (rfl : (.f32 : EltTy) = .f32) shapeCasts_S32x16x1_S32x16 ]

/-- @main's operations 61 … 62 of 337 (window `main_part0`). -/
abbrev ops_part0_2 : List (HloOp τ sig (Elt F)) :=
  [ binary main_v52 main_v54 main_v55 (subf : (⟨S32x16, .f32⟩ : BufTy).Contents (Elt F) → (⟨S32x16, .f32⟩ : BufTy).Contents (Elt F) → (⟨S32x16, .f32⟩ : BufTy).Contents (Elt F)),
    binary main_v50 main_v55 main_v56 (mulf : (⟨S32x16, .f32⟩ : BufTy).Contents (Elt F) → (⟨S32x16, .f32⟩ : BufTy).Contents (Elt F) → (⟨S32x16, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 92 of 337 (window `main_part1`). -/
abbrev ops_part1_0 : List (HloOp τ sig (Elt F)) :=
  [ unary main_v22 main_v57 ((extractStridedSlice S8732x1 ![0, 2] · slices_S8732x4_S8732x1_0_2) : (⟨S8732x4, .f32⟩ : BufTy).Contents (Elt F) → (⟨S8732x1, .f32⟩ : BufTy).Contents (Elt F)),
    reshape main_v57 main_v58 (rfl : (.f32 : EltTy) = .f32) shapeCasts_S8732x1_S8732,
    unary main_v22 main_v59 ((extractStridedSlice S8732x1 ![0, 0] · slices_S8732x4_S8732x1_0_0) : (⟨S8732x4, .f32⟩ : BufTy).Contents (Elt F) → (⟨S8732x1, .f32⟩ : BufTy).Contents (Elt F)),
    reshape main_v59 main_v60 (rfl : (.f32 : EltTy) = .f32) shapeCasts_S8732x1_S8732,
    binary main_v58 main_v60 main_v61 (subf : (⟨S8732, .f32⟩ : BufTy).Contents (Elt F) → (⟨S8732, .f32⟩ : BufTy).Contents (Elt F) → (⟨S8732, .f32⟩ : BufTy).Contents (Elt F)),
    unary main_v22 main_v62 ((extractStridedSlice S8732x1 ![0, 3] · slices_S8732x4_S8732x1_0_3) : (⟨S8732x4, .f32⟩ : BufTy).Contents (Elt F) → (⟨S8732x1, .f32⟩ : BufTy).Contents (Elt F)),
    reshape main_v62 main_v63 (rfl : (.f32 : EltTy) = .f32) shapeCasts_S8732x1_S8732,
    unary main_v22 main_v64 ((extractStridedSlice S8732x1 ![0, 1] · slices_S8732x4_S8732x1_0_1) : (⟨S8732x4, .f32⟩ : BufTy).Contents (Elt F) → (⟨S8732x1, .f32⟩ : BufTy).Contents (Elt F)),
    reshape main_v64 main_v65 (rfl : (.f32 : EltTy) = .f32) shapeCasts_S8732x1_S8732,
    binary main_v63 main_v65 main_v66 (subf : (⟨S8732, .f32⟩ : BufTy).Contents (Elt F) → (⟨S8732, .f32⟩ : BufTy).Contents (Elt F) → (⟨S8732, .f32⟩ : BufTy).Contents (Elt F)),
    binary main_v61 main_v66 main_v67 (mulf : (⟨S8732, .f32⟩ : BufTy).Contents (Elt F) → (⟨S8732, .f32⟩ : BufTy).Contents (Elt F) → (⟨S8732, .f32⟩ : BufTy).Contents (Elt F)),
    unary main_v56 main_v68 (broadcastInDim S32x16x1 ![0, 1] bcast_S32x16_S32x16x1_0_1 : (⟨S32x16, .f32⟩ : BufTy).Contents (Elt F) → (⟨S32x16x1, .f32⟩ : BufTy).Contents (Elt F)),
    unary main_v67 main_v69 (broadcastInDim S1x8732 ![1] bcast_S8732_S1x8732_1 : (⟨S8732, .f32⟩ : BufTy).Contents (Elt F) → (⟨S1x8732, .f32⟩ : BufTy).Contents (Elt F)),
    unary main_v69 main_v70 (broadcastInDim S1x1x8732 ![1, 2] bcast_S1x8732_S1x1x8732_1_2 : (⟨S1x8732, .f32⟩ : BufTy).Contents (Elt F) → (⟨S1x1x8732, .f32⟩ : BufTy).Contents (Elt F)),
    unary main_v68 main_v71 (broadcastInDim S32x16x8732 ![0, 1, 2] bcast_S32x16x1_S32x16x8732_0_1_2 : (⟨S32x16x1, .f32⟩ : BufTy).Contents (Elt F) → (⟨S32x16x8732, .f32⟩ : BufTy).Contents (Elt F)),
    unary main_v70 main_v72 (broadcastInDim S32x16x8732 ![0, 1, 2] bcast_S1x1x8732_S32x16x8732_0_1_2 : (⟨S1x1x8732, .f32⟩ : BufTy).Contents (Elt F) → (⟨S32x16x8732, .f32⟩ : BufTy).Contents (Elt F)),
    binary main_v71 main_v72 main_v73 (addf : (⟨S32x16x8732, .f32⟩ : BufTy).Contents (Elt F) → (⟨S32x16x8732, .f32⟩ : BufTy).Contents (Elt F) → (⟨S32x16x8732, .f32⟩ : BufTy).Contents (Elt F)),
    binary main_v73 main_v45 main_v74 (subf : (⟨S32x16x8732, .f32⟩ : BufTy).Contents (Elt F) → (⟨S32x16x8732, .f32⟩ : BufTy).Contents (Elt F) → (⟨S32x16x8732, .f32⟩ : BufTy).Contents (Elt F)),
    binary main_v45 main_v74 main_v75 (Host.divf : (⟨S32x16x8732, .f32⟩ : BufTy).Contents (Elt F) → (⟨S32x16x8732, .f32⟩ : BufTy).Contents (Elt F) → (⟨S32x16x8732, .f32⟩ : BufTy).Contents (Elt F)),
    nullary main_v76 (iotaInDim S32 32 0),
    unary main_v76 main_v77 (broadcastInDim S32x1 ![0] bcast_S32_S32x1_0 : (⟨S32, .i32⟩ : BufTy).Contents (Elt F) → (⟨S32x1, .i32⟩ : BufTy).Contents (Elt F)),
    nullary main_cst_2 (constant S_ .f32 0xFF800000#32),
    binary main_v75 main_cst_2 main_v78 ((fun x v => Host.reduce FloatOps.maximumf x v reducesTo_S32x16x8732_S32x8732_d1 h_S_) : (⟨S32x16x8732, .f32⟩ : BufTy).Contents (Elt F) → (⟨S_, .f32⟩ : BufTy).Contents (Elt F) → (⟨S32x8732, .f32⟩ : BufTy).Contents (Elt F)),
    TRef.nullary (TRef.of (T := ⟨S32x16x8732, .i32⟩) main_call1_v0) (iotaInDim S32x16x8732 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S32x16x8732, .f32⟩) main_v75) (TRef.of (T := ⟨S32x16x8732, .i32⟩) main_call1_v0) (TRef.of (T := ⟨S_, .f32⟩) main_call1_cst) (TRef.of (T := ⟨S_, .i32⟩) main_call1_c) (TRef.of (T := ⟨S32x8732, .f32⟩) main_call1_v1_0) (fun x y u v => (fun j => (Host.argReduce reducer_argmax_f32_i32 x y u v reducesTo_S32x16x8732_S32x8732_d1 h_S_ j).1)),
    TRef.quaternary (TRef.of (T := ⟨S32x16x8732, .f32⟩) main_v75) (TRef.of (T := ⟨S32x16x8732, .i32⟩) main_call1_v0) (TRef.of (T := ⟨S_, .f32⟩) main_call1_cst) (TRef.of (T := ⟨S_, .i32⟩) main_call1_c) (TRef.of (T := ⟨S32x8732, .i32⟩) main_v79) (fun x y u v => (fun j => (Host.argReduce reducer_argmax_f32_i32 x y u v reducesTo_S32x16x8732_S32x8732_d1 h_S_ j).2)),
    TRef.nullary (TRef.of (T := ⟨S32x16x8732, .i32⟩) main_call2_v0) (iotaInDim S32x16x8732 32 2),
    TRef.nullary (TRef.of (T := ⟨S_, .f32⟩) main_call2_cst) (constant S_ .f32 0xFF800000#32) ]

/-- @main's operations 93 … 122 of 337 (window `main_part1`). -/
abbrev ops_part1_1 : List (HloOp τ sig (Elt F)) :=
  [ TRef.nullary (TRef.of (T := ⟨S_, .i32⟩) main_call2_c) (constantI S_ 32 0#32),
    TRef.quaternary (TRef.of (T := ⟨S32x16x8732, .f32⟩) main_v75) (TRef.of (T := ⟨S32x16x8732, .i32⟩) main_call2_v0) (TRef.of (T := ⟨S_, .f32⟩) main_call2_cst) (TRef.of (T := ⟨S_, .i32⟩) main_call2_c) (TRef.of (T := ⟨S32x16, .f32⟩) main_call2_v1_0) (fun x y u v => (fun j => (Host.argReduce reducer_argmax_f32_i32 x y u v reducesTo_S32x16x8732_S32x16_d2 h_S_ j).1)),
    TRef.quaternary (TRef.of (T := ⟨S32x16x8732, .f32⟩) main_v75) (TRef.of (T := ⟨S32x16x8732, .i32⟩) main_call2_v0) (TRef.of (T := ⟨S_, .f32⟩) main_call2_cst) (TRef.of (T := ⟨S_, .i32⟩) main_call2_c) (TRef.of (T := ⟨S32x16, .i32⟩) main_v80) (fun x y u v => (fun j => (Host.argReduce reducer_argmax_f32_i32 x y u v reducesTo_S32x16x8732_S32x16_d2 h_S_ j).2)),
    nullary main_v81 (iotaInDim S16 32 0),
    unary main_v81 main_v82 (broadcastInDim S32x16 ![1] bcast_S16_S32x16_1 : (⟨S16, .i32⟩ : BufTy).Contents (Elt F) → (⟨S32x16, .i32⟩ : BufTy).Contents (Elt F)),
    nullary main_c (constantI S_ 32 0#32),
    unary main_c main_v83 (broadcastInDim S32x1 ![] bcast_S_S32x1 : (⟨S_, .i32⟩ : BufTy).Contents (Elt F) → (⟨S32x1, .i32⟩ : BufTy).Contents (Elt F)),
    binary main_v77 main_v83 main_v84 (cmpi .slt : (⟨S32x1, .i32⟩ : BufTy).Contents (Elt F) → (⟨S32x1, .i32⟩ : BufTy).Contents (Elt F) → (⟨S32x1, .i1⟩ : BufTy).Contents (Elt F)),
    nullary main_c_3 (constantI S_ 32 32#32),
    unary main_c_3 main_v85 (broadcastInDim S32x1 ![] bcast_S_S32x1 : (⟨S_, .i32⟩ : BufTy).Contents (Elt F) → (⟨S32x1, .i32⟩ : BufTy).Contents (Elt F)),
    binary main_v77 main_v85 main_v86 (addi : (⟨S32x1, .i32⟩ : BufTy).Contents (Elt F) → (⟨S32x1, .i32⟩ : BufTy).Contents (Elt F) → (⟨S32x1, .i32⟩ : BufTy).Contents (Elt F)),
    ternary main_v84 main_v86 main_v77 main_v87 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_4 (constantI S_ 32 0#32),
    unary main_c_4 main_v88 (broadcastInDim S32x16 ![] bcast_S_S32x16 : (⟨S_, .i32⟩ : BufTy).Contents (Elt F) → (⟨S32x16, .i32⟩ : BufTy).Contents (Elt F)),
    binary main_v80 main_v88 main_v89 (cmpi .slt : (⟨S32x16, .i32⟩ : BufTy).Contents (Elt F) → (⟨S32x16, .i32⟩ : BufTy).Contents (Elt F) → (⟨S32x16, .i1⟩ : BufTy).Contents (Elt F)),
    nullary main_c_5 (constantI S_ 32 8732#32),
    unary main_c_5 main_v90 (broadcastInDim S32x16 ![] bcast_S_S32x16 : (⟨S_, .i32⟩ : BufTy).Contents (Elt F) → (⟨S32x16, .i32⟩ : BufTy).Contents (Elt F)),
    binary main_v80 main_v90 main_v91 (addi : (⟨S32x16, .i32⟩ : BufTy).Contents (Elt F) → (⟨S32x16, .i32⟩ : BufTy).Contents (Elt F) → (⟨S32x16, .i32⟩ : BufTy).Contents (Elt F)),
    ternary main_v89 main_v91 main_v80 main_v92 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F)),
    unary main_v87 main_v93 (broadcastInDim S32x16 ![0, 1] bcast_S32x1_S32x16_0_1 : (⟨S32x1, .i32⟩ : BufTy).Contents (Elt F) → (⟨S32x16, .i32⟩ : BufTy).Contents (Elt F)),
    unary main_v93 main_v94 (broadcastInDim S32x16x1 ![0, 1] bcast_S32x16_S32x16x1_0_1 : (⟨S32x16, .i32⟩ : BufTy).Contents (Elt F) → (⟨S32x16x1, .i32⟩ : BufTy).Contents (Elt F)),
    unary main_v92 main_v95 (broadcastInDim S32x16x1 ![0, 1] bcast_S32x16_S32x16x1_0_1 : (⟨S32x16, .i32⟩ : BufTy).Contents (Elt F) → (⟨S32x16x1, .i32⟩ : BufTy).Contents (Elt F)),
    binary main_v94 main_v95 main_v96 (fn_main_v96 (F := F)),
    ternary main_v79 main_v96 main_v82 main_v97 ((fun x i u => Host.scatter scatter_S32x8732_S32x16x2_S32x16_n_01_01_2 (fun _ b => b) x i u) : (⟨S32x8732, .i32⟩ : BufTy).Contents (Elt F) → (⟨S32x16x2, .i32⟩ : BufTy).Contents (Elt F) → (⟨S32x16, .i32⟩ : BufTy).Contents (Elt F) → (⟨S32x8732, .i32⟩ : BufTy).Contents (Elt F)),
    nullary main_c_6 (constantI S_ 32 0#32),
    unary main_c_6 main_v98 (broadcastInDim S32x1 ![] bcast_S_S32x1 : (⟨S_, .i32⟩ : BufTy).Contents (Elt F) → (⟨S32x1, .i32⟩ : BufTy).Contents (Elt F)),
    binary main_v77 main_v98 main_v99 (cmpi .slt : (⟨S32x1, .i32⟩ : BufTy).Contents (Elt F) → (⟨S32x1, .i32⟩ : BufTy).Contents (Elt F) → (⟨S32x1, .i1⟩ : BufTy).Contents (Elt F)),
    nullary main_c_7 (constantI S_ 32 32#32),
    unary main_c_7 main_v100 (broadcastInDim S32x1 ![] bcast_S_S32x1 : (⟨S_, .i32⟩ : BufTy).Contents (Elt F) → (⟨S32x1, .i32⟩ : BufTy).Contents (Elt F)),
    binary main_v77 main_v100 main_v101 (addi : (⟨S32x1, .i32⟩ : BufTy).Contents (Elt F) → (⟨S32x1, .i32⟩ : BufTy).Contents (Elt F) → (⟨S32x1, .i32⟩ : BufTy).Contents (Elt F)) ]

/-- @main's operations 123 … 130 of 337 (window `main_part1`). -/
abbrev ops_part1_2 : List (HloOp τ sig (Elt F)) :=
  [ ternary main_v99 main_v101 main_v77 main_v102 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_8 (constantI S_ 32 0#32),
    unary main_c_8 main_v103 (broadcastInDim S32x16 ![] bcast_S_S32x16 : (⟨S_, .i32⟩ : BufTy).Contents (Elt F) → (⟨S32x16, .i32⟩ : BufTy).Contents (Elt F)),
    binary main_v80 main_v103 main_v104 (cmpi .slt : (⟨S32x16, .i32⟩ : BufTy).Contents (Elt F) → (⟨S32x16, .i32⟩ : BufTy).Contents (Elt F) → (⟨S32x16, .i1⟩ : BufTy).Contents (Elt F)),
    nullary main_c_9 (constantI S_ 32 8732#32),
    unary main_c_9 main_v105 (broadcastInDim S32x16 ![] bcast_S_S32x16 : (⟨S_, .i32⟩ : BufTy).Contents (Elt F) → (⟨S32x16, .i32⟩ : BufTy).Contents (Elt F)),
    binary main_v80 main_v105 main_v106 (addi : (⟨S32x16, .i32⟩ : BufTy).Contents (Elt F) → (⟨S32x16, .i32⟩ : BufTy).Contents (Elt F) → (⟨S32x16, .i32⟩ : BufTy).Contents (Elt F)),
    ternary main_v104 main_v106 main_v80 main_v107 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 131 … 160 of 337 (window `main_part2`). -/
abbrev ops_part2_0 : List (HloOp τ sig (Elt F)) :=
  [ unary main_v102 main_v108 (broadcastInDim S32x16 ![0, 1] bcast_S32x1_S32x16_0_1 : (⟨S32x1, .i32⟩ : BufTy).Contents (Elt F) → (⟨S32x16, .i32⟩ : BufTy).Contents (Elt F)),
    unary main_v108 main_v109 (broadcastInDim S32x16x1 ![0, 1] bcast_S32x16_S32x16x1_0_1 : (⟨S32x16, .i32⟩ : BufTy).Contents (Elt F) → (⟨S32x16x1, .i32⟩ : BufTy).Contents (Elt F)),
    unary main_v107 main_v110 (broadcastInDim S32x16x1 ![0, 1] bcast_S32x16_S32x16x1_0_1 : (⟨S32x16, .i32⟩ : BufTy).Contents (Elt F) → (⟨S32x16x1, .i32⟩ : BufTy).Contents (Elt F)),
    binary main_v109 main_v110 main_v111 (fn_main_v111 (F := F)),
    nullary main_cst_10 (constant S_ .f32 0x3F000000#32),
    unary main_cst_10 main_v112 (broadcastInDim S32x16 ![] bcast_S_S32x16 : (⟨S_, .f32⟩ : BufTy).Contents (Elt F) → (⟨S32x16, .f32⟩ : BufTy).Contents (Elt F)),
    ternary main_v78 main_v111 main_v112 main_v113 ((fun x i u => Host.scatter scatter_S32x8732_S32x16x2_S32x16_n_01_01_2 (fun _ b => b) x i u) : (⟨S32x8732, .f32⟩ : BufTy).Contents (Elt F) → (⟨S32x16x2, .i32⟩ : BufTy).Contents (Elt F) → (⟨S32x16, .f32⟩ : BufTy).Contents (Elt F) → (⟨S32x8732, .f32⟩ : BufTy).Contents (Elt F)),
    nullary main_c_11 (constantI S_ 32 0#32),
    unary main_c_11 main_v114 (broadcastInDim S32x1 ![] bcast_S_S32x1 : (⟨S_, .i32⟩ : BufTy).Contents (Elt F) → (⟨S32x1, .i32⟩ : BufTy).Contents (Elt F)),
    binary main_v77 main_v114 main_v115 (cmpi .slt : (⟨S32x1, .i32⟩ : BufTy).Contents (Elt F) → (⟨S32x1, .i32⟩ : BufTy).Contents (Elt F) → (⟨S32x1, .i1⟩ : BufTy).Contents (Elt F)),
    nullary main_c_12 (constantI S_ 32 32#32),
    unary main_c_12 main_v116 (broadcastInDim S32x1 ![] bcast_S_S32x1 : (⟨S_, .i32⟩ : BufTy).Contents (Elt F) → (⟨S32x1, .i32⟩ : BufTy).Contents (Elt F)),
    binary main_v77 main_v116 main_v117 (addi : (⟨S32x1, .i32⟩ : BufTy).Contents (Elt F) → (⟨S32x1, .i32⟩ : BufTy).Contents (Elt F) → (⟨S32x1, .i32⟩ : BufTy).Contents (Elt F)),
    ternary main_v115 main_v117 main_v77 main_v118 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_13 (constantI S_ 32 0#32),
    unary main_c_13 main_v119 (broadcastInDim S32x8732 ![] bcast_S_S32x8732 : (⟨S_, .i32⟩ : BufTy).Contents (Elt F) → (⟨S32x8732, .i32⟩ : BufTy).Contents (Elt F)),
    binary main_v97 main_v119 main_v120 (cmpi .slt : (⟨S32x8732, .i32⟩ : BufTy).Contents (Elt F) → (⟨S32x8732, .i32⟩ : BufTy).Contents (Elt F) → (⟨S32x8732, .i1⟩ : BufTy).Contents (Elt F)),
    nullary main_c_14 (constantI S_ 32 16#32),
    unary main_c_14 main_v121 (broadcastInDim S32x8732 ![] bcast_S_S32x8732 : (⟨S_, .i32⟩ : BufTy).Contents (Elt F) → (⟨S32x8732, .i32⟩ : BufTy).Contents (Elt F)),
    binary main_v97 main_v121 main_v122 (addi : (⟨S32x8732, .i32⟩ : BufTy).Contents (Elt F) → (⟨S32x8732, .i32⟩ : BufTy).Contents (Elt F) → (⟨S32x8732, .i32⟩ : BufTy).Contents (Elt F)),
    ternary main_v120 main_v122 main_v97 main_v123 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F)),
    unary main_v118 main_v124 (broadcastInDim S32x8732 ![0, 1] bcast_S32x1_S32x8732_0_1 : (⟨S32x1, .i32⟩ : BufTy).Contents (Elt F) → (⟨S32x8732, .i32⟩ : BufTy).Contents (Elt F)),
    unary main_v124 main_v125 (broadcastInDim S32x8732x1 ![0, 1] bcast_S32x8732_S32x8732x1_0_1 : (⟨S32x8732, .i32⟩ : BufTy).Contents (Elt F) → (⟨S32x8732x1, .i32⟩ : BufTy).Contents (Elt F)),
    unary main_v123 main_v126 (broadcastInDim S32x8732x1 ![0, 1] bcast_S32x8732_S32x8732x1_0_1 : (⟨S32x8732, .i32⟩ : BufTy).Contents (Elt F) → (⟨S32x8732x1, .i32⟩ : BufTy).Contents (Elt F)),
    binary main_v125 main_v126 main_v127 (fn_main_v127 (F := F)),
    binary main_arg3 main_v127 main_v128 ((fun x i => Host.gather gather_S32x16_S32x8732x2_S32x8732_n_01_n_n_01_2_11 x i) : (⟨S32x16, .i32⟩ : BufTy).Contents (Elt F) → (⟨S32x8732x2, .i32⟩ : BufTy).Contents (Elt F) → (⟨S32x8732, .i32⟩ : BufTy).Contents (Elt F)),
    nullary main_cst_15 (constant S_ .f32 0x3F000000#32),
    unary main_cst_15 main_v129 (broadcastInDim S32x8732 ![] bcast_S_S32x8732 : (⟨S_, .f32⟩ : BufTy).Contents (Elt F) → (⟨S32x8732, .f32⟩ : BufTy).Contents (Elt F)),
    binary main_v113 main_v129 main_v130 (cmpf .olt : (⟨S32x8732, .f32⟩ : BufTy).Contents (Elt F) → (⟨S32x8732, .f32⟩ : BufTy).Contents (Elt F) → (⟨S32x8732, .i1⟩ : BufTy).Contents (Elt F)),
    nullary main_c_16 (constantI S_ 32 0#32) ]

/-- @main's operations 161 … 190 of 337 (window `main_part2`). -/
abbrev ops_part2_1 : List (HloOp τ sig (Elt F)) :=
  [ TRef.unary (TRef.of (T := ⟨S_, .i32⟩) main_c_16) (TRef.of (T := ⟨S_, .i32⟩) main_call3_v0) id,
    TRef.unary (TRef.of (T := ⟨S_, .i32⟩) main_call3_v0) (TRef.of (T := ⟨S32x8732, .i32⟩) main_call3_v1) (broadcastInDim S32x8732 ![] bcast_S_S32x8732),
    TRef.ternary (TRef.of (T := ⟨S32x8732, .i1⟩) main_v130) (TRef.of (T := ⟨S32x8732, .i32⟩) main_call3_v1) (TRef.of (T := ⟨S32x8732, .i32⟩) main_v128) (TRef.of (T := ⟨S32x8732, .i32⟩) main_v131) select,
    nullary main_c_17 (constantI S_ 32 0#32),
    unary main_c_17 main_v132 (broadcastInDim S32x1 ![] bcast_S_S32x1 : (⟨S_, .i32⟩ : BufTy).Contents (Elt F) → (⟨S32x1, .i32⟩ : BufTy).Contents (Elt F)),
    binary main_v77 main_v132 main_v133 (cmpi .slt : (⟨S32x1, .i32⟩ : BufTy).Contents (Elt F) → (⟨S32x1, .i32⟩ : BufTy).Contents (Elt F) → (⟨S32x1, .i1⟩ : BufTy).Contents (Elt F)),
    nullary main_c_18 (constantI S_ 32 32#32),
    unary main_c_18 main_v134 (broadcastInDim S32x1 ![] bcast_S_S32x1 : (⟨S_, .i32⟩ : BufTy).Contents (Elt F) → (⟨S32x1, .i32⟩ : BufTy).Contents (Elt F)),
    binary main_v77 main_v134 main_v135 (addi : (⟨S32x1, .i32⟩ : BufTy).Contents (Elt F) → (⟨S32x1, .i32⟩ : BufTy).Contents (Elt F) → (⟨S32x1, .i32⟩ : BufTy).Contents (Elt F)),
    ternary main_v133 main_v135 main_v77 main_v136 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_19 (constantI S_ 32 0#32),
    unary main_c_19 main_v137 (broadcastInDim S32x8732 ![] bcast_S_S32x8732 : (⟨S_, .i32⟩ : BufTy).Contents (Elt F) → (⟨S32x8732, .i32⟩ : BufTy).Contents (Elt F)),
    binary main_v97 main_v137 main_v138 (cmpi .slt : (⟨S32x8732, .i32⟩ : BufTy).Contents (Elt F) → (⟨S32x8732, .i32⟩ : BufTy).Contents (Elt F) → (⟨S32x8732, .i1⟩ : BufTy).Contents (Elt F)),
    nullary main_c_20 (constantI S_ 32 16#32),
    unary main_c_20 main_v139 (broadcastInDim S32x8732 ![] bcast_S_S32x8732 : (⟨S_, .i32⟩ : BufTy).Contents (Elt F) → (⟨S32x8732, .i32⟩ : BufTy).Contents (Elt F)),
    binary main_v97 main_v139 main_v140 (addi : (⟨S32x8732, .i32⟩ : BufTy).Contents (Elt F) → (⟨S32x8732, .i32⟩ : BufTy).Contents (Elt F) → (⟨S32x8732, .i32⟩ : BufTy).Contents (Elt F)),
    ternary main_v138 main_v140 main_v97 main_v141 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F)),
    unary main_v136 main_v142 (broadcastInDim S32x8732 ![0, 1] bcast_S32x1_S32x8732_0_1 : (⟨S32x1, .i32⟩ : BufTy).Contents (Elt F) → (⟨S32x8732, .i32⟩ : BufTy).Contents (Elt F)),
    unary main_v142 main_v143 (broadcastInDim S32x8732x1 ![0, 1] bcast_S32x8732_S32x8732x1_0_1 : (⟨S32x8732, .i32⟩ : BufTy).Contents (Elt F) → (⟨S32x8732x1, .i32⟩ : BufTy).Contents (Elt F)),
    unary main_v141 main_v144 (broadcastInDim S32x8732x1 ![0, 1] bcast_S32x8732_S32x8732x1_0_1 : (⟨S32x8732, .i32⟩ : BufTy).Contents (Elt F) → (⟨S32x8732x1, .i32⟩ : BufTy).Contents (Elt F)),
    binary main_v143 main_v144 main_v145 (fn_main_v145 (F := F)),
    binary main_arg2 main_v145 main_v146 ((fun x i => Host.gather gather_S32x16x4_S32x8732x2_S32x8732x4_2_01_n_n_01_2_114 x i) : (⟨S32x16x4, .f32⟩ : BufTy).Contents (Elt F) → (⟨S32x8732x2, .i32⟩ : BufTy).Contents (Elt F) → (⟨S32x8732x4, .f32⟩ : BufTy).Contents (Elt F)),
    unary main_v146 main_v147 ((extractStridedSlice S32x8732x1 ![0, 0, 0] · slices_S32x8732x4_S32x8732x1_0_0_0) : (⟨S32x8732x4, .f32⟩ : BufTy).Contents (Elt F) → (⟨S32x8732x1, .f32⟩ : BufTy).Contents (Elt F)),
    reshape main_v147 main_v148 (rfl : (.f32 : EltTy) = .f32) shapeCasts_S32x8732x1_S32x8732,
    unary main_v146 main_v149 ((extractStridedSlice S32x8732x1 ![0, 0, 2] · slices_S32x8732x4_S32x8732x1_0_0_2) : (⟨S32x8732x4, .f32⟩ : BufTy).Contents (Elt F) → (⟨S32x8732x1, .f32⟩ : BufTy).Contents (Elt F)),
    reshape main_v149 main_v150 (rfl : (.f32 : EltTy) = .f32) shapeCasts_S32x8732x1_S32x8732,
    binary main_v148 main_v150 main_v151 (addf : (⟨S32x8732, .f32⟩ : BufTy).Contents (Elt F) → (⟨S32x8732, .f32⟩ : BufTy).Contents (Elt F) → (⟨S32x8732, .f32⟩ : BufTy).Contents (Elt F)),
    nullary main_cst_21 (constant S_ .f32 0x40000000#32),
    unary main_cst_21 main_v152 (broadcastInDim S32x8732 ![] bcast_S_S32x8732 : (⟨S_, .f32⟩ : BufTy).Contents (Elt F) → (⟨S32x8732, .f32⟩ : BufTy).Contents (Elt F)),
    binary main_v151 main_v152 main_v153 (Host.divf : (⟨S32x8732, .f32⟩ : BufTy).Contents (Elt F) → (⟨S32x8732, .f32⟩ : BufTy).Contents (Elt F) → (⟨S32x8732, .f32⟩ : BufTy).Contents (Elt F)) ]

/-- @main's operations 191 … 192 of 337 (window `main_part2`). -/
abbrev ops_part2_2 : List (HloOp τ sig (Elt F)) :=
  [ unary main_v146 main_v154 ((extractStridedSlice S32x8732x1 ![0, 0, 1] · slices_S32x8732x4_S32x8732x1_0_0_1) : (⟨S32x8732x4, .f32⟩ : BufTy).Contents (Elt F) → (⟨S32x8732x1, .f32⟩ : BufTy).Contents (Elt F)),
    reshape main_v154 main_v155 (rfl : (.f32 : EltTy) = .f32) shapeCasts_S32x8732x1_S32x8732 ]

/-- Window `main_part2`'s operations. Not an abbreviation: `main_eq` below splits `ops` into the windows and no further. -/
def ops_part2 : List (HloOp τ sig (Elt F)) :=
  ops_part2_0 ++ (ops_part2_1 ++ (ops_part2_2))

/-- @main's operations 193 … 252 of 337 (window `main_part3`). -/
abbrev ops_part3 : List (HloOp τ sig (Elt F)) :=
  [ unary main_v146 main_v156 ((extractStridedSlice S32x8732x1 ![0, 0, 3] · slices_S32x8732x4_S32x8732x1_0_0_3) : (⟨S32x8732x4, .f32⟩ : BufTy).Contents (Elt F) → (⟨S32x8732x1, .f32⟩ : BufTy).Contents (Elt F)),
    reshape main_v156 main_v157 (rfl : (.f32 : EltTy) = .f32) shapeCasts_S32x8732x1_S32x8732,
    binary main_v155 main_v157 main_v158 (addf : (⟨S32x8732, .f32⟩ : BufTy).Contents (Elt F) → (⟨S32x8732, .f32⟩ : BufTy).Contents (Elt F) → (⟨S32x8732, .f32⟩ : BufTy).Contents (Elt F)),
    nullary main_cst_22 (constant S_ .f32 0x40000000#32),
    unary main_cst_22 main_v159 (broadcastInDim S32x8732 ![] bcast_S_S32x8732 : (⟨S_, .f32⟩ : BufTy).Contents (Elt F) → (⟨S32x8732, .f32⟩ : BufTy).Contents (Elt F)),
    binary main_v158 main_v159 main_v160 (Host.divf : (⟨S32x8732, .f32⟩ : BufTy).Contents (Elt F) → (⟨S32x8732, .f32⟩ : BufTy).Contents (Elt F) → (⟨S32x8732, .f32⟩ : BufTy).Contents (Elt F)),
    unary main_v146 main_v161 ((extractStridedSlice S32x8732x1 ![0, 0, 2] · slices_S32x8732x4_S32x8732x1_0_0_2) : (⟨S32x8732x4, .f32⟩ : BufTy).Contents (Elt F) → (⟨S32x8732x1, .f32⟩ : BufTy).Contents (Elt F)),
    reshape main_v161 main_v162 (rfl : (.f32 : EltTy) = .f32) shapeCasts_S32x8732x1_S32x8732,
    unary main_v146 main_v163 ((extractStridedSlice S32x8732x1 ![0, 0, 3] · slices_S32x8732x4_S32x8732x1_0_0_3) : (⟨S32x8732x4, .f32⟩ : BufTy).Contents (Elt F) → (⟨S32x8732x1, .f32⟩ : BufTy).Contents (Elt F)),
    reshape main_v163 main_v164 (rfl : (.f32 : EltTy) = .f32) shapeCasts_S32x8732x1_S32x8732,
    unary main_v153 main_v165 (broadcastInDim S32x8732x1 ![0, 1] bcast_S32x8732_S32x8732x1_0_1 : (⟨S32x8732, .f32⟩ : BufTy).Contents (Elt F) → (⟨S32x8732x1, .f32⟩ : BufTy).Contents (Elt F)),
    unary main_v160 main_v166 (broadcastInDim S32x8732x1 ![0, 1] bcast_S32x8732_S32x8732x1_0_1 : (⟨S32x8732, .f32⟩ : BufTy).Contents (Elt F) → (⟨S32x8732x1, .f32⟩ : BufTy).Contents (Elt F)),
    unary main_v162 main_v167 (broadcastInDim S32x8732x1 ![0, 1] bcast_S32x8732_S32x8732x1_0_1 : (⟨S32x8732, .f32⟩ : BufTy).Contents (Elt F) → (⟨S32x8732x1, .f32⟩ : BufTy).Contents (Elt F)),
    unary main_v164 main_v168 (broadcastInDim S32x8732x1 ![0, 1] bcast_S32x8732_S32x8732x1_0_1 : (⟨S32x8732, .f32⟩ : BufTy).Contents (Elt F) → (⟨S32x8732x1, .f32⟩ : BufTy).Contents (Elt F)),
    nary ![main_v165, main_v166, main_v167, main_v168] main_v169 (fun u => fn_main_v169 (F := F) (u 0) (u 1) (u 2) (u 3)),
    unary main_v169 main_v170 ((extractStridedSlice S32x8732x1 ![0, 0, 0] · slices_S32x8732x4_S32x8732x1_0_0_0) : (⟨S32x8732x4, .f32⟩ : BufTy).Contents (Elt F) → (⟨S32x8732x1, .f32⟩ : BufTy).Contents (Elt F)),
    reshape main_v170 main_v171 (rfl : (.f32 : EltTy) = .f32) shapeCasts_S32x8732x1_S32x8732,
    unary main_arg4 main_v172 ((extractStridedSlice S8732x1 ![0, 0] · slices_S8732x4_S8732x1_0_0) : (⟨S8732x4, .f32⟩ : BufTy).Contents (Elt F) → (⟨S8732x1, .f32⟩ : BufTy).Contents (Elt F)),
    reshape main_v172 main_v173 (rfl : (.f32 : EltTy) = .f32) shapeCasts_S8732x1_S8732,
    unary main_v173 main_v174 (broadcastInDim S1x8732 ![1] bcast_S8732_S1x8732_1 : (⟨S8732, .f32⟩ : BufTy).Contents (Elt F) → (⟨S1x8732, .f32⟩ : BufTy).Contents (Elt F)),
    unary main_v174 main_v175 (broadcastInDim S32x8732 ![0, 1] bcast_S1x8732_S32x8732_0_1 : (⟨S1x8732, .f32⟩ : BufTy).Contents (Elt F) → (⟨S32x8732, .f32⟩ : BufTy).Contents (Elt F)),
    binary main_v171 main_v175 main_v176 (subf : (⟨S32x8732, .f32⟩ : BufTy).Contents (Elt F) → (⟨S32x8732, .f32⟩ : BufTy).Contents (Elt F) → (⟨S32x8732, .f32⟩ : BufTy).Contents (Elt F)),
    unary main_arg4 main_v177 ((extractStridedSlice S8732x1 ![0, 2] · slices_S8732x4_S8732x1_0_2) : (⟨S8732x4, .f32⟩ : BufTy).Contents (Elt F) → (⟨S8732x1, .f32⟩ : BufTy).Contents (Elt F)),
    reshape main_v177 main_v178 (rfl : (.f32 : EltTy) = .f32) shapeCasts_S8732x1_S8732,
    unary main_v178 main_v179 (broadcastInDim S1x8732 ![1] bcast_S8732_S1x8732_1 : (⟨S8732, .f32⟩ : BufTy).Contents (Elt F) → (⟨S1x8732, .f32⟩ : BufTy).Contents (Elt F)),
    unary main_v179 main_v180 (broadcastInDim S32x8732 ![0, 1] bcast_S1x8732_S32x8732_0_1 : (⟨S1x8732, .f32⟩ : BufTy).Contents (Elt F) → (⟨S32x8732, .f32⟩ : BufTy).Contents (Elt F)),
    binary main_v176 main_v180 main_v181 (Host.divf : (⟨S32x8732, .f32⟩ : BufTy).Contents (Elt F) → (⟨S32x8732, .f32⟩ : BufTy).Contents (Elt F) → (⟨S32x8732, .f32⟩ : BufTy).Contents (Elt F)),
    unary main_v169 main_v182 ((extractStridedSlice S32x8732x1 ![0, 0, 1] · slices_S32x8732x4_S32x8732x1_0_0_1) : (⟨S32x8732x4, .f32⟩ : BufTy).Contents (Elt F) → (⟨S32x8732x1, .f32⟩ : BufTy).Contents (Elt F)),
    reshape main_v182 main_v183 (rfl : (.f32 : EltTy) = .f32) shapeCasts_S32x8732x1_S32x8732,
    unary main_arg4 main_v184 ((extractStridedSlice S8732x1 ![0, 1] · slices_S8732x4_S8732x1_0_1) : (⟨S8732x4, .f32⟩ : BufTy).Contents (Elt F) → (⟨S8732x1, .f32⟩ : BufTy).Contents (Elt F)),
    reshape main_v184 main_v185 (rfl : (.f32 : EltTy) = .f32) shapeCasts_S8732x1_S8732,
    unary main_v185 main_v186 (broadcastInDim S1x8732 ![1] bcast_S8732_S1x8732_1 : (⟨S8732, .f32⟩ : BufTy).Contents (Elt F) → (⟨S1x8732, .f32⟩ : BufTy).Contents (Elt F)),
    unary main_v186 main_v187 (broadcastInDim S32x8732 ![0, 1] bcast_S1x8732_S32x8732_0_1 : (⟨S1x8732, .f32⟩ : BufTy).Contents (Elt F) → (⟨S32x8732, .f32⟩ : BufTy).Contents (Elt F)),
    binary main_v183 main_v187 main_v188 (subf : (⟨S32x8732, .f32⟩ : BufTy).Contents (Elt F) → (⟨S32x8732, .f32⟩ : BufTy).Contents (Elt F) → (⟨S32x8732, .f32⟩ : BufTy).Contents (Elt F)),
    unary main_arg4 main_v189 ((extractStridedSlice S8732x1 ![0, 3] · slices_S8732x4_S8732x1_0_3) : (⟨S8732x4, .f32⟩ : BufTy).Contents (Elt F) → (⟨S8732x1, .f32⟩ : BufTy).Contents (Elt F)),
    reshape main_v189 main_v190 (rfl : (.f32 : EltTy) = .f32) shapeCasts_S8732x1_S8732,
    unary main_v190 main_v191 (broadcastInDim S1x8732 ![1] bcast_S8732_S1x8732_1 : (⟨S8732, .f32⟩ : BufTy).Contents (Elt F) → (⟨S1x8732, .f32⟩ : BufTy).Contents (Elt F)),
    unary main_v191 main_v192 (broadcastInDim S32x8732 ![0, 1] bcast_S1x8732_S32x8732_0_1 : (⟨S1x8732, .f32⟩ : BufTy).Contents (Elt F) → (⟨S32x8732, .f32⟩ : BufTy).Contents (Elt F)),
    binary main_v188 main_v192 main_v193 (Host.divf : (⟨S32x8732, .f32⟩ : BufTy).Contents (Elt F) → (⟨S32x8732, .f32⟩ : BufTy).Contents (Elt F) → (⟨S32x8732, .f32⟩ : BufTy).Contents (Elt F)),
    unary main_v169 main_v194 ((extractStridedSlice S32x8732x1 ![0, 0, 2] · slices_S32x8732x4_S32x8732x1_0_0_2) : (⟨S32x8732x4, .f32⟩ : BufTy).Contents (Elt F) → (⟨S32x8732x1, .f32⟩ : BufTy).Contents (Elt F)),
    reshape main_v194 main_v195 (rfl : (.f32 : EltTy) = .f32) shapeCasts_S32x8732x1_S32x8732,
    unary main_arg4 main_v196 ((extractStridedSlice S8732x1 ![0, 2] · slices_S8732x4_S8732x1_0_2) : (⟨S8732x4, .f32⟩ : BufTy).Contents (Elt F) → (⟨S8732x1, .f32⟩ : BufTy).Contents (Elt F)),
    reshape main_v196 main_v197 (rfl : (.f32 : EltTy) = .f32) shapeCasts_S8732x1_S8732,
    unary main_v197 main_v198 (broadcastInDim S1x8732 ![1] bcast_S8732_S1x8732_1 : (⟨S8732, .f32⟩ : BufTy).Contents (Elt F) → (⟨S1x8732, .f32⟩ : BufTy).Contents (Elt F)),
    unary main_v198 main_v199 (broadcastInDim S32x8732 ![0, 1] bcast_S1x8732_S32x8732_0_1 : (⟨S1x8732, .f32⟩ : BufTy).Contents (Elt F) → (⟨S32x8732, .f32⟩ : BufTy).Contents (Elt F)),
    binary main_v195 main_v199 main_v200 (Host.divf : (⟨S32x8732, .f32⟩ : BufTy).Contents (Elt F) → (⟨S32x8732, .f32⟩ : BufTy).Contents (Elt F) → (⟨S32x8732, .f32⟩ : BufTy).Contents (Elt F)),
    unary main_v200 main_v201 (Host.log : (⟨S32x8732, .f32⟩ : BufTy).Contents (Elt F) → (⟨S32x8732, .f32⟩ : BufTy).Contents (Elt F)),
    unary main_v169 main_v202 ((extractStridedSlice S32x8732x1 ![0, 0, 3] · slices_S32x8732x4_S32x8732x1_0_0_3) : (⟨S32x8732x4, .f32⟩ : BufTy).Contents (Elt F) → (⟨S32x8732x1, .f32⟩ : BufTy).Contents (Elt F)),
    reshape main_v202 main_v203 (rfl : (.f32 : EltTy) = .f32) shapeCasts_S32x8732x1_S32x8732,
    unary main_arg4 main_v204 ((extractStridedSlice S8732x1 ![0, 3] · slices_S8732x4_S8732x1_0_3) : (⟨S8732x4, .f32⟩ : BufTy).Contents (Elt F) → (⟨S8732x1, .f32⟩ : BufTy).Contents (Elt F)),
    reshape main_v204 main_v205 (rfl : (.f32 : EltTy) = .f32) shapeCasts_S8732x1_S8732,
    unary main_v205 main_v206 (broadcastInDim S1x8732 ![1] bcast_S8732_S1x8732_1 : (⟨S8732, .f32⟩ : BufTy).Contents (Elt F) → (⟨S1x8732, .f32⟩ : BufTy).Contents (Elt F)),
    unary main_v206 main_v207 (broadcastInDim S32x8732 ![0, 1] bcast_S1x8732_S32x8732_0_1 : (⟨S1x8732, .f32⟩ : BufTy).Contents (Elt F) → (⟨S32x8732, .f32⟩ : BufTy).Contents (Elt F)),
    binary main_v203 main_v207 main_v208 (Host.divf : (⟨S32x8732, .f32⟩ : BufTy).Contents (Elt F) → (⟨S32x8732, .f32⟩ : BufTy).Contents (Elt F) → (⟨S32x8732, .f32⟩ : BufTy).Contents (Elt F)),
    unary main_v208 main_v209 (Host.log : (⟨S32x8732, .f32⟩ : BufTy).Contents (Elt F) → (⟨S32x8732, .f32⟩ : BufTy).Contents (Elt F)),
    unary main_v181 main_v210 (broadcastInDim S32x8732x1 ![0, 1] bcast_S32x8732_S32x8732x1_0_1 : (⟨S32x8732, .f32⟩ : BufTy).Contents (Elt F) → (⟨S32x8732x1, .f32⟩ : BufTy).Contents (Elt F)),
    unary main_v193 main_v211 (broadcastInDim S32x8732x1 ![0, 1] bcast_S32x8732_S32x8732x1_0_1 : (⟨S32x8732, .f32⟩ : BufTy).Contents (Elt F) → (⟨S32x8732x1, .f32⟩ : BufTy).Contents (Elt F)),
    unary main_v201 main_v212 (broadcastInDim S32x8732x1 ![0, 1] bcast_S32x8732_S32x8732x1_0_1 : (⟨S32x8732, .f32⟩ : BufTy).Contents (Elt F) → (⟨S32x8732x1, .f32⟩ : BufTy).Contents (Elt F)),
    unary main_v209 main_v213 (broadcastInDim S32x8732x1 ![0, 1] bcast_S32x8732_S32x8732x1_0_1 : (⟨S32x8732, .f32⟩ : BufTy).Contents (Elt F) → (⟨S32x8732x1, .f32⟩ : BufTy).Contents (Elt F)),
    nary ![main_v210, main_v211, main_v212, main_v213] main_v214 (fun u => fn_main_v214 (F := F) (u 0) (u 1) (u 2) (u 3)) ]

/-- @main's operations 253 … 282 of 337 (window `main_part4`). -/
abbrev ops_part4_0 : List (HloOp τ sig (Elt F)) :=
  [ nullary main_c_23 (constantI S_ 32 0#32),
    unary main_c_23 main_v215 (broadcastInDim S32x8732 ![] bcast_S_S32x8732 : (⟨S_, .i32⟩ : BufTy).Contents (Elt F) → (⟨S32x8732, .i32⟩ : BufTy).Contents (Elt F)),
    binary main_v131 main_v215 main_v216 (cmpi .ne : (⟨S32x8732, .i32⟩ : BufTy).Contents (Elt F) → (⟨S32x8732, .i32⟩ : BufTy).Contents (Elt F) → (⟨S32x8732, .i1⟩ : BufTy).Contents (Elt F)),
    unary main_v216 main_v217 (uitofp .f32 : (⟨S32x8732, .i1⟩ : BufTy).Contents (Elt F) → (⟨S32x8732, .f32⟩ : BufTy).Contents (Elt F)),
    nullary main_cst_24 (constant S_ .f32 0x00000000#32),
    binary main_v217 main_cst_24 main_v218 ((fun x v => Host.reduceAdd x v reducesTo_S32x8732_S32_d1 h_S_) : (⟨S32x8732, .f32⟩ : BufTy).Contents (Elt F) → (⟨S_, .f32⟩ : BufTy).Contents (Elt F) → (⟨S32, .f32⟩ : BufTy).Contents (Elt F)),
    binary main_arg0 main_v214 main_v219 (subf : (⟨S32x8732x4, .f32⟩ : BufTy).Contents (Elt F) → (⟨S32x8732x4, .f32⟩ : BufTy).Contents (Elt F) → (⟨S32x8732x4, .f32⟩ : BufTy).Contents (Elt F)),
    unary main_v219 main_v220 (Host.absf : (⟨S32x8732x4, .f32⟩ : BufTy).Contents (Elt F) → (⟨S32x8732x4, .f32⟩ : BufTy).Contents (Elt F)),
    unary main_v217 main_v221 (broadcastInDim S32x8732x1 ![0, 1] bcast_S32x8732_S32x8732x1_0_1 : (⟨S32x8732, .f32⟩ : BufTy).Contents (Elt F) → (⟨S32x8732x1, .f32⟩ : BufTy).Contents (Elt F)),
    unary main_v221 main_v222 (broadcastInDim S32x8732x4 ![0, 1, 2] bcast_S32x8732x1_S32x8732x4_0_1_2 : (⟨S32x8732x1, .f32⟩ : BufTy).Contents (Elt F) → (⟨S32x8732x4, .f32⟩ : BufTy).Contents (Elt F)),
    binary main_v220 main_v222 main_v223 (mulf : (⟨S32x8732x4, .f32⟩ : BufTy).Contents (Elt F) → (⟨S32x8732x4, .f32⟩ : BufTy).Contents (Elt F) → (⟨S32x8732x4, .f32⟩ : BufTy).Contents (Elt F)),
    nullary main_cst_25 (constant S_ .f32 0x00000000#32),
    binary main_v223 main_cst_25 main_v224 ((fun x v => Host.reduceAdd x v reducesTo_S32x8732x4_S_d0_1_2 h_S_) : (⟨S32x8732x4, .f32⟩ : BufTy).Contents (Elt F) → (⟨S_, .f32⟩ : BufTy).Contents (Elt F) → (⟨S_, .f32⟩ : BufTy).Contents (Elt F)),
    nullary main_cst_26 (constant S_ .f32 0x00000000#32),
    binary main_v217 main_cst_26 main_v225 ((fun x v => Host.reduceAdd x v reducesTo_S32x8732_S_d0_1 h_S_) : (⟨S32x8732, .f32⟩ : BufTy).Contents (Elt F) → (⟨S_, .f32⟩ : BufTy).Contents (Elt F) → (⟨S_, .f32⟩ : BufTy).Contents (Elt F)),
    nullary main_cst_27 (constant S_ .f32 0x40800000#32),
    binary main_v225 main_cst_27 main_v226 (mulf : (⟨S_, .f32⟩ : BufTy).Contents (Elt F) → (⟨S_, .f32⟩ : BufTy).Contents (Elt F) → (⟨S_, .f32⟩ : BufTy).Contents (Elt F)),
    binary main_v224 main_v226 main_v227 (Host.divf : (⟨S_, .f32⟩ : BufTy).Contents (Elt F) → (⟨S_, .f32⟩ : BufTy).Contents (Elt F) → (⟨S_, .f32⟩ : BufTy).Contents (Elt F)),
    reshape main_arg1 main_v228 (rfl : (.f32 : EltTy) = .f32) shapeCasts_S32x8732x81_S279424x81,
    nullary main_cst_28 (constant S_ .f32 0xFF800000#32),
    binary main_v228 main_cst_28 main_v229 ((fun x v => Host.reduce FloatOps.maximumf x v reducesTo_S279424x81_S279424_d1 h_S_) : (⟨S279424x81, .f32⟩ : BufTy).Contents (Elt F) → (⟨S_, .f32⟩ : BufTy).Contents (Elt F) → (⟨S279424, .f32⟩ : BufTy).Contents (Elt F)),
    unary main_v229 main_v230 (broadcastInDim S279424x1 ![0] bcast_S279424_S279424x1_0 : (⟨S279424, .f32⟩ : BufTy).Contents (Elt F) → (⟨S279424x1, .f32⟩ : BufTy).Contents (Elt F)),
    unary main_v230 main_v231 (broadcastInDim S279424x81 ![0, 1] bcast_S279424x1_S279424x81_0_1 : (⟨S279424x1, .f32⟩ : BufTy).Contents (Elt F) → (⟨S279424x81, .f32⟩ : BufTy).Contents (Elt F)),
    binary main_v228 main_v231 main_v232 (subf : (⟨S279424x81, .f32⟩ : BufTy).Contents (Elt F) → (⟨S279424x81, .f32⟩ : BufTy).Contents (Elt F) → (⟨S279424x81, .f32⟩ : BufTy).Contents (Elt F)),
    unary main_v232 main_v233 (Host.exp : (⟨S279424x81, .f32⟩ : BufTy).Contents (Elt F) → (⟨S279424x81, .f32⟩ : BufTy).Contents (Elt F)),
    nullary main_cst_29 (constant S_ .f32 0x00000000#32),
    binary main_v233 main_cst_29 main_v234 ((fun x v => Host.reduceAdd x v reducesTo_S279424x81_S279424_d1 h_S_) : (⟨S279424x81, .f32⟩ : BufTy).Contents (Elt F) → (⟨S_, .f32⟩ : BufTy).Contents (Elt F) → (⟨S279424, .f32⟩ : BufTy).Contents (Elt F)),
    unary main_v234 main_v235 (Host.log : (⟨S279424, .f32⟩ : BufTy).Contents (Elt F) → (⟨S279424, .f32⟩ : BufTy).Contents (Elt F)),
    binary main_v235 main_v229 main_v236 (addf : (⟨S279424, .f32⟩ : BufTy).Contents (Elt F) → (⟨S279424, .f32⟩ : BufTy).Contents (Elt F) → (⟨S279424, .f32⟩ : BufTy).Contents (Elt F)),
    reshape main_v131 main_v237 (rfl : (.i32 : EltTy) = .i32) shapeCasts_S32x8732_S279424x1 ]

/-- @main's operations 283 … 312 of 337 (window `main_part4`). -/
abbrev ops_part4_1 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S279424x1, .i32⟩) main_call4_v0) (broadcastInDim S279424x1 ![] bcast_S_S279424x1),
    TRef.binary (TRef.of (T := ⟨S279424x1, .i32⟩) main_v237) (TRef.of (T := ⟨S279424x1, .i32⟩) main_call4_v0) (TRef.of (T := ⟨S279424x1, .i1⟩) main_call4_v1) (cmpi .slt),
    TRef.nullary (TRef.of (T := ⟨S_, .i32⟩) main_call4_c_0) (constantI S_ 32 81#32),
    TRef.unary (TRef.of (T := ⟨S_, .i32⟩) main_call4_c_0) (TRef.of (T := ⟨S279424x1, .i32⟩) main_call4_v2) (broadcastInDim S279424x1 ![] bcast_S_S279424x1),
    TRef.binary (TRef.of (T := ⟨S279424x1, .i32⟩) main_v237) (TRef.of (T := ⟨S279424x1, .i32⟩) main_call4_v2) (TRef.of (T := ⟨S279424x1, .i32⟩) main_call4_v3) addi,
    TRef.ternary (TRef.of (T := ⟨S279424x1, .i1⟩) main_call4_v1) (TRef.of (T := ⟨S279424x1, .i32⟩) main_call4_v3) (TRef.of (T := ⟨S279424x1, .i32⟩) main_v237) (TRef.of (T := ⟨S279424x1, .i32⟩) main_call4_v4) select,
    TRef.reshape (TRef.of (T := ⟨S279424x1, .i32⟩) main_call4_v4) (TRef.of (T := ⟨S279424x1x1, .i32⟩) main_call4_v5) (rfl : (.i32 : EltTy) = .i32) shapeCasts_S279424x1_S279424x1x1,
    TRef.nullary (TRef.of (T := ⟨S1, .i32⟩) main_call4_c_1) (constantI S1 32 80#32),
    TRef.nullary (TRef.of (T := ⟨S_, .i32⟩) main_call4_c_2) (constantI S_ 32 0#32),
    TRef.unary (TRef.of (T := ⟨S_, .i32⟩) main_call4_c_2) (TRef.of (T := ⟨S279424x1x1, .i32⟩) main_call4_v6) (broadcastInDim S279424x1x1 ![] bcast_S_S279424x1x1),
    TRef.binary (TRef.of (T := ⟨S279424x1x1, .i32⟩) main_call4_v5) (TRef.of (T := ⟨S279424x1x1, .i32⟩) main_call4_v6) (TRef.of (T := ⟨S279424x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S279424x1x1, .i32⟩) main_call4_v9) (broadcastInDim S279424x1x1 ![0, 1, 2] bcast_S1x1x1_S279424x1x1_0_1_2),
    TRef.binary (TRef.of (T := ⟨S279424x1x1, .i32⟩) main_call4_v5) (TRef.of (T := ⟨S279424x1x1, .i32⟩) main_call4_v9) (TRef.of (T := ⟨S279424x1x1, .i1⟩) main_call4_v10) (cmpi .sle),
    TRef.binary (TRef.of (T := ⟨S279424x1x1, .i1⟩) main_call4_v7) (TRef.of (T := ⟨S279424x1x1, .i1⟩) main_call4_v10) (TRef.of (T := ⟨S279424x1x1, .i1⟩) main_call4_v11) andi,
    TRef.nullary (TRef.of (T := ⟨S_, .i1⟩) main_call4_c_3) (constantI S_ 1 1#1),
    TRef.binary (TRef.of (T := ⟨S279424x1x1, .i1⟩) main_call4_v11) (TRef.of (T := ⟨S_, .i1⟩) main_call4_c_3) (TRef.of (T := ⟨S279424x1, .i1⟩) main_call4_v12) (fun x v => Host.reduce IntOp.andi x v reducesTo_S279424x1x1_S279424x1_d2 h_S_),
    TRef.binary (TRef.of (T := ⟨S279424x81, .f32⟩) main_v228) (TRef.of (T := ⟨S279424x1x1, .i32⟩) main_call4_v5) (TRef.of (T := ⟨S279424x1, .f32⟩) main_call4_v13) (fun x i => Host.gather gather_S279424x81_S279424x1x1_S279424x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S279424x1, .f32⟩) main_call4_v14) (broadcastInDim S279424x1 ![] bcast_S_S279424x1),
    TRef.ternary (TRef.of (T := ⟨S279424x1, .i1⟩) main_call4_v12) (TRef.of (T := ⟨S279424x1, .f32⟩) main_call4_v13) (TRef.of (T := ⟨S279424x1, .f32⟩) main_call4_v14) (TRef.of (T := ⟨S279424x1, .f32⟩) main_v238) select,
    reshape main_v238 main_v239 (rfl : (.f32 : EltTy) = .f32) shapeCasts_S279424x1_S279424,
    binary main_v236 main_v239 main_v240 (subf : (⟨S279424, .f32⟩ : BufTy).Contents (Elt F) → (⟨S279424, .f32⟩ : BufTy).Contents (Elt F) → (⟨S279424, .f32⟩ : BufTy).Contents (Elt F)),
    reshape main_v240 main_v241 (rfl : (.f32 : EltTy) = .f32) shapeCasts_S279424_S32x8732,
    binary main_v241 main_v217 main_v242 (mulf : (⟨S32x8732, .f32⟩ : BufTy).Contents (Elt F) → (⟨S32x8732, .f32⟩ : BufTy).Contents (Elt F) → (⟨S32x8732, .f32⟩ : BufTy).Contents (Elt F)),
    nullary main_cst_30 (constant S_ .f32 0x00000000#32),
    binary main_v242 main_cst_30 main_v243 ((fun x v => Host.reduceAdd x v reducesTo_S32x8732_S_d0_1 h_S_) : (⟨S32x8732, .f32⟩ : BufTy).Contents (Elt F) → (⟨S_, .f32⟩ : BufTy).Contents (Elt F) → (⟨S_, .f32⟩ : BufTy).Contents (Elt F)),
    nullary main_cst_31 (constant S_ .f32 0x3F800000#32),
    unary main_cst_31 main_v244 (broadcastInDim S32x8732 ![] bcast_S_S32x8732 : (⟨S_, .f32⟩ : BufTy).Contents (Elt F) → (⟨S32x8732, .f32⟩ : BufTy).Contents (Elt F)) ]

/-- @main's operations 313 … 333 of 337 (window `main_part4`). -/
abbrev ops_part4_2 : List (HloOp τ sig (Elt F)) :=
  [ binary main_v244 main_v217 main_v245 (subf : (⟨S32x8732, .f32⟩ : BufTy).Contents (Elt F) → (⟨S32x8732, .f32⟩ : BufTy).Contents (Elt F) → (⟨S32x8732, .f32⟩ : BufTy).Contents (Elt F)),
    binary main_v241 main_v245 main_v246 (mulf : (⟨S32x8732, .f32⟩ : BufTy).Contents (Elt F) → (⟨S32x8732, .f32⟩ : BufTy).Contents (Elt F) → (⟨S32x8732, .f32⟩ : BufTy).Contents (Elt F)),
    unary main_v246 main_v247 (Host.negf : (⟨S32x8732, .f32⟩ : BufTy).Contents (Elt F) → (⟨S32x8732, .f32⟩ : BufTy).Contents (Elt F)),
    TRef.unary (TRef.of (T := ⟨S32x8732, .f32⟩) main_v247) (TRef.of (T := ⟨S32x8732, .f32⟩) main_v248) (fun x => Host.sort S32x8732 1 comparator_f32_d1 x),
    unary main_v248 main_v249 (Host.negf : (⟨S32x8732, .f32⟩ : BufTy).Contents (Elt F) → (⟨S32x8732, .f32⟩ : BufTy).Contents (Elt F)),
    nullary main_v250 (sitofp .f32 (iotaInDim S8732 32 0)),
    unary main_v250 main_v251 (broadcastInDim S1x8732 ![1] bcast_S8732_S1x8732_1 : (⟨S8732, .f32⟩ : BufTy).Contents (Elt F) → (⟨S1x8732, .f32⟩ : BufTy).Contents (Elt F)),
    unary main_v218 main_v252 (broadcastInDim S32x1 ![0] bcast_S32_S32x1_0 : (⟨S32, .f32⟩ : BufTy).Contents (Elt F) → (⟨S32x1, .f32⟩ : BufTy).Contents (Elt F)),
    nullary main_cst_32 (constant S_ .f32 0x40400000#32),
    unary main_cst_32 main_v253 (broadcastInDim S32x1 ![] bcast_S_S32x1 : (⟨S_, .f32⟩ : BufTy).Contents (Elt F) → (⟨S32x1, .f32⟩ : BufTy).Contents (Elt F)),
    binary main_v253 main_v252 main_v254 (mulf : (⟨S32x1, .f32⟩ : BufTy).Contents (Elt F) → (⟨S32x1, .f32⟩ : BufTy).Contents (Elt F) → (⟨S32x1, .f32⟩ : BufTy).Contents (Elt F)),
    unary main_v251 main_v255 (broadcastInDim S32x8732 ![0, 1] bcast_S1x8732_S32x8732_0_1 : (⟨S1x8732, .f32⟩ : BufTy).Contents (Elt F) → (⟨S32x8732, .f32⟩ : BufTy).Contents (Elt F)),
    unary main_v254 main_v256 (broadcastInDim S32x8732 ![0, 1] bcast_S32x1_S32x8732_0_1 : (⟨S32x1, .f32⟩ : BufTy).Contents (Elt F) → (⟨S32x8732, .f32⟩ : BufTy).Contents (Elt F)),
    binary main_v255 main_v256 main_v257 (cmpf .olt : (⟨S32x8732, .f32⟩ : BufTy).Contents (Elt F) → (⟨S32x8732, .f32⟩ : BufTy).Contents (Elt F) → (⟨S32x8732, .i1⟩ : BufTy).Contents (Elt F)),
    unary main_v257 main_v258 (uitofp .f32 : (⟨S32x8732, .i1⟩ : BufTy).Contents (Elt F) → (⟨S32x8732, .f32⟩ : BufTy).Contents (Elt F)),
    binary main_v249 main_v258 main_v259 (mulf : (⟨S32x8732, .f32⟩ : BufTy).Contents (Elt F) → (⟨S32x8732, .f32⟩ : BufTy).Contents (Elt F) → (⟨S32x8732, .f32⟩ : BufTy).Contents (Elt F)),
    nullary main_cst_33 (constant S_ .f32 0x00000000#32),
    binary main_v259 main_cst_33 main_v260 ((fun x v => Host.reduceAdd x v reducesTo_S32x8732_S_d0_1 h_S_) : (⟨S32x8732, .f32⟩ : BufTy).Contents (Elt F) → (⟨S_, .f32⟩ : BufTy).Contents (Elt F) → (⟨S_, .f32⟩ : BufTy).Contents (Elt F)),
    binary main_v260 main_v243 main_v261 (addf : (⟨S_, .f32⟩ : BufTy).Contents (Elt F) → (⟨S_, .f32⟩ : BufTy).Contents (Elt F) → (⟨S_, .f32⟩ : BufTy).Contents (Elt F)),
    nullary main_cst_34 (constant S_ .f32 0x00000000#32),
    binary main_v218 main_cst_34 main_v262 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) ]

/-- Window `main_part4`'s operations. Not an abbreviation: `main_eq` below splits `ops` into the windows and no further. -/
def ops_part4 : List (HloOp τ sig (Elt F)) :=
  ops_part4_0 ++ (ops_part4_1 ++ (ops_part4_2))

/-- @main's operations 334 … 337 of 337 (window `main_part5`). -/
abbrev ops_part5 : List (HloOp τ sig (Elt F)) :=
  [ binary main_v261 main_v262 main_v263 (Host.divf : (⟨S_, .f32⟩ : BufTy).Contents (Elt F) → (⟨S_, .f32⟩ : BufTy).Contents (Elt F) → (⟨S_, .f32⟩ : BufTy).Contents (Elt F)),
    nullary main_cst_35 (constant S_ .f32 0x3F800000#32),
    binary main_cst_35 main_v227 main_v264 (mulf : (⟨S_, .f32⟩ : BufTy).Contents (Elt F) → (⟨S_, .f32⟩ : BufTy).Contents (Elt F) → (⟨S_, .f32⟩ : BufTy).Contents (Elt F)),
    binary main_v263 main_v264 main_v265 (addf : (⟨S_, .f32⟩ : BufTy).Contents (Elt F) → (⟨S_, .f32⟩ : BufTy).Contents (Elt F) → (⟨S_, .f32⟩ : BufTy).Contents (Elt F)) ]

/-- @main's 337 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., unary_bufs_sub .., unary_bufs_sub .., unary_bufs_sub .., unary_bufs_sub .., nary_bufs_sub .., unary_bufs_sub .., unary_bufs_sub .., unary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., binary_bufs_sub .., unary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., binary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_0_sub : (ops_part1_0 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub .., binary_bufs_sub .., binary_bufs_sub .., binary_bufs_sub .., nullary_bufs_sub .., unary_bufs_sub .., nullary_bufs_sub .., binary_bufs_sub .., nullary_bufs_sub .., nullary_bufs_sub .., nullary_bufs_sub .., quaternary_bufs_sub .., quaternary_bufs_sub .., nullary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., quaternary_bufs_sub .., quaternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., unary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., reshape_bufs_sub ..⟩
set_option maxRecDepth 8192 in
theorem ops_part2_2_fresh : (ops_part2_2 : List (HloOp τ sig (Elt F))).Forall fun op => op.fresh = ∅ :=
  ⟨rfl, rfl⟩
set_option maxRecDepth 8192 in
theorem ops_part3_sub : (ops_part3 : List (HloOp τ sig (Elt F))).Forall fun op => op.bufs ⊆ tcRefs τ sig :=
  ⟨unary_bufs_sub .., reshape_bufs_sub .., binary_bufs_sub .., nullary_bufs_sub .., unary_bufs_sub .., binary_bufs_sub .., unary_bufs_sub .., reshape_bufs_sub .., unary_bufs_sub .., reshape_bufs_sub .., unary_bufs_sub .., unary_bufs_sub .., unary_bufs_sub .., unary_bufs_sub .., nary_bufs_sub .., unary_bufs_sub .., reshape_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., unary_bufs_sub .., nary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_0_sub : (ops_part4_0 : List (HloOp τ sig (Elt F))).Forall fun op => op.bufs ⊆ tcRefs τ sig :=
  ⟨nullary_bufs_sub .., unary_bufs_sub .., binary_bufs_sub .., unary_bufs_sub .., nullary_bufs_sub .., binary_bufs_sub .., binary_bufs_sub .., unary_bufs_sub .., unary_bufs_sub .., unary_bufs_sub .., binary_bufs_sub .., nullary_bufs_sub .., binary_bufs_sub .., nullary_bufs_sub .., binary_bufs_sub .., nullary_bufs_sub .., binary_bufs_sub .., binary_bufs_sub .., reshape_bufs_sub .., nullary_bufs_sub .., binary_bufs_sub .., unary_bufs_sub .., unary_bufs_sub .., binary_bufs_sub .., unary_bufs_sub .., nullary_bufs_sub .., binary_bufs_sub .., unary_bufs_sub .., binary_bufs_sub .., reshape_bufs_sub ..⟩
set_option maxRecDepth 8192 in
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_1_sub : (ops_part4_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., reshape_bufs_sub .., binary_bufs_sub .., nullary_bufs_sub .., binary_bufs_sub .., nullary_bufs_sub .., unary_bufs_sub ..⟩
set_option maxRecDepth 8192 in
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_2_sub : (ops_part4_2 : List (HloOp τ sig (Elt F))).Forall fun op => op.bufs ⊆ tcRefs τ sig :=
  ⟨binary_bufs_sub .., binary_bufs_sub .., unary_bufs_sub .., unary_bufs_sub .., unary_bufs_sub .., nullary_bufs_sub .., unary_bufs_sub .., unary_bufs_sub .., nullary_bufs_sub .., unary_bufs_sub .., binary_bufs_sub .., unary_bufs_sub .., unary_bufs_sub .., binary_bufs_sub .., unary_bufs_sub .., binary_bufs_sub .., nullary_bufs_sub .., binary_bufs_sub .., binary_bufs_sub .., nullary_bufs_sub .., binary_bufs_sub ..⟩
set_option maxRecDepth 8192 in
theorem ops_part4_2_fresh : (ops_part4_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxRecDepth 8192 in
theorem ops_part5_sub : (ops_part5 : List (HloOp τ sig (Elt F))).Forall fun op => op.bufs ⊆ tcRefs τ sig :=
  ⟨binary_bufs_sub .., nullary_bufs_sub .., binary_bufs_sub .., binary_bufs_sub ..⟩
set_option maxRecDepth 8192 in
theorem ops_part5_fresh : (ops_part5 : List (HloOp τ sig (Elt F))).Forall fun op => op.fresh = ∅ :=
  ⟨rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, ops_part4, List.mem_append, or_assoc] at h
    rcases h with h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_sub op h, List.forall_iff_forall_mem.mp ops_part4_0_sub op h, List.forall_iff_forall_mem.mp ops_part4_1_sub op h, List.forall_iff_forall_mem.mp ops_part4_2_sub op h, List.forall_iff_forall_mem.mp ops_part5_sub op h]
theorem ops_fresh : ∀ op ∈ (ops : List (HloOp τ sig (Elt F))), op.fresh = ∅ := fun op h => by
    simp only [ops, ops_part0, ops_part1, ops_part2, ops_part4, List.mem_append, or_assoc] at h
    rcases h with h | h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_fresh op h, List.forall_iff_forall_mem.mp ops_part4_0_fresh op h, List.forall_iff_forall_mem.mp ops_part4_1_fresh op h, List.forall_iff_forall_mem.mp ops_part4_2_fresh op h, List.forall_iff_forall_mem.mp ops_part5_fresh op h]

end Cert.ReferenceIdeal.Value

end
-- ==== Proof.RefTerms.lean ====
/-
What the reference's named intermediate arrays hold, as terms of its arguments.
-/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
/-- `main_v22`'s composed term of the arguments (named: it is used 6 times). -/
def res_main_v22 (V0 : Valuation τ sig (Elt F)) : (Proc.devRef .tc main_v22 : DevRef τ sig).ty.Contents (Elt F) :=
  (concatenate S8732x4 1 [⟨S8732x1, ((broadcastInDim S8732x1 ![0] bcast_S8732_S8732x1_0 (subf (shapeCast _ (extractStridedSlice S8732x1 ![0, 0] (V0 (Proc.devRef .tc main_arg4)) slices_S8732x4_S8732x1_0_0) shapeCasts_S8732x1_S8732) (Host.divf (shapeCast _ (extractStridedSlice S8732x1 ![0, 2] (V0 (Proc.devRef .tc main_arg4)) slices_S8732x4_S8732x1_0_2) shapeCasts_S8732x1_S8732) (broadcastInDim S8732 ![] bcast_S_S8732 (constant S_ .f32 0x40000000#32))))) : (⟨S8732x1, .f32⟩ : BufTy).Contents (Elt F))⟩, ⟨S8732x1, ((broadcastInDim S8732x1 ![0] bcast_S8732_S8732x1_0 (subf (shapeCast _ (extractStridedSlice S8732x1 ![0, 1] (V0 (Proc.devRef .tc main_arg4)) slices_S8732x4_S8732x1_0_1) shapeCasts_S8732x1_S8732) (Host.divf (shapeCast _ (extractStridedSlice S8732x1 ![0, 3] (V0 (Proc.devRef .tc main_arg4)) slices_S8732x4_S8732x1_0_3) shapeCasts_S8732x1_S8732) (broadcastInDim S8732 ![] bcast_S_S8732 (constant S_ .f32 0x40000000#32))))) : (⟨S8732x1, .f32⟩ : BufTy).Contents (Elt F))⟩, ⟨S8732x1, ((broadcastInDim S8732x1 ![0] bcast_S8732_S8732x1_0 (shapeCast _ (extractStridedSlice S8732x1 ![0, 2] (V0 (Proc.devRef .tc main_arg4)) slices_S8732x4_S8732x1_0_2) shapeCasts_S8732x1_S8732)) : (⟨S8732x1, .f32⟩ : BufTy).Contents (Elt F))⟩, ⟨S8732x1, ((broadcastInDim S8732x1 ![0] bcast_S8732_S8732x1_0 (shapeCast _ (extractStridedSlice S8732x1 ![0, 3] (V0 (Proc.devRef .tc main_arg4)) slices_S8732x4_S8732x1_0_3) shapeCasts_S8732x1_S8732)) : (⟨S8732x1, .f32⟩ : BufTy).Contents (Elt F))⟩] concatenates_S8732x1_S8732x1_S8732x1_S8732x1_S8732x4_d1 : (⟨S8732x4, .f32⟩ : BufTy).Contents (Elt F))

set_option maxRecDepth 8192 in
/-- `main_v40`'s composed term of the arguments (named: it is used 2 times). -/
def res_main_v40 (V0 : Valuation τ sig (Elt F)) : (Proc.devRef .tc main_v40 : DevRef τ sig).ty.Contents (Elt F) :=
  maximumf (broadcastInDim S32x16x8732x2 ![] bcast_S_S32x16x8732x2 (id (constant S_ .f32 0x00000000#32))) (subf (minimumf (broadcastInDim S32x16x8732x2 ![0, 1, 2, 3] bcast_S32x16x1x2_S32x16x8732x2_0_1_2_3 (broadcastInDim S32x16x1x2 ![0, 1, 3] bcast_S32x16x2_S32x16x1x2_0_1_3 (extractStridedSlice S32x16x2 ![0, 0, 2] (V0 (Proc.devRef .tc main_arg2)) slices_S32x16x4_S32x16x2_0_0_2))) (broadcastInDim S32x16x8732x2 ![0, 1, 2, 3] bcast_S1x1x8732x2_S32x16x8732x2_0_1_2_3 (broadcastInDim S1x1x8732x2 ![1, 2, 3] bcast_S1x8732x2_S1x1x8732x2_1_2_3 (broadcastInDim S1x8732x2 ![1, 2] bcast_S8732x2_S1x8732x2_1_2 (extractStridedSlice S8732x2 ![0, 2] (res_main_v22 V0) slices_S8732x4_S8732x2_0_2))))) (maximumf (broadcastInDim S32x16x8732x2 ![0, 1, 2, 3] bcast_S32x16x1x2_S32x16x8732x2_0_1_2_3 (broadcastInDim S32x16x1x2 ![0, 1, 3] bcast_S32x16x2_S32x16x1x2_0_1_3 (extractStridedSlice S32x16x2 ![0, 0, 0] (V0 (Proc.devRef .tc main_arg2)) slices_S32x16x4_S32x16x2_0_0_0))) (broadcastInDim S32x16x8732x2 ![0, 1, 2, 3] bcast_S1x1x8732x2_S32x16x8732x2_0_1_2_3 (broadcastInDim S1x1x8732x2 ![1, 2, 3] bcast_S1x8732x2_S1x1x8732x2_1_2_3 (broadcastInDim S1x8732x2 ![1, 2] bcast_S8732x2_S1x8732x2_1_2 (extractStridedSlice S8732x2 ![0, 0] (res_main_v22 V0) slices_S8732x4_S8732x2_0_0))))))

set_option maxRecDepth 8192 in
/-- `main_v45`'s composed term of the arguments (named: it is used 2 times). -/
def res_main_v45 (V0 : Valuation τ sig (Elt F)) : (Proc.devRef .tc main_v45 : DevRef τ sig).ty.Contents (Elt F) :=
  mulf (shapeCast _ (extractStridedSlice S32x16x8732x1 ![0, 0, 0, 0] (res_main_v40 V0) slices_S32x16x8732x2_S32x16x8732x1_0_0_0_0) shapeCasts_S32x16x8732x1_S32x16x8732) (shapeCast _ (extractStridedSlice S32x16x8732x1 ![0, 0, 0, 1] (res_main_v40 V0) slices_S32x16x8732x2_S32x16x8732x1_0_0_0_1) shapeCasts_S32x16x8732x1_S32x16x8732)

set_option maxRecDepth 8192 in
/-- `main_v75`'s composed term of the arguments (named: it is used 5 times). -/
def res_main_v75 (V0 : Valuation τ sig (Elt F)) : (Proc.devRef .tc main_v75 : DevRef τ sig).ty.Contents (Elt F) :=
  Host.divf (res_main_v45 V0) (subf (addf (broadcastInDim S32x16x8732 ![0, 1, 2] bcast_S32x16x1_S32x16x8732_0_1_2 (broadcastInDim S32x16x1 ![0, 1] bcast_S32x16_S32x16x1_0_1 (mulf (subf (shapeCast _ (extractStridedSlice S32x16x1 ![0, 0, 2] (V0 (Proc.devRef .tc main_arg2)) slices_S32x16x4_S32x16x1_0_0_2) shapeCasts_S32x16x1_S32x16) (shapeCast _ (extractStridedSlice S32x16x1 ![0, 0, 0] (V0 (Proc.devRef .tc main_arg2)) slices_S32x16x4_S32x16x1_0_0_0) shapeCasts_S32x16x1_S32x16)) (subf (shapeCast _ (extractStridedSlice S32x16x1 ![0, 0, 3] (V0 (Proc.devRef .tc main_arg2)) slices_S32x16x4_S32x16x1_0_0_3) shapeCasts_S32x16x1_S32x16) (shapeCast _ (extractStridedSlice S32x16x1 ![0, 0, 1] (V0 (Proc.devRef .tc main_arg2)) slices_S32x16x4_S32x16x1_0_0_1) shapeCasts_S32x16x1_S32x16))))) (broadcastInDim S32x16x8732 ![0, 1, 2] bcast_S1x1x8732_S32x16x8732_0_1_2 (broadcastInDim S1x1x8732 ![1, 2] bcast_S1x8732_S1x1x8732_1_2 (broadcastInDim S1x8732 ![1] bcast_S8732_S1x8732_1 (mulf (subf (shapeCast _ (extractStridedSlice S8732x1 ![0, 2] (res_main_v22 V0) slices_S8732x4_S8732x1_0_2) shapeCasts_S8732x1_S8732) (shapeCast _ (extractStridedSlice S8732x1 ![0, 0] (res_main_v22 V0) slices_S8732x4_S8732x1_0_0) shapeCasts_S8732x1_S8732)) (subf (shapeCast _ (extractStridedSlice S8732x1 ![0, 3] (res_main_v22 V0) slices_S8732x4_S8732x1_0_3) shapeCasts_S8732x1_S8732) (shapeCast _ (extractStridedSlice S8732x1 ![0, 1] (res_main_v22 V0) slices_S8732x4_S8732x1_0_1) shapeCasts_S8732x1_S8732))))))) (res_main_v45 V0))

set_option maxRecDepth 8192 in
/-- `main_v77`'s composed term of the arguments (named: it is used 12 times). -/
def res_main_v77 (V0 : Valuation τ sig (Elt F)) : (Proc.devRef .tc main_v77 : DevRef τ sig).ty.Contents (Elt F) :=
  broadcastInDim S32x1 ![0] bcast_S32_S32x1_0 (iotaInDim S32 32 0)

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S32x16x8732 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S32x16x8732 32 2

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v80`'s composed term of the arguments (named: it is used 6 times). -/
def res_main_v80 (V0 : Valuation τ sig (Elt F)) : (Proc.devRef .tc main_v80 : DevRef τ sig).ty.Contents (Elt F) :=
  (fun j => (Host.argReduce reducer_argmax_f32_i32 (res_main_v75 V0) (res_main_call2_v0 V0) (res_main_call2_cst V0) (res_main_call2_c V0) reducesTo_S32x16x8732_S32x16_d2 h_S_ j).2)

set_option maxRecDepth 8192 in
/-- `main_v97`'s composed term of the arguments (named: it is used 6 times). -/
def res_main_v97 (V0 : Valuation τ sig (Elt F)) : (Proc.devRef .tc main_v97 : DevRef τ sig).ty.Contents (Elt F) :=
  Host.scatter scatter_S32x8732_S32x16x2_S32x16_n_01_01_2 (fun _ b => b) ((fun j => (Host.argReduce reducer_argmax_f32_i32 (res_main_v75 V0) (res_main_call1_v0 V0) (res_main_call1_cst V0) (res_main_call1_c V0) reducesTo_S32x16x8732_S32x8732_d1 h_S_ j).2)) (concatenate S32x16x2 2 [⟨S32x16x1, (broadcastInDim S32x16x1 ![0, 1] bcast_S32x16_S32x16x1_0_1 (broadcastInDim S32x16 ![0, 1] bcast_S32x1_S32x16_0_1 (select (cmpi .slt (res_main_v77 V0) (broadcastInDim S32x1 ![] bcast_S_S32x1 (constantI S_ 32 0#32))) (addi (res_main_v77 V0) (broadcastInDim S32x1 ![] bcast_S_S32x1 (constantI S_ 32 32#32))) (res_main_v77 V0))))⟩, ⟨S32x16x1, (broadcastInDim S32x16x1 ![0, 1] bcast_S32x16_S32x16x1_0_1 (select (cmpi .slt (res_main_v80 V0) (broadcastInDim S32x16 ![] bcast_S_S32x16 (constantI S_ 32 0#32))) (addi (res_main_v80 V0) (broadcastInDim S32x16 ![] bcast_S_S32x16 (constantI S_ 32 8732#32))) (res_main_v80 V0)))⟩] concatenates_S32x16x1_S32x16x1_S32x16x2_d2) (broadcastInDim S32x16 ![1] bcast_S16_S32x16_1 (iotaInDim S16 32 0))

set_option maxRecDepth 8192 in
/-- `main_v131`'s composed term of the arguments (named: it is used 2 times). -/
def res_main_v131 (V0 : Valuation τ sig (Elt F)) : (Proc.devRef .tc main_v131 : DevRef τ sig).ty.Contents (Elt F) :=
  select (cmpf .olt (Host.scatter scatter_S32x8732_S32x16x2_S32x16_n_01_01_2 (fun _ b => b) (Host.reduce FloatOps.maximumf (res_main_v75 V0) (constant S_ .f32 0xFF800000#32) reducesTo_S32x16x8732_S32x8732_d1 h_S_) (concatenate S32x16x2 2 [⟨S32x16x1, (broadcastInDim S32x16x1 ![0, 1] bcast_S32x16_S32x16x1_0_1 (broadcastInDim S32x16 ![0, 1] bcast_S32x1_S32x16_0_1 (select (cmpi .slt (res_main_v77 V0) (broadcastInDim S32x1 ![] bcast_S_S32x1 (constantI S_ 32 0#32))) (addi (res_main_v77 V0) (broadcastInDim S32x1 ![] bcast_S_S32x1 (constantI S_ 32 32#32))) (res_main_v77 V0))))⟩, ⟨S32x16x1, (broadcastInDim S32x16x1 ![0, 1] bcast_S32x16_S32x16x1_0_1 (select (cmpi .slt (res_main_v80 V0) (broadcastInDim S32x16 ![] bcast_S_S32x16 (constantI S_ 32 0#32))) (addi (res_main_v80 V0) (broadcastInDim S32x16 ![] bcast_S_S32x16 (constantI S_ 32 8732#32))) (res_main_v80 V0)))⟩] concatenates_S32x16x1_S32x16x1_S32x16x2_d2) (broadcastInDim S32x16 ![] bcast_S_S32x16 (constant S_ .f32 0x3F000000#32))) (broadcastInDim S32x8732 ![] bcast_S_S32x8732 (constant S_ .f32 0x3F000000#32))) (broadcastInDim S32x8732 ![] bcast_S_S32x8732 (id (constantI S_ 32 0#32))) (Host.gather gather_S32x16_S32x8732x2_S32x8732_n_01_n_n_01_2_11 (V0 (Proc.devRef .tc main_arg3)) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v77 V0) (broadcastInDim S32x1 ![] bcast_S_S32x1 (constantI S_ 32 0#32))) (addi (res_main_v77 V0) (broadcastInDim S32x1 ![] bcast_S_S32x1 (constantI S_ 32 32#32))) (res_main_v77 V0))))⟩, ⟨S32x8732x1, (broadcastInDim S32x8732x1 ![0, 1] bcast_S32x8732_S32x8732x1_0_1 (select (cmpi .slt (res_main_v97 V0) (broadcastInDim S32x8732 ![] bcast_S_S32x8732 (constantI S_ 32 0#32))) (addi (res_main_v97 V0) (broadcastInDim S32x8732 ![] bcast_S_S32x8732 (constantI S_ 32 16#32))) (res_main_v97 V0)))⟩] concatenates_S32x8732x1_S32x8732x1_S32x8732x2_d2))

set_option maxRecDepth 8192 in
/-- `main_v146`'s composed term of the arguments (named: it is used 6 times). -/
def res_main_v146 (V0 : Valuation τ sig (Elt F)) : (Proc.devRef .tc main_v146 : DevRef τ sig).ty.Contents (Elt F) :=
  Host.gather gather_S32x16x4_S32x8732x2_S32x8732x4_2_01_n_n_01_2_114 (V0 (Proc.devRef .tc main_arg2)) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v77 V0) (broadcastInDim S32x1 ![] bcast_S_S32x1 (constantI S_ 32 0#32))) (addi (res_main_v77 V0) (broadcastInDim S32x1 ![] bcast_S_S32x1 (constantI S_ 32 32#32))) (res_main_v77 V0))))⟩, ⟨S32x8732x1, (broadcastInDim S32x8732x1 ![0, 1] bcast_S32x8732_S32x8732x1_0_1 (select (cmpi .slt (res_main_v97 V0) (broadcastInDim S32x8732 ![] bcast_S_S32x8732 (constantI S_ 32 0#32))) (addi (res_main_v97 V0) (broadcastInDim S32x8732 ![] bcast_S_S32x8732 (constantI S_ 32 16#32))) (res_main_v97 V0)))⟩] concatenates_S32x8732x1_S32x8732x1_S32x8732x2_d2)

set_option maxRecDepth 8192 in
/-- `main_v169`'s composed term of the arguments (named: it is used 4 times). -/
def res_main_v169 (V0 : Valuation τ sig (Elt F)) : (Proc.devRef .tc main_v169 : DevRef τ sig).ty.Contents (Elt F) :=
  (concatenate S32x8732x4 2 [⟨S32x8732x1, ((broadcastInDim S32x8732x1 ![0, 1] bcast_S32x8732_S32x8732x1_0_1 (Host.divf (addf (shapeCast _ (extractStridedSlice S32x8732x1 ![0, 0, 0] (res_main_v146 V0) slices_S32x8732x4_S32x8732x1_0_0_0) shapeCasts_S32x8732x1_S32x8732) (shapeCast _ (extractStridedSlice S32x8732x1 ![0, 0, 2] (res_main_v146 V0) slices_S32x8732x4_S32x8732x1_0_0_2) shapeCasts_S32x8732x1_S32x8732)) (broadcastInDim S32x8732 ![] bcast_S_S32x8732 (constant S_ .f32 0x40000000#32)))) : (⟨S32x8732x1, .f32⟩ : BufTy).Contents (Elt F))⟩, ⟨S32x8732x1, ((broadcastInDim S32x8732x1 ![0, 1] bcast_S32x8732_S32x8732x1_0_1 (Host.divf (addf (shapeCast _ (extractStridedSlice S32x8732x1 ![0, 0, 1] (res_main_v146 V0) slices_S32x8732x4_S32x8732x1_0_0_1) shapeCasts_S32x8732x1_S32x8732) (shapeCast _ (extractStridedSlice S32x8732x1 ![0, 0, 3] (res_main_v146 V0) slices_S32x8732x4_S32x8732x1_0_0_3) shapeCasts_S32x8732x1_S32x8732)) (broadcastInDim S32x8732 ![] bcast_S_S32x8732 (constant S_ .f32 0x40000000#32)))) : (⟨S32x8732x1, .f32⟩ : BufTy).Contents (Elt F))⟩, ⟨S32x8732x1, ((broadcastInDim S32x8732x1 ![0, 1] bcast_S32x8732_S32x8732x1_0_1 (shapeCast _ (extractStridedSlice S32x8732x1 ![0, 0, 2] (res_main_v146 V0) slices_S32x8732x4_S32x8732x1_0_0_2) shapeCasts_S32x8732x1_S32x8732)) : (⟨S32x8732x1, .f32⟩ : BufTy).Contents (Elt F))⟩, ⟨S32x8732x1, ((broadcastInDim S32x8732x1 ![0, 1] bcast_S32x8732_S32x8732x1_0_1 (shapeCast _ (extractStridedSlice S32x8732x1 ![0, 0, 3] (res_main_v146 V0) slices_S32x8732x4_S32x8732x1_0_0_3) shapeCasts_S32x8732x1_S32x8732)) : (⟨S32x8732x1, .f32⟩ : BufTy).Contents (Elt F))⟩] concatenates_S32x8732x1_S32x8732x1_S32x8732x1_S32x8732x1_S32x8732x4_d2 : (⟨S32x8732x4, .f32⟩ : BufTy).Contents (Elt F))

set_option maxRecDepth 8192 in
/-- `main_v217`'s composed term of the arguments (named: it is used 5 times). -/
def res_main_v217 (V0 : Valuation τ sig (Elt F)) : (Proc.devRef .tc main_v217 : DevRef τ sig).ty.Contents (Elt F) :=
  uitofp .f32 (cmpi .ne (res_main_v131 V0) (broadcastInDim S32x8732 ![] bcast_S_S32x8732 (constantI S_ 32 0#32)))

set_option maxRecDepth 8192 in
/-- `main_v218`'s composed term of the arguments (named: it is used 2 times). -/
def res_main_v218 (V0 : Valuation τ sig (Elt F)) : (Proc.devRef .tc main_v218 : DevRef τ sig).ty.Contents (Elt F) :=
  Host.reduceAdd (res_main_v217 V0) (constant S_ .f32 0x00000000#32) reducesTo_S32x8732_S32_d1 h_S_

set_option maxRecDepth 8192 in
/-- `main_v228`'s composed term of the arguments (named: it is used 3 times). -/
def res_main_v228 (V0 : Valuation τ sig (Elt F)) : (Proc.devRef .tc main_v228 : DevRef τ sig).ty.Contents (Elt F) :=
  shapeCast _ (V0 (Proc.devRef .tc main_arg1)) shapeCasts_S32x8732x81_S279424x81

set_option maxRecDepth 8192 in
/-- `main_v229`'s composed term of the arguments (named: it is used 2 times). -/
def res_main_v229 (V0 : Valuation τ sig (Elt F)) : (Proc.devRef .tc main_v229 : DevRef τ sig).ty.Contents (Elt F) :=
  Host.reduce FloatOps.maximumf (res_main_v228 V0) (constant S_ .f32 0xFF800000#32) reducesTo_S279424x81_S279424_d1 h_S_

set_option maxRecDepth 8192 in
/-- `main_v237`'s composed term of the arguments (named: it is used 3 times). -/
def res_main_v237 (V0 : Valuation τ sig (Elt F)) : (Proc.devRef .tc main_v237 : DevRef τ sig).ty.Contents (Elt F) :=
  shapeCast _ (res_main_v131 V0) shapeCasts_S32x8732_S279424x1

set_option maxRecDepth 8192 in
/-- `main_call4_v5`'s composed term of the arguments (named: it is used 3 times). -/
def res_main_call4_v5 (V0 : Valuation τ sig (Elt F)) : (Proc.devRef .tc main_call4_v5 : DevRef τ sig).ty.Contents (Elt F) :=
  shapeCast _ (select (cmpi .slt (res_main_v237 V0) (broadcastInDim S279424x1 ![] bcast_S_S279424x1 (constantI S_ 32 0#32))) (addi (res_main_v237 V0) (broadcastInDim S279424x1 ![] bcast_S_S279424x1 (constantI S_ 32 81#32))) (res_main_v237 V0)) shapeCasts_S279424x1_S279424x1x1

set_option maxRecDepth 8192 in
/-- `main_v241`'s composed term of the arguments (named: it is used 2 times). -/
def res_main_v241 (V0 : Valuation τ sig (Elt F)) : (Proc.devRef .tc main_v241 : DevRef τ sig).ty.Contents (Elt F) :=
  shapeCast _ (subf (addf (Host.log (Host.reduceAdd (Host.exp (subf (res_main_v228 V0) (broadcastInDim S279424x81 ![0, 1] bcast_S279424x1_S279424x81_0_1 (broadcastInDim S279424x1 ![0] bcast_S279424_S279424x1_0 (res_main_v229 V0))))) (constant S_ .f32 0x00000000#32) reducesTo_S279424x81_S279424_d1 h_S_)) (res_main_v229 V0)) (shapeCast _ (select (Host.reduce IntOp.andi (andi (cmpi .sge (res_main_call4_v5 V0) (broadcastInDim S279424x1x1 ![] bcast_S_S279424x1x1 (constantI S_ 32 0#32))) (cmpi .sle (res_main_call4_v5 V0) (broadcastInDim S279424x1x1 ![0, 1, 2] bcast_S1x1x1_S279424x1x1_0_1_2 (broadcastInDim S1x1x1 ![2] bcast_S1_S1x1x1_2 (constantI S1 32 80#32))))) (constantI S_ 1 1#1) reducesTo_S279424x1x1_S279424x1_d2 h_S_) (Host.gather gather_S279424x81_S279424x1x1_S279424x1_n_1_0_0_1_2_11 (res_main_v228 V0) (res_main_call4_v5 V0)) (broadcastInDim S279424x1 ![] bcast_S_S279424x1 (constant S_ .f32 0x7FC00000#32))) shapeCasts_S279424x1_S279424)) shapeCasts_S279424_S32x8732

set_option maxRecDepth 8192 in
/-- `main_v265`'s composed term of the arguments (named: it is long). -/
def res_main_v265 (V0 : Valuation τ sig (Elt F)) : (Proc.devRef .tc main_v265 : DevRef τ sig).ty.Contents (Elt F) :=
  addf (Host.divf (addf (Host.reduceAdd (mulf (Host.negf (Host.sort S32x8732 1 comparator_f32_d1 (Host.negf (mulf (res_main_v241 V0) (subf (broadcastInDim S32x8732 ![] bcast_S_S32x8732 (constant S_ .f32 0x3F800000#32)) (res_main_v217 V0)))))) (uitofp .f32 (cmpf .olt (broadcastInDim S32x8732 ![0, 1] bcast_S1x8732_S32x8732_0_1 (broadcastInDim S1x8732 ![1] bcast_S8732_S1x8732_1 (sitofp .f32 (iotaInDim S8732 32 0)))) (broadcastInDim S32x8732 ![0, 1] bcast_S32x1_S32x8732_0_1 (mulf (broadcastInDim S32x1 ![] bcast_S_S32x1 (constant S_ .f32 0x40400000#32)) (broadcastInDim S32x1 ![0] bcast_S32_S32x1_0 (res_main_v218 V0))))))) (constant S_ .f32 0x00000000#32) reducesTo_S32x8732_S_d0_1 h_S_) (Host.reduceAdd (mulf (res_main_v241 V0) (res_main_v217 V0)) (constant S_ .f32 0x00000000#32) reducesTo_S32x8732_S_d0_1 h_S_)) (Host.reduceAdd (res_main_v218 V0) (constant S_ .f32 0x00000000#32) reducesTo_S32_S_d0 h_S_)) (mulf (constant S_ .f32 0x3F800000#32) (Host.divf (Host.reduceAdd (mulf (Host.absf (subf (V0 (Proc.devRef .tc main_arg0)) ((concatenate S32x8732x4 2 [⟨S32x8732x1, ((broadcastInDim S32x8732x1 ![0, 1] bcast_S32x8732_S32x8732x1_0_1 (Host.divf (subf (shapeCast _ (extractStridedSlice S32x8732x1 ![0, 0, 0] (res_main_v169 V0) slices_S32x8732x4_S32x8732x1_0_0_0) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 0] (V0 (Proc.devRef .tc main_arg4)) slices_S8732x4_S8732x1_0_0) shapeCasts_S8732x1_S8732)))) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732))))) : (⟨S32x8732x1, .f32⟩ : BufTy).Contents (Elt F))⟩, ⟨S32x8732x1, ((broadcastInDim S32x8732x1 ![0, 1] bcast_S32x8732_S32x8732x1_0_1 (Host.divf (subf (shapeCast _ (extractStridedSlice S32x8732x1 ![0, 0, 1] (res_main_v169 V0) slices_S32x8732x4_S32x8732x1_0_0_1) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 1] (V0 (Proc.devRef .tc main_arg4)) slices_S8732x4_S8732x1_0_1) shapeCasts_S8732x1_S8732)))) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 2] (res_main_v169 V0) slices_S32x8732x4_S32x8732x1_0_0_2) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732)))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 3] (res_main_v169 V0) slices_S32x8732x4_S32x8732x1_0_0_3) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732)))))) : (⟨S32x8732x1, .f32⟩ : BufTy).Contents (Elt F))⟩] concatenates_S32x8732x1_S32x8732x1_S32x8732x1_S32x8732x1_S32x8732x4_d2 : (⟨S32x8732x4, .f32⟩ : BufTy).Contents (Elt F))))) (broadcastInDim S32x8732x4 ![0, 1, 2] bcast_S32x8732x1_S32x8732x4_0_1_2 (broadcastInDim S32x8732x1 ![0, 1] bcast_S32x8732_S32x8732x1_0_1 (res_main_v217 V0)))) (constant S_ .f32 0x00000000#32) reducesTo_S32x8732x4_S_d0_1_2 h_S_) (mulf (Host.reduceAdd (res_main_v217 V0) (constant S_ .f32 0x00000000#32) reducesTo_S32x8732_S_d0_1 h_S_) (constant S_ .f32 0x40800000#32))))

/-- `res_main_v265` by its position among the values @main returns, 0 counting from 0: the name for hand proofs to cite, since
    a re-print renumbers `main_v265`. An abbreviation: it unfolds to the `res_main_v265` that `run` states. -/
abbrev res_out0 (V0 : Valuation τ sig (Elt F)) : (Proc.devRef .tc main_v265 : DevRef τ sig).ty.Contents (Elt F) := res_main_v265 V0

end Cert.ReferenceIdeal.Value

end
-- ==== Proof.RefRun.lean ====
/-
The reference run: after every window each named array holds its term, and the run ends with the result and the unchanged arguments.
-/
module

public import proofs.«01_k».proof.Proof.RefTerms

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_cst, main_v4, main_v5, main_v6, main_v7, main_v8, main_v9, main_v10, main_cst_0, main_v11, main_v12, main_v13, main_v14, main_v15, main_v16, main_v17, main_v18, main_v19, main_v20, main_v21, main_v22, main_v23, main_v24, main_v25, main_v26, main_v27]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
set_option maxRecDepth 8192 in
set_option maxHeartbeats 2000000 in
theorem val0_1_main_v22 (V0 : Valuation τ sig (Elt F)) : val0_1 V0 (no_index (Proc.devRef .tc main_v22)) = res_main_v22 V0 := by
  unfold val0_1
  simp only [ops_part0_0]
  after_results_simp
  try dsimp only [Matrix.cons_val]
  try after_results_simp
  simp only [val0_main_arg4] <;> rfl
set_option maxRecDepth 8192 in
set_option maxHeartbeats 2000000 in
theorem val0_1_main_v24 (V0 : Valuation τ sig (Elt F)) : val0_1 V0 (no_index (Proc.devRef .tc main_v24)) = broadcastInDim S32x16x1x2 ![0, 1, 3] bcast_S32x16x2_S32x16x1x2_0_1_3 (extractStridedSlice S32x16x2 ![0, 0, 0] (V0 (Proc.devRef .tc main_arg2)) slices_S32x16x4_S32x16x2_0_0_0) := by
  unfold val0_1
  simp only [ops_part0_0]
  after_results_simp
  try dsimp only [Matrix.cons_val]
  try after_results_simp
  simp only [val0_main_arg2] <;> rfl
set_option maxRecDepth 8192 in
set_option maxHeartbeats 2000000 in
theorem val0_1_main_v27 (V0 : Valuation τ sig (Elt F)) : val0_1 V0 (no_index (Proc.devRef .tc main_v27)) = broadcastInDim S1x1x8732x2 ![1, 2, 3] bcast_S1x8732x2_S1x1x8732x2_1_2_3 (broadcastInDim S1x8732x2 ![1, 2] bcast_S8732x2_S1x8732x2_1_2 (extractStridedSlice S8732x2 ![0, 0] (res_main_v22 V0) slices_S8732x4_S8732x2_0_0)) := by
  unfold val0_1
  simp only [ops_part0_0]
  after_results_simp
  try dsimp only [Matrix.cons_val]
  try after_results_simp
  simp only [val0_main_arg4] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v28, main_v29, main_v30, main_v31, main_v32, main_v33, main_v34, main_v35, main_v36, main_v37, main_v38, main_v39, main_cst_1, main_call0_v0, main_call0_v1, main_v40, main_v41, main_v42, main_v43, main_v44, main_v45, main_v46, main_v47, main_v48, main_v49, main_v50, main_v51, main_v52, main_v53, main_v54]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_v22 (V0 : Valuation τ sig (Elt F)) : val0_2 V0 (no_index (Proc.devRef .tc main_v22)) = res_main_v22 V0 :=
  (val0_2_keep V0 main_v22 (by decide)).trans (val0_1_main_v22 V0)
set_option maxRecDepth 8192 in
set_option maxHeartbeats 2000000 in
theorem val0_2_main_v45 (V0 : Valuation τ sig (Elt F)) : val0_2 V0 (no_index (Proc.devRef .tc main_v45)) = res_main_v45 V0 := by
  unfold val0_2
  simp only [ops_part0_1, TRef.binary, TRef.unary, TRef.toBuf, TRef.ofBuf, cast_eq]
  after_results_simp
  simp only [val0_1_main_v27, val0_1_main_v24, val0_1_main_v22, val0_1_main_arg2] <;> rfl
set_option maxRecDepth 8192 in
set_option maxHeartbeats 2000000 in
theorem val0_2_main_v50 (V0 : Valuation τ sig (Elt F)) : val0_2 V0 (no_index (Proc.devRef .tc main_v50)) = subf (shapeCast _ (extractStridedSlice S32x16x1 ![0, 0, 2] (V0 (Proc.devRef .tc main_arg2)) slices_S32x16x4_S32x16x1_0_0_2) shapeCasts_S32x16x1_S32x16) (shapeCast _ (extractStridedSlice S32x16x1 ![0, 0, 0] (V0 (Proc.devRef .tc main_arg2)) slices_S32x16x4_S32x16x1_0_0_0) shapeCasts_S32x16x1_S32x16) := by
  unfold val0_2
  simp only [ops_part0_1, TRef.binary, TRef.unary, TRef.toBuf, TRef.ofBuf, cast_eq]
  after_results_simp
  simp only [val0_1_main_arg2] <;> rfl
set_option maxRecDepth 8192 in
set_option maxHeartbeats 2000000 in
theorem val0_2_main_v52 (V0 : Valuation τ sig (Elt F)) : val0_2 V0 (no_index (Proc.devRef .tc main_v52)) = shapeCast _ (extractStridedSlice S32x16x1 ![0, 0, 3] (V0 (Proc.devRef .tc main_arg2)) slices_S32x16x4_S32x16x1_0_0_3) shapeCasts_S32x16x1_S32x16 := by
  unfold val0_2
  simp only [ops_part0_1, TRef.binary, TRef.unary, TRef.toBuf, TRef.ofBuf, cast_eq]
  after_results_simp
  simp only [val0_1_main_arg2] <;> rfl
set_option maxRecDepth 8192 in
set_option maxHeartbeats 2000000 in
theorem val0_2_main_v54 (V0 : Valuation τ sig (Elt F)) : val0_2 V0 (no_index (Proc.devRef .tc main_v54)) = shapeCast _ (extractStridedSlice S32x16x1 ![0, 0, 1] (V0 (Proc.devRef .tc main_arg2)) slices_S32x16x4_S32x16x1_0_0_1) shapeCasts_S32x16x1_S32x16 := by
  unfold val0_2
  simp only [ops_part0_1, TRef.binary, TRef.unary, TRef.toBuf, TRef.ofBuf, cast_eq]
  after_results_simp
  simp only [val0_1_main_arg2] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v55, main_v56]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; refine ⟨?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_v22 (V0 : Valuation τ sig (Elt F)) : val1 V0 (no_index (Proc.devRef .tc main_v22)) = res_main_v22 V0 :=
  (val1_keep V0 main_v22 (by decide)).trans (val0_2_main_v22 V0)
theorem val1_main_v45 (V0 : Valuation τ sig (Elt F)) : val1 V0 (no_index (Proc.devRef .tc main_v45)) = res_main_v45 V0 :=
  (val1_keep V0 main_v45 (by decide)).trans (val0_2_main_v45 V0)
set_option maxRecDepth 8192 in
theorem val1_main_v56 (V0 : Valuation τ sig (Elt F)) : val1 V0 (no_index (Proc.devRef .tc main_v56)) = mulf (subf (shapeCast _ (extractStridedSlice S32x16x1 ![0, 0, 2] (V0 (Proc.devRef .tc main_arg2)) slices_S32x16x4_S32x16x1_0_0_2) shapeCasts_S32x16x1_S32x16) (shapeCast _ (extractStridedSlice S32x16x1 ![0, 0, 0] (V0 (Proc.devRef .tc main_arg2)) slices_S32x16x4_S32x16x1_0_0_0) shapeCasts_S32x16x1_S32x16)) (subf (shapeCast _ (extractStridedSlice S32x16x1 ![0, 0, 3] (V0 (Proc.devRef .tc main_arg2)) slices_S32x16x4_S32x16x1_0_0_3) shapeCasts_S32x16x1_S32x16) (shapeCast _ (extractStridedSlice S32x16x1 ![0, 0, 1] (V0 (Proc.devRef .tc main_arg2)) slices_S32x16x4_S32x16x1_0_0_1) shapeCasts_S32x16x1_S32x16)) := by
  unfold val1
  simp only [ops_part0_2]
  after_results_simp
  simp only [val0_2_main_v54, val0_2_main_v52, val0_2_main_v50] <;> rfl

/-- The device's buffer contents after @main's first 92 operations. -/
def val1_1 (V0 : Valuation τ sig (Elt F)) : Valuation τ sig (Elt F) := after ops_part1_0 (val1 V0)
/-- The buffers that window `ops_part1_0`'s operations write. -/
abbrev ops_part1_0_W : List (Ref sig .tc) := [main_v57, main_v58, main_v59, main_v60, main_v61, main_v62, main_v63, main_v64, main_v65, main_v66, main_v67, main_v68, main_v69, main_v70, main_v71, main_v72, main_v73, main_v74, main_v75, main_v76, main_v77, main_cst_2, main_v78, main_call1_v0, main_call1_cst, main_call1_c, main_call1_v1_0, main_v79, main_call2_v0, main_call2_cst]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
set_option maxRecDepth 8192 in
set_option maxHeartbeats 2000000 in
theorem val1_1_main_v75 (V0 : Valuation τ sig (Elt F)) : val1_1 V0 (no_index (Proc.devRef .tc main_v75)) = res_main_v75 V0 := by
  unfold val1_1
  simp only [ops_part1_0, TRef.nullary, TRef.quaternary, TRef.toBuf, TRef.ofBuf, cast_eq]
  after_results_simp
  simp only [val1_main_v22, val1_main_v56, val1_main_v45] <;> rfl
set_option maxRecDepth 8192 in
set_option maxHeartbeats 2000000 in
theorem val1_1_main_v77 (V0 : Valuation τ sig (Elt F)) : val1_1 V0 (no_index (Proc.devRef .tc main_v77)) = res_main_v77 V0 := by
  unfold val1_1
  simp only [ops_part1_0, TRef.nullary, TRef.quaternary, TRef.toBuf, TRef.ofBuf, cast_eq]
  after_results_simp
  all_goals rfl
set_option maxRecDepth 8192 in
set_option maxHeartbeats 2000000 in
theorem val1_1_main_v78 (V0 : Valuation τ sig (Elt F)) : val1_1 V0 (no_index (Proc.devRef .tc main_v78)) = Host.reduce FloatOps.maximumf (res_main_v75 V0) (constant S_ .f32 0xFF800000#32) reducesTo_S32x16x8732_S32x8732_d1 h_S_ := by
  unfold val1_1
  simp only [ops_part1_0, TRef.nullary, TRef.quaternary, TRef.toBuf, TRef.ofBuf, cast_eq]
  after_results_simp
  simp only [val1_main_v22, val1_main_v56, val1_main_v45] <;> rfl
set_option maxRecDepth 8192 in
set_option maxHeartbeats 2000000 in
theorem val1_1_main_v79 (V0 : Valuation τ sig (Elt F)) : val1_1 V0 (no_index (Proc.devRef .tc main_v79)) = (fun j => (Host.argReduce reducer_argmax_f32_i32 (res_main_v75 V0) (res_main_call1_v0 V0) (res_main_call1_cst V0) (res_main_call1_c V0) reducesTo_S32x16x8732_S32x8732_d1 h_S_ j).2) := by
  unfold val1_1
  simp only [ops_part1_0, TRef.nullary, TRef.quaternary, TRef.toBuf, TRef.ofBuf, cast_eq]
  after_results_simp
  simp only [val1_main_v22, val1_main_v56, val1_main_v45] <;> rfl
set_option maxRecDepth 8192 in
set_option maxHeartbeats 2000000 in
theorem val1_1_main_call2_v0 (V0 : Valuation τ sig (Elt F)) : val1_1 V0 (no_index (Proc.devRef .tc main_call2_v0)) = res_main_call2_v0 V0 := by
  unfold val1_1
  simp only [ops_part1_0, TRef.nullary, TRef.quaternary, TRef.toBuf, TRef.ofBuf, cast_eq]
  after_results_simp
  all_goals rfl
set_option maxRecDepth 8192 in
set_option maxHeartbeats 2000000 in
theorem val1_1_main_call2_cst (V0 : Valuation τ sig (Elt F)) : val1_1 V0 (no_index (Proc.devRef .tc main_call2_cst)) = res_main_call2_cst V0 := by
  unfold val1_1
  simp only [ops_part1_0, TRef.nullary, TRef.quaternary, TRef.toBuf, TRef.ofBuf, cast_eq]
  after_results_simp
  all_goals rfl

/-- The device's buffer contents after @main's first 122 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call2_c, main_call2_v1_0, main_v80, main_v81, main_v82, main_c, main_v83, main_v84, main_c_3, main_v85, main_v86, main_v87, main_c_4, main_v88, main_v89, main_c_5, main_v90, main_v91, main_v92, main_v93, main_v94, main_v95, main_v96, main_v97, main_c_6, main_v98, main_v99, main_c_7, main_v100, main_v101]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_v77 (V0 : Valuation τ sig (Elt F)) : val1_2 V0 (no_index (Proc.devRef .tc main_v77)) = res_main_v77 V0 :=
  (val1_2_keep V0 main_v77 (by decide)).trans (val1_1_main_v77 V0)
theorem val1_2_main_v78 (V0 : Valuation τ sig (Elt F)) : val1_2 V0 (no_index (Proc.devRef .tc main_v78)) = Host.reduce FloatOps.maximumf (res_main_v75 V0) (constant S_ .f32 0xFF800000#32) reducesTo_S32x16x8732_S32x8732_d1 h_S_ :=
  (val1_2_keep V0 main_v78 (by decide)).trans (val1_1_main_v78 V0)
set_option maxRecDepth 8192 in
set_option maxHeartbeats 2000000 in
theorem val1_2_main_v80 (V0 : Valuation τ sig (Elt F)) : val1_2 V0 (no_index (Proc.devRef .tc main_v80)) = res_main_v80 V0 := by
  unfold val1_2
  simp only [ops_part1_1, TRef.nullary, TRef.quaternary, TRef.toBuf, TRef.ofBuf, cast_eq]
  after_results_simp
  simp only [val1_1_main_call2_cst, val1_1_main_call2_v0, val1_1_main_v75] <;> rfl
set_option maxRecDepth 8192 in
set_option maxHeartbeats 2000000 in
theorem val1_2_main_v97 (V0 : Valuation τ sig (Elt F)) : val1_2 V0 (no_index (Proc.devRef .tc main_v97)) = res_main_v97 V0 := by
  unfold val1_2
  simp only [ops_part1_1, TRef.nullary, TRef.quaternary, TRef.toBuf, TRef.ofBuf, cast_eq]
  after_results_simp
  simp only [val1_1_main_call2_cst, val1_1_main_call2_v0, val1_1_main_v75, val1_1_main_v77, val1_1_main_v79] <;> rfl
set_option maxRecDepth 8192 in
set_option maxHeartbeats 2000000 in
theorem val1_2_main_v99 (V0 : Valuation τ sig (Elt F)) : val1_2 V0 (no_index (Proc.devRef .tc main_v99)) = cmpi .slt (res_main_v77 V0) (broadcastInDim S32x1 ![] bcast_S_S32x1 (constantI S_ 32 0#32)) := by
  unfold val1_2
  simp only [ops_part1_1, TRef.nullary, TRef.quaternary, TRef.toBuf, TRef.ofBuf, cast_eq]
  after_results_simp
  simp only [val1_1_main_v77] <;> rfl
set_option maxRecDepth 8192 in
set_option maxHeartbeats 2000000 in
theorem val1_2_main_v101 (V0 : Valuation τ sig (Elt F)) : val1_2 V0 (no_index (Proc.devRef .tc main_v101)) = addi (res_main_v77 V0) (broadcastInDim S32x1 ![] bcast_S_S32x1 (constantI S_ 32 32#32)) := by
  unfold val1_2
  simp only [ops_part1_1, TRef.nullary, TRef.quaternary, TRef.toBuf, TRef.ofBuf, cast_eq]
  after_results_simp
  simp only [val1_1_main_v77] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v102, main_c_8, main_v103, main_v104, main_c_9, main_v105, main_v106, main_v107]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; refine ⟨?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_v77 (V0 : Valuation τ sig (Elt F)) : val2 V0 (no_index (Proc.devRef .tc main_v77)) = res_main_v77 V0 :=
  (val2_keep V0 main_v77 (by decide)).trans (val1_2_main_v77 V0)
theorem val2_main_v78 (V0 : Valuation τ sig (Elt F)) : val2 V0 (no_index (Proc.devRef .tc main_v78)) = Host.reduce FloatOps.maximumf (res_main_v75 V0) (constant S_ .f32 0xFF800000#32) reducesTo_S32x16x8732_S32x8732_d1 h_S_ :=
  (val2_keep V0 main_v78 (by decide)).trans (val1_2_main_v78 V0)
theorem val2_main_v97 (V0 : Valuation τ sig (Elt F)) : val2 V0 (no_index (Proc.devRef .tc main_v97)) = res_main_v97 V0 :=
  (val2_keep V0 main_v97 (by decide)).trans (val1_2_main_v97 V0)
set_option maxRecDepth 8192 in
theorem val2_main_v102 (V0 : Valuation τ sig (Elt F)) : val2 V0 (no_index (Proc.devRef .tc main_v102)) = select (cmpi .slt (res_main_v77 V0) (broadcastInDim S32x1 ![] bcast_S_S32x1 (constantI S_ 32 0#32))) (addi (res_main_v77 V0) (broadcastInDim S32x1 ![] bcast_S_S32x1 (constantI S_ 32 32#32))) (res_main_v77 V0) := by
  unfold val2
  simp only [ops_part1_2]
  after_results_simp
  simp only [val1_2_main_v77, val1_2_main_v101, val1_2_main_v99] <;> rfl
set_option maxRecDepth 8192 in
theorem val2_main_v107 (V0 : Valuation τ sig (Elt F)) : val2 V0 (no_index (Proc.devRef .tc main_v107)) = select (cmpi .slt (res_main_v80 V0) (broadcastInDim S32x16 ![] bcast_S_S32x16 (constantI S_ 32 0#32))) (addi (res_main_v80 V0) (broadcastInDim S32x16 ![] bcast_S_S32x16 (constantI S_ 32 8732#32))) (res_main_v80 V0) := by
  unfold val2
  simp only [ops_part1_2]
  after_results_simp
  simp only [val1_2_main_v80] <;> rfl

/-- The device's buffer contents after @main's first 160 operations. -/
def val2_1 (V0 : Valuation τ sig (Elt F)) : Valuation τ sig (Elt F) := after ops_part2_0 (val2 V0)
/-- The buffers that window `ops_part2_0`'s operations write. -/
abbrev ops_part2_0_W : List (Ref sig .tc) := [main_v108, main_v109, main_v110, main_v111, main_cst_10, main_v112, main_v113, main_c_11, main_v114, main_v115, main_c_12, main_v116, main_v117, main_v118, main_c_13, main_v119, main_v120, main_c_14, main_v121, main_v122, main_v123, main_v124, main_v125, main_v126, main_v127, main_v128, main_cst_15, main_v129, main_v130, main_c_16]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_v77 (V0 : Valuation τ sig (Elt F)) : val2_1 V0 (no_index (Proc.devRef .tc main_v77)) = res_main_v77 V0 :=
  (val2_1_keep V0 main_v77 (by decide)).trans (val2_main_v77 V0)
theorem val2_1_main_v97 (V0 : Valuation τ sig (Elt F)) : val2_1 V0 (no_index (Proc.devRef .tc main_v97)) = res_main_v97 V0 :=
  (val2_1_keep V0 main_v97 (by decide)).trans (val2_main_v97 V0)
set_option maxRecDepth 8192 in
set_option maxHeartbeats 2000000 in
theorem val2_1_main_v128 (V0 : Valuation τ sig (Elt F)) : val2_1 V0 (no_index (Proc.devRef .tc main_v128)) = Host.gather gather_S32x16_S32x8732x2_S32x8732_n_01_n_n_01_2_11 (V0 (Proc.devRef .tc main_arg3)) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v77 V0) (broadcastInDim S32x1 ![] bcast_S_S32x1 (constantI S_ 32 0#32))) (addi (res_main_v77 V0) (broadcastInDim S32x1 ![] bcast_S_S32x1 (constantI S_ 32 32#32))) (res_main_v77 V0))))⟩, ⟨S32x8732x1, (broadcastInDim S32x8732x1 ![0, 1] bcast_S32x8732_S32x8732x1_0_1 (select (cmpi .slt (res_main_v97 V0) (broadcastInDim S32x8732 ![] bcast_S_S32x8732 (constantI S_ 32 0#32))) (addi (res_main_v97 V0) (broadcastInDim S32x8732 ![] bcast_S_S32x8732 (constantI S_ 32 16#32))) (res_main_v97 V0)))⟩] concatenates_S32x8732x1_S32x8732x1_S32x8732x2_d2) := by
  unfold val2_1
  simp only [ops_part2_0]
  after_results_simp
  simp only [val2_main_v97, val2_main_v77, val2_main_arg3] <;> rfl
set_option maxRecDepth 8192 in
set_option maxHeartbeats 2000000 in
theorem val2_1_main_v130 (V0 : Valuation τ sig (Elt F)) : val2_1 V0 (no_index (Proc.devRef .tc main_v130)) = cmpf .olt (Host.scatter scatter_S32x8732_S32x16x2_S32x16_n_01_01_2 (fun _ b => b) (Host.reduce FloatOps.maximumf (res_main_v75 V0) (constant S_ .f32 0xFF800000#32) reducesTo_S32x16x8732_S32x8732_d1 h_S_) (concatenate S32x16x2 2 [⟨S32x16x1, (broadcastInDim S32x16x1 ![0, 1] bcast_S32x16_S32x16x1_0_1 (broadcastInDim S32x16 ![0, 1] bcast_S32x1_S32x16_0_1 (select (cmpi .slt (res_main_v77 V0) (broadcastInDim S32x1 ![] bcast_S_S32x1 (constantI S_ 32 0#32))) (addi (res_main_v77 V0) (broadcastInDim S32x1 ![] bcast_S_S32x1 (constantI S_ 32 32#32))) (res_main_v77 V0))))⟩, ⟨S32x16x1, (broadcastInDim S32x16x1 ![0, 1] bcast_S32x16_S32x16x1_0_1 (select (cmpi .slt (res_main_v80 V0) (broadcastInDim S32x16 ![] bcast_S_S32x16 (constantI S_ 32 0#32))) (addi (res_main_v80 V0) (broadcastInDim S32x16 ![] bcast_S_S32x16 (constantI S_ 32 8732#32))) (res_main_v80 V0)))⟩] concatenates_S32x16x1_S32x16x1_S32x16x2_d2) (broadcastInDim S32x16 ![] bcast_S_S32x16 (constant S_ .f32 0x3F000000#32))) (broadcastInDim S32x8732 ![] bcast_S_S32x8732 (constant S_ .f32 0x3F000000#32)) := by
  unfold val2_1
  simp only [ops_part2_0]
  after_results_simp
  simp only [val2_main_v107, val2_main_v102, val2_main_v78] <;> rfl
set_option maxRecDepth 8192 in
set_option maxHeartbeats 2000000 in
theorem val2_1_main_c_16 (V0 : Valuation τ sig (Elt F)) : val2_1 V0 (no_index (Proc.devRef .tc main_c_16)) = constantI S_ 32 0#32 := by
  unfold val2_1
  simp only [ops_part2_0]
  after_results_simp
  all_goals rfl

/-- The device's buffer contents after @main's first 190 operations. -/
def val2_2 (V0 : Valuation τ sig (Elt F)) : Valuation τ sig (Elt F) := after ops_part2_1 (val2_1 V0)
/-- The buffers that window `ops_part2_1`'s operations write. -/
abbrev ops_part2_1_W : List (Ref sig .tc) := [main_call3_v0, main_call3_v1, main_v131, main_c_17, main_v132, main_v133, main_c_18, main_v134, main_v135, main_v136, main_c_19, main_v137, main_v138, main_c_20, main_v139, main_v140, main_v141, main_v142, main_v143, main_v144, main_v145, main_v146, main_v147, main_v148, main_v149, main_v150, main_v151, main_cst_21, main_v152, main_v153]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
set_option maxRecDepth 8192 in
set_option maxHeartbeats 2000000 in
theorem val2_2_main_v131 (V0 : Valuation τ sig (Elt F)) : val2_2 V0 (no_index (Proc.devRef .tc main_v131)) = res_main_v131 V0 := by
  unfold val2_2
  simp only [ops_part2_1, TRef.ternary, TRef.unary, TRef.toBuf, TRef.ofBuf, cast_eq]
  after_results_simp
  simp only [val2_1_main_v128, val2_1_main_c_16, val2_1_main_v130] <;> rfl
set_option maxRecDepth 8192 in
set_option maxHeartbeats 2000000 in
theorem val2_2_main_v146 (V0 : Valuation τ sig (Elt F)) : val2_2 V0 (no_index (Proc.devRef .tc main_v146)) = res_main_v146 V0 := by
  unfold val2_2
  simp only [ops_part2_1, TRef.ternary, TRef.unary, TRef.toBuf, TRef.ofBuf, cast_eq]
  after_results_simp
  simp only [val2_1_main_v97, val2_1_main_v77, val2_1_main_arg2] <;> rfl
set_option maxRecDepth 8192 in
set_option maxHeartbeats 2000000 in
theorem val2_2_main_v153 (V0 : Valuation τ sig (Elt F)) : val2_2 V0 (no_index (Proc.devRef .tc main_v153)) = Host.divf (addf (shapeCast _ (extractStridedSlice S32x8732x1 ![0, 0, 0] (res_main_v146 V0) slices_S32x8732x4_S32x8732x1_0_0_0) shapeCasts_S32x8732x1_S32x8732) (shapeCast _ (extractStridedSlice S32x8732x1 ![0, 0, 2] (res_main_v146 V0) slices_S32x8732x4_S32x8732x1_0_0_2) shapeCasts_S32x8732x1_S32x8732)) (broadcastInDim S32x8732 ![] bcast_S_S32x8732 (constant S_ .f32 0x40000000#32)) := by
  unfold val2_2
  simp only [ops_part2_1, TRef.ternary, TRef.unary, TRef.toBuf, TRef.ofBuf, cast_eq]
  after_results_simp
  simp only [val2_1_main_v97, val2_1_main_v77, val2_1_main_arg2] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v154, main_v155]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; refine ⟨?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_v131 (V0 : Valuation τ sig (Elt F)) : val3 V0 (no_index (Proc.devRef .tc main_v131)) = res_main_v131 V0 :=
  (val3_keep V0 main_v131 (by decide)).trans (val2_2_main_v131 V0)
theorem val3_main_v146 (V0 : Valuation τ sig (Elt F)) : val3 V0 (no_index (Proc.devRef .tc main_v146)) = res_main_v146 V0 :=
  (val3_keep V0 main_v146 (by decide)).trans (val2_2_main_v146 V0)
theorem val3_main_v153 (V0 : Valuation τ sig (Elt F)) : val3 V0 (no_index (Proc.devRef .tc main_v153)) = Host.divf (addf (shapeCast _ (extractStridedSlice S32x8732x1 ![0, 0, 0] (res_main_v146 V0) slices_S32x8732x4_S32x8732x1_0_0_0) shapeCasts_S32x8732x1_S32x8732) (shapeCast _ (extractStridedSlice S32x8732x1 ![0, 0, 2] (res_main_v146 V0) slices_S32x8732x4_S32x8732x1_0_0_2) shapeCasts_S32x8732x1_S32x8732)) (broadcastInDim S32x8732 ![] bcast_S_S32x8732 (constant S_ .f32 0x40000000#32)) :=
  (val3_keep V0 main_v153 (by decide)).trans (val2_2_main_v153 V0)
set_option maxRecDepth 8192 in
theorem val3_main_v155 (V0 : Valuation τ sig (Elt F)) : val3 V0 (no_index (Proc.devRef .tc main_v155)) = shapeCast _ (extractStridedSlice S32x8732x1 ![0, 0, 1] (res_main_v146 V0) slices_S32x8732x4_S32x8732x1_0_0_1) shapeCasts_S32x8732x1_S32x8732 := by
  unfold val3
  simp only [ops_part2_2]
  after_results_simp
  simp only [val2_2_main_v146] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v156, main_v157, main_v158, main_cst_22, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214]
set_option maxRecDepth 8192 in
theorem ops_part3_writes : (ops_part3 : List (HloOp τ sig (Elt F))).Forall fun op => op.writes ⊆ (ops_part3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_v131 (V0 : Valuation τ sig (Elt F)) : val4 V0 (no_index (Proc.devRef .tc main_v131)) = res_main_v131 V0 :=
  (val4_keep V0 main_v131 (by decide)).trans (val3_main_v131 V0)
set_option maxRecDepth 8192 in
set_option maxHeartbeats 2000000 in
theorem val4_main_v214 (V0 : Valuation τ sig (Elt F)) : val4 V0 (no_index (Proc.devRef .tc main_v214)) = (concatenate S32x8732x4 2 [⟨S32x8732x1, ((broadcastInDim S32x8732x1 ![0, 1] bcast_S32x8732_S32x8732x1_0_1 (Host.divf (subf (shapeCast _ (extractStridedSlice S32x8732x1 ![0, 0, 0] (res_main_v169 V0) slices_S32x8732x4_S32x8732x1_0_0_0) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 0] (V0 (Proc.devRef .tc main_arg4)) slices_S8732x4_S8732x1_0_0) shapeCasts_S8732x1_S8732)))) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732))))) : (⟨S32x8732x1, .f32⟩ : BufTy).Contents (Elt F))⟩, ⟨S32x8732x1, ((broadcastInDim S32x8732x1 ![0, 1] bcast_S32x8732_S32x8732x1_0_1 (Host.divf (subf (shapeCast _ (extractStridedSlice S32x8732x1 ![0, 0, 1] (res_main_v169 V0) slices_S32x8732x4_S32x8732x1_0_0_1) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 1] (V0 (Proc.devRef .tc main_arg4)) slices_S8732x4_S8732x1_0_1) shapeCasts_S8732x1_S8732)))) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 2] (res_main_v169 V0) slices_S32x8732x4_S32x8732x1_0_0_2) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732)))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 3] (res_main_v169 V0) slices_S32x8732x4_S32x8732x1_0_0_3) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732)))))) : (⟨S32x8732x1, .f32⟩ : BufTy).Contents (Elt F))⟩] concatenates_S32x8732x1_S32x8732x1_S32x8732x1_S32x8732x1_S32x8732x4_d2 : (⟨S32x8732x4, .f32⟩ : BufTy).Contents (Elt F)) := by
  unfold val4
  simp only [ops_part3]
  after_results_simp
  try dsimp only [Matrix.cons_val]
  try after_results_simp
  try dsimp only [Matrix.cons_val]
  try after_results_simp
  simp only [val3_main_arg4, val3_main_v146, val3_main_v155, val3_main_v153] <;> rfl

/-- The device's buffer contents after @main's first 282 operations. -/
def val4_1 (V0 : Valuation τ sig (Elt F)) : Valuation τ sig (Elt F) := after ops_part4_0 (val4 V0)
/-- The buffers that window `ops_part4_0`'s operations write. -/
abbrev ops_part4_0_W : List (Ref sig .tc) := [main_c_23, main_v215, main_v216, main_v217, main_cst_24, main_v218, main_v219, main_v220, main_v221, main_v222, main_v223, main_cst_25, main_v224, main_cst_26, main_v225, main_cst_27, main_v226, main_v227, main_v228, main_cst_28, main_v229, main_v230, main_v231, main_v232, main_v233, main_cst_29, main_v234, main_v235, main_v236, main_v237]
set_option maxRecDepth 8192 in
theorem ops_part4_0_writes : (ops_part4_0 : List (HloOp τ sig (Elt F))).Forall fun op => op.writes ⊆ (ops_part4_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part4_0` does not write keeps its contents through it. -/
theorem val4_1_keep (V0 : Valuation τ sig (Elt F)) (r : Ref sig .tc) (h : r ∉ ops_part4_0_W) :
    val4_1 V0 (Proc.devRef .tc r) = val4 V0 (Proc.devRef .tc r) :=
  after_of_writes_sub ops_part4_0 _ ops_part4_0_writes h
theorem val4_1_main_arg0 (V0 : Valuation τ sig (Elt F)) : val4_1 V0 (no_index (Proc.devRef .tc main_arg0)) = V0 (Proc.devRef .tc main_arg0) :=
  (val4_1_keep V0 main_arg0 (by decide)).trans (val4_main_arg0 V0)
theorem val4_1_main_arg1 (V0 : Valuation τ sig (Elt F)) : val4_1 V0 (no_index (Proc.devRef .tc main_arg1)) = V0 (Proc.devRef .tc main_arg1) :=
  (val4_1_keep V0 main_arg1 (by decide)).trans (val4_main_arg1 V0)
theorem val4_1_main_arg2 (V0 : Valuation τ sig (Elt F)) : val4_1 V0 (no_index (Proc.devRef .tc main_arg2)) = V0 (Proc.devRef .tc main_arg2) :=
  (val4_1_keep V0 main_arg2 (by decide)).trans (val4_main_arg2 V0)
theorem val4_1_main_arg3 (V0 : Valuation τ sig (Elt F)) : val4_1 V0 (no_index (Proc.devRef .tc main_arg3)) = V0 (Proc.devRef .tc main_arg3) :=
  (val4_1_keep V0 main_arg3 (by decide)).trans (val4_main_arg3 V0)
theorem val4_1_main_arg4 (V0 : Valuation τ sig (Elt F)) : val4_1 V0 (no_index (Proc.devRef .tc main_arg4)) = V0 (Proc.devRef .tc main_arg4) :=
  (val4_1_keep V0 main_arg4 (by decide)).trans (val4_main_arg4 V0)
set_option maxRecDepth 8192 in
set_option maxHeartbeats 2000000 in
theorem val4_1_main_v217 (V0 : Valuation τ sig (Elt F)) : val4_1 V0 (no_index (Proc.devRef .tc main_v217)) = res_main_v217 V0 := by
  unfold val4_1
  simp only [ops_part4_0]
  after_results_simp
  simp only [val4_main_v131] <;> rfl
set_option maxRecDepth 8192 in
set_option maxHeartbeats 2000000 in
theorem val4_1_main_v218 (V0 : Valuation τ sig (Elt F)) : val4_1 V0 (no_index (Proc.devRef .tc main_v218)) = res_main_v218 V0 := by
  unfold val4_1
  simp only [ops_part4_0]
  after_results_simp
  simp only [val4_main_v131] <;> rfl
set_option maxRecDepth 8192 in
set_option maxHeartbeats 2000000 in
theorem val4_1_main_v227 (V0 : Valuation τ sig (Elt F)) : val4_1 V0 (no_index (Proc.devRef .tc main_v227)) = Host.divf (Host.reduceAdd (mulf (Host.absf (subf (V0 (Proc.devRef .tc main_arg0)) ((concatenate S32x8732x4 2 [⟨S32x8732x1, ((broadcastInDim S32x8732x1 ![0, 1] bcast_S32x8732_S32x8732x1_0_1 (Host.divf (subf (shapeCast _ (extractStridedSlice S32x8732x1 ![0, 0, 0] (res_main_v169 V0) slices_S32x8732x4_S32x8732x1_0_0_0) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 0] (V0 (Proc.devRef .tc main_arg4)) slices_S8732x4_S8732x1_0_0) shapeCasts_S8732x1_S8732)))) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732))))) : (⟨S32x8732x1, .f32⟩ : BufTy).Contents (Elt F))⟩, ⟨S32x8732x1, ((broadcastInDim S32x8732x1 ![0, 1] bcast_S32x8732_S32x8732x1_0_1 (Host.divf (subf (shapeCast _ (extractStridedSlice S32x8732x1 ![0, 0, 1] (res_main_v169 V0) slices_S32x8732x4_S32x8732x1_0_0_1) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 1] (V0 (Proc.devRef .tc main_arg4)) slices_S8732x4_S8732x1_0_1) shapeCasts_S8732x1_S8732)))) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 2] (res_main_v169 V0) slices_S32x8732x4_S32x8732x1_0_0_2) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732)))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 3] (res_main_v169 V0) slices_S32x8732x4_S32x8732x1_0_0_3) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732)))))) : (⟨S32x8732x1, .f32⟩ : BufTy).Contents (Elt F))⟩] concatenates_S32x8732x1_S32x8732x1_S32x8732x1_S32x8732x1_S32x8732x4_d2 : (⟨S32x8732x4, .f32⟩ : BufTy).Contents (Elt F))))) (broadcastInDim S32x8732x4 ![0, 1, 2] bcast_S32x8732x1_S32x8732x4_0_1_2 (broadcastInDim S32x8732x1 ![0, 1] bcast_S32x8732_S32x8732x1_0_1 (res_main_v217 V0)))) (constant S_ .f32 0x00000000#32) reducesTo_S32x8732x4_S_d0_1_2 h_S_) (mulf (Host.reduceAdd (res_main_v217 V0) (constant S_ .f32 0x00000000#32) reducesTo_S32x8732_S_d0_1 h_S_) (constant S_ .f32 0x40800000#32)) := by
  unfold val4_1
  simp only [ops_part4_0]
  after_results_simp
  simp only [val4_main_v131, val4_main_v214, val4_main_arg0] <;> rfl
set_option maxRecDepth 8192 in
set_option maxHeartbeats 2000000 in
theorem val4_1_main_v228 (V0 : Valuation τ sig (Elt F)) : val4_1 V0 (no_index (Proc.devRef .tc main_v228)) = res_main_v228 V0 := by
  unfold val4_1
  simp only [ops_part4_0]
  after_results_simp
  simp only [val4_main_arg1] <;> rfl
set_option maxRecDepth 8192 in
set_option maxHeartbeats 2000000 in
theorem val4_1_main_v236 (V0 : Valuation τ sig (Elt F)) : val4_1 V0 (no_index (Proc.devRef .tc main_v236)) = addf (Host.log (Host.reduceAdd (Host.exp (subf (res_main_v228 V0) (broadcastInDim S279424x81 ![0, 1] bcast_S279424x1_S279424x81_0_1 (broadcastInDim S279424x1 ![0] bcast_S279424_S279424x1_0 (res_main_v229 V0))))) (constant S_ .f32 0x00000000#32) reducesTo_S279424x81_S279424_d1 h_S_)) (res_main_v229 V0) := by
  unfold val4_1
  simp only [ops_part4_0]
  after_results_simp
  simp only [val4_main_arg1] <;> rfl
set_option maxRecDepth 8192 in
set_option maxHeartbeats 2000000 in
theorem val4_1_main_v237 (V0 : Valuation τ sig (Elt F)) : val4_1 V0 (no_index (Proc.devRef .tc main_v237)) = res_main_v237 V0 := by
  unfold val4_1
  simp only [ops_part4_0]
  after_results_simp
  simp only [val4_main_v131] <;> rfl

/-- The device's buffer contents after @main's first 312 operations. -/
def val4_2 (V0 : Valuation τ sig (Elt F)) : Valuation τ sig (Elt F) := after ops_part4_1 (val4_1 V0)
/-- The buffers that window `ops_part4_1`'s operations write. -/
abbrev ops_part4_1_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v238, main_v239, main_v240, main_v241, main_v242, main_cst_30, main_v243, main_cst_31, main_v244]
set_option maxRecDepth 8192 in
theorem ops_part4_1_writes : (ops_part4_1 : List (HloOp τ sig (Elt F))).Forall fun op => op.writes ⊆ (ops_part4_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part4_1` does not write keeps its contents through it. -/
theorem val4_2_keep (V0 : Valuation τ sig (Elt F)) (r : Ref sig .tc) (h : r ∉ ops_part4_1_W) :
    val4_2 V0 (Proc.devRef .tc r) = val4_1 V0 (Proc.devRef .tc r) :=
  after_of_writes_sub ops_part4_1 _ ops_part4_1_writes h
theorem val4_2_main_arg0 (V0 : Valuation τ sig (Elt F)) : val4_2 V0 (no_index (Proc.devRef .tc main_arg0)) = V0 (Proc.devRef .tc main_arg0) :=
  (val4_2_keep V0 main_arg0 (by decide)).trans (val4_1_main_arg0 V0)
theorem val4_2_main_arg1 (V0 : Valuation τ sig (Elt F)) : val4_2 V0 (no_index (Proc.devRef .tc main_arg1)) = V0 (Proc.devRef .tc main_arg1) :=
  (val4_2_keep V0 main_arg1 (by decide)).trans (val4_1_main_arg1 V0)
theorem val4_2_main_arg2 (V0 : Valuation τ sig (Elt F)) : val4_2 V0 (no_index (Proc.devRef .tc main_arg2)) = V0 (Proc.devRef .tc main_arg2) :=
  (val4_2_keep V0 main_arg2 (by decide)).trans (val4_1_main_arg2 V0)
theorem val4_2_main_arg3 (V0 : Valuation τ sig (Elt F)) : val4_2 V0 (no_index (Proc.devRef .tc main_arg3)) = V0 (Proc.devRef .tc main_arg3) :=
  (val4_2_keep V0 main_arg3 (by decide)).trans (val4_1_main_arg3 V0)
theorem val4_2_main_arg4 (V0 : Valuation τ sig (Elt F)) : val4_2 V0 (no_index (Proc.devRef .tc main_arg4)) = V0 (Proc.devRef .tc main_arg4) :=
  (val4_2_keep V0 main_arg4 (by decide)).trans (val4_1_main_arg4 V0)
theorem val4_2_main_v217 (V0 : Valuation τ sig (Elt F)) : val4_2 V0 (no_index (Proc.devRef .tc main_v217)) = res_main_v217 V0 :=
  (val4_2_keep V0 main_v217 (by decide)).trans (val4_1_main_v217 V0)
theorem val4_2_main_v218 (V0 : Valuation τ sig (Elt F)) : val4_2 V0 (no_index (Proc.devRef .tc main_v218)) = res_main_v218 V0 :=
  (val4_2_keep V0 main_v218 (by decide)).trans (val4_1_main_v218 V0)
theorem val4_2_main_v227 (V0 : Valuation τ sig (Elt F)) : val4_2 V0 (no_index (Proc.devRef .tc main_v227)) = Host.divf (Host.reduceAdd (mulf (Host.absf (subf (V0 (Proc.devRef .tc main_arg0)) ((concatenate S32x8732x4 2 [⟨S32x8732x1, ((broadcastInDim S32x8732x1 ![0, 1] bcast_S32x8732_S32x8732x1_0_1 (Host.divf (subf (shapeCast _ (extractStridedSlice S32x8732x1 ![0, 0, 0] (res_main_v169 V0) slices_S32x8732x4_S32x8732x1_0_0_0) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 0] (V0 (Proc.devRef .tc main_arg4)) slices_S8732x4_S8732x1_0_0) shapeCasts_S8732x1_S8732)))) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732))))) : (⟨S32x8732x1, .f32⟩ : BufTy).Contents (Elt F))⟩, ⟨S32x8732x1, ((broadcastInDim S32x8732x1 ![0, 1] bcast_S32x8732_S32x8732x1_0_1 (Host.divf (subf (shapeCast _ (extractStridedSlice S32x8732x1 ![0, 0, 1] (res_main_v169 V0) slices_S32x8732x4_S32x8732x1_0_0_1) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 1] (V0 (Proc.devRef .tc main_arg4)) slices_S8732x4_S8732x1_0_1) shapeCasts_S8732x1_S8732)))) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 2] (res_main_v169 V0) slices_S32x8732x4_S32x8732x1_0_0_2) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732)))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 3] (res_main_v169 V0) slices_S32x8732x4_S32x8732x1_0_0_3) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732)))))) : (⟨S32x8732x1, .f32⟩ : BufTy).Contents (Elt F))⟩] concatenates_S32x8732x1_S32x8732x1_S32x8732x1_S32x8732x1_S32x8732x4_d2 : (⟨S32x8732x4, .f32⟩ : BufTy).Contents (Elt F))))) (broadcastInDim S32x8732x4 ![0, 1, 2] bcast_S32x8732x1_S32x8732x4_0_1_2 (broadcastInDim S32x8732x1 ![0, 1] bcast_S32x8732_S32x8732x1_0_1 (res_main_v217 V0)))) (constant S_ .f32 0x00000000#32) reducesTo_S32x8732x4_S_d0_1_2 h_S_) (mulf (Host.reduceAdd (res_main_v217 V0) (constant S_ .f32 0x00000000#32) reducesTo_S32x8732_S_d0_1 h_S_) (constant S_ .f32 0x40800000#32)) :=
  (val4_2_keep V0 main_v227 (by decide)).trans (val4_1_main_v227 V0)
set_option maxRecDepth 8192 in
set_option maxHeartbeats 2000000 in
theorem val4_2_main_v241 (V0 : Valuation τ sig (Elt F)) : val4_2 V0 (no_index (Proc.devRef .tc main_v241)) = res_main_v241 V0 := by
  unfold val4_2
  simp only [ops_part4_1, TRef.binary, TRef.nullary, TRef.reshape, TRef.ternary, TRef.unary, TRef.toBuf, TRef.ofBuf, cast_eq]
  after_results_simp
  simp only [val4_1_main_v237, val4_1_main_v228, val4_1_main_v236] <;> rfl
set_option maxRecDepth 8192 in
set_option maxHeartbeats 2000000 in
theorem val4_2_main_v243 (V0 : Valuation τ sig (Elt F)) : val4_2 V0 (no_index (Proc.devRef .tc main_v243)) = Host.reduceAdd (mulf (res_main_v241 V0) (res_main_v217 V0)) (constant S_ .f32 0x00000000#32) reducesTo_S32x8732_S_d0_1 h_S_ := by
  unfold val4_2
  simp only [ops_part4_1, TRef.binary, TRef.nullary, TRef.reshape, TRef.ternary, TRef.unary, TRef.toBuf, TRef.ofBuf, cast_eq]
  after_results_simp
  simp only [val4_1_main_v217, val4_1_main_v237, val4_1_main_v228, val4_1_main_v236] <;> rfl
set_option maxRecDepth 8192 in
set_option maxHeartbeats 2000000 in
theorem val4_2_main_v244 (V0 : Valuation τ sig (Elt F)) : val4_2 V0 (no_index (Proc.devRef .tc main_v244)) = broadcastInDim S32x8732 ![] bcast_S_S32x8732 (constant S_ .f32 0x3F800000#32) := by
  unfold val4_2
  simp only [ops_part4_1, TRef.binary, TRef.nullary, TRef.reshape, TRef.ternary, TRef.unary, TRef.toBuf, TRef.ofBuf, cast_eq]
  after_results_simp
  all_goals rfl

/-- The device's buffer contents after @main's first 5 windows. -/
def val5 (V0 : Valuation τ sig (Elt F)) : Valuation τ sig (Elt F) := after ops_part4_2 (val4_2 V0)
/-- The buffers that window `ops_part4_2`'s operations write. -/
abbrev ops_part4_2_W : List (Ref sig .tc) := [main_v245, main_v246, main_v247, main_v248, main_v249, main_v250, main_v251, main_v252, main_cst_32, main_v253, main_v254, main_v255, main_v256, main_v257, main_v258, main_v259, main_cst_33, main_v260, main_v261, main_cst_34, main_v262]
set_option maxRecDepth 8192 in
theorem ops_part4_2_writes : (ops_part4_2 : List (HloOp τ sig (Elt F))).Forall fun op => op.writes ⊆ (ops_part4_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part4_2` does not write keeps its contents through it. -/
theorem val5_keep (V0 : Valuation τ sig (Elt F)) (r : Ref sig .tc) (h : r ∉ ops_part4_2_W) :
    val5 V0 (Proc.devRef .tc r) = val4_2 V0 (Proc.devRef .tc r) :=
  after_of_writes_sub ops_part4_2 _ ops_part4_2_writes h
theorem val5_main_arg0 (V0 : Valuation τ sig (Elt F)) : val5 V0 (no_index (Proc.devRef .tc main_arg0)) = V0 (Proc.devRef .tc main_arg0) :=
  (val5_keep V0 main_arg0 (by decide)).trans (val4_2_main_arg0 V0)
theorem val5_main_arg1 (V0 : Valuation τ sig (Elt F)) : val5 V0 (no_index (Proc.devRef .tc main_arg1)) = V0 (Proc.devRef .tc main_arg1) :=
  (val5_keep V0 main_arg1 (by decide)).trans (val4_2_main_arg1 V0)
theorem val5_main_arg2 (V0 : Valuation τ sig (Elt F)) : val5 V0 (no_index (Proc.devRef .tc main_arg2)) = V0 (Proc.devRef .tc main_arg2) :=
  (val5_keep V0 main_arg2 (by decide)).trans (val4_2_main_arg2 V0)
theorem val5_main_arg3 (V0 : Valuation τ sig (Elt F)) : val5 V0 (no_index (Proc.devRef .tc main_arg3)) = V0 (Proc.devRef .tc main_arg3) :=
  (val5_keep V0 main_arg3 (by decide)).trans (val4_2_main_arg3 V0)
theorem val5_main_arg4 (V0 : Valuation τ sig (Elt F)) : val5 V0 (no_index (Proc.devRef .tc main_arg4)) = V0 (Proc.devRef .tc main_arg4) :=
  (val5_keep V0 main_arg4 (by decide)).trans (val4_2_main_arg4 V0)
theorem val5_main_v227 (V0 : Valuation τ sig (Elt F)) : val5 V0 (no_index (Proc.devRef .tc main_v227)) = Host.divf (Host.reduceAdd (mulf (Host.absf (subf (V0 (Proc.devRef .tc main_arg0)) ((concatenate S32x8732x4 2 [⟨S32x8732x1, ((broadcastInDim S32x8732x1 ![0, 1] bcast_S32x8732_S32x8732x1_0_1 (Host.divf (subf (shapeCast _ (extractStridedSlice S32x8732x1 ![0, 0, 0] (res_main_v169 V0) slices_S32x8732x4_S32x8732x1_0_0_0) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 0] (V0 (Proc.devRef .tc main_arg4)) slices_S8732x4_S8732x1_0_0) shapeCasts_S8732x1_S8732)))) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732))))) : (⟨S32x8732x1, .f32⟩ : BufTy).Contents (Elt F))⟩, ⟨S32x8732x1, ((broadcastInDim S32x8732x1 ![0, 1] bcast_S32x8732_S32x8732x1_0_1 (Host.divf (subf (shapeCast _ (extractStridedSlice S32x8732x1 ![0, 0, 1] (res_main_v169 V0) slices_S32x8732x4_S32x8732x1_0_0_1) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 1] (V0 (Proc.devRef .tc main_arg4)) slices_S8732x4_S8732x1_0_1) shapeCasts_S8732x1_S8732)))) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 2] (res_main_v169 V0) slices_S32x8732x4_S32x8732x1_0_0_2) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 2] (V0 (Proc.devRef .tc main_arg4)) slices_S8732x4_S8732x1_0_2) shapeCasts_S8732x1_S8732)))))) : (⟨S32x8732x1, .f32⟩ : BufTy).Contents (Elt F))⟩, ⟨S32x8732x1, ((broadcastInDim S32x8732x1 ![0, 1] bcast_S32x8732_S32x8732x1_0_1 (Host.log (Host.divf (shapeCast _ (extractStridedSlice S32x8732x1 ![0, 0, 3] (res_main_v169 V0) slices_S32x8732x4_S32x8732x1_0_0_3) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 3] (V0 (Proc.devRef .tc main_arg4)) slices_S8732x4_S8732x1_0_3) shapeCasts_S8732x1_S8732)))))) : (⟨S32x8732x1, .f32⟩ : BufTy).Contents (Elt F))⟩] concatenates_S32x8732x1_S32x8732x1_S32x8732x1_S32x8732x1_S32x8732x4_d2 : (⟨S32x8732x4, .f32⟩ : BufTy).Contents (Elt F))))) (broadcastInDim S32x8732x4 ![0, 1, 2] bcast_S32x8732x1_S32x8732x4_0_1_2 (broadcastInDim S32x8732x1 ![0, 1] bcast_S32x8732_S32x8732x1_0_1 (res_main_v217 V0)))) (constant S_ .f32 0x00000000#32) reducesTo_S32x8732x4_S_d0_1_2 h_S_) (mulf (Host.reduceAdd (res_main_v217 V0) (constant S_ .f32 0x00000000#32) reducesTo_S32x8732_S_d0_1 h_S_) (constant S_ .f32 0x40800000#32)) :=
  (val5_keep V0 main_v227 (by decide)).trans (val4_2_main_v227 V0)
set_option maxRecDepth 8192 in
set_option maxHeartbeats 2000000 in
theorem val5_main_v261 (V0 : Valuation τ sig (Elt F)) : val5 V0 (no_index (Proc.devRef .tc main_v261)) = addf (Host.reduceAdd (mulf (Host.negf (Host.sort S32x8732 1 comparator_f32_d1 (Host.negf (mulf (res_main_v241 V0) (subf (broadcastInDim S32x8732 ![] bcast_S_S32x8732 (constant S_ .f32 0x3F800000#32)) (res_main_v217 V0)))))) (uitofp .f32 (cmpf .olt (broadcastInDim S32x8732 ![0, 1] bcast_S1x8732_S32x8732_0_1 (broadcastInDim S1x8732 ![1] bcast_S8732_S1x8732_1 (sitofp .f32 (iotaInDim S8732 32 0)))) (broadcastInDim S32x8732 ![0, 1] bcast_S32x1_S32x8732_0_1 (mulf (broadcastInDim S32x1 ![] bcast_S_S32x1 (constant S_ .f32 0x40400000#32)) (broadcastInDim S32x1 ![0] bcast_S32_S32x1_0 (res_main_v218 V0))))))) (constant S_ .f32 0x00000000#32) reducesTo_S32x8732_S_d0_1 h_S_) (Host.reduceAdd (mulf (res_main_v241 V0) (res_main_v217 V0)) (constant S_ .f32 0x00000000#32) reducesTo_S32x8732_S_d0_1 h_S_) := by
  unfold val5
  simp only [ops_part4_2, TRef.unary, TRef.toBuf, TRef.ofBuf, cast_eq]
  after_results_simp
  simp only [val4_2_main_v243, val4_2_main_v218, val4_2_main_v217, val4_2_main_v244, val4_2_main_v241] <;> rfl
set_option maxRecDepth 8192 in
set_option maxHeartbeats 2000000 in
theorem val5_main_v262 (V0 : Valuation τ sig (Elt F)) : val5 V0 (no_index (Proc.devRef .tc main_v262)) = Host.reduceAdd (res_main_v218 V0) (constant S_ .f32 0x00000000#32) reducesTo_S32_S_d0 h_S_ := by
  unfold val5
  simp only [ops_part4_2, TRef.unary, TRef.toBuf, TRef.ofBuf, cast_eq]
  after_results_simp
  simp only [val4_2_main_v218] <;> rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v263, main_cst_35, main_v264, main_v265]
set_option maxRecDepth 8192 in
theorem ops_part5_writes : (ops_part5 : List (HloOp τ sig (Elt F))).Forall fun op => op.writes ⊆ (ops_part5_W.map (Proc.devRef (τ := τ) .tc)).toFinset := by
  simp only [List.Forall]; refine ⟨?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
set_option maxRecDepth 8192 in
theorem val6_main_v265 (V0 : Valuation τ sig (Elt F)) : val6 V0 (no_index (Proc.devRef .tc main_v265)) = res_main_v265 V0 := by
  unfold val6
  simp only [ops_part5]
  after_results_simp
  simp only [val5_main_v227, val5_main_v262, val5_main_v261] <;> rfl

theorem after_ops (V0 : Valuation τ sig (Elt F)) : after ops V0 = val6 V0 := by
  simp only [ops, ops_part0, ops_part1, ops_part2, ops_part4, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v265) = res_main_v265 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v265).trans ((congrFun (after_ops (launchContents m c)) (Proc.devRef .tc main_v265)).trans (val6_main_v265 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c))),
      (h c main_arg2).trans ((congrFun (after_ops (launchContents m c)) (Proc.devRef .tc main_arg2)).trans (val6_main_arg2 (launchContents m c))),
      (h c main_arg3).trans ((congrFun (after_ops (launchContents m c)) (Proc.devRef .tc main_arg3)).trans (val6_main_arg3 (launchContents m c))),
      (h c main_arg4).trans ((congrFun (after_ops (launchContents m c)) (Proc.devRef .tc main_arg4)).trans (val6_main_arg4 (launchContents m c)))⟩)
    (run_seq scopedRefs_eq scopedSems_eq defs main (fun _ => ops) main_eq (fun _ => ops_sub) m ρ fun _ => ops_fresh)

end Cert.ReferenceIdeal.Value

end
-- ==== Proof.Image.lean ====
/-
What the kernel computes of one image, as functions of the image's blocks: the matching of boxes to objects, the
classes, the four sums. Both images of a grid step are read by the same functions.
-/
module

public import proofs.«01_k».proof.Proof.Gen.KernelIdeal.Frame

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]
variable (DB : Vec F S4x8732 .f32) (PB : Vec F S1x4x8732 .f32) (XL : Vec F S1x81x8732 .f32) (BX : Vec F S1x16x4 .f32)
  (LB : Vec F S1x16x1 .i32)

/-- The overlap of every object with every default box. -/
def kIou : FVec F S16x8732 .f32 :=
  k0_pay21 (k0_pay8 BX) (k0_pay9 BX) (k0_pay10 BX) (k0_pay11 BX) (k0_pay14 DB) (k0_pay15 DB) (k0_pay16 DB) (k0_pay17 DB)
    (k0_pay18 DB BX) (k0_pay19 DB BX) k0_pay20

/-- A default box's largest overlap. -/
def kBest : FVec F S1x8732 .f32 :=
  k0_pay22 (k0_pay8 BX) (k0_pay9 BX) (k0_pay10 BX) (k0_pay11 BX) (k0_pay14 DB) (k0_pay15 DB) (k0_pay16 DB) (k0_pay17 DB)
    (k0_pay18 DB BX) (k0_pay19 DB BX) k0_pay20

/-- The last object whose best default box this is, or minus one. -/
def kLast : IVec S1x8732 32 :=
  k0_pay23 (k0_pay8 BX) (k0_pay9 BX) (k0_pay10 BX) (k0_pay11 BX) (k0_pay14 DB) (k0_pay15 DB) (k0_pay16 DB) (k0_pay17 DB)
    (k0_pay18 DB BX) (k0_pay19 DB BX) k0_pay20

/-- The overlap compared with the threshold. -/
def kVal : FVec F S1x8732 .f32 :=
  k0_pay25 (k0_pay8 BX) (k0_pay9 BX) (k0_pay10 BX) (k0_pay11 BX) (k0_pay14 DB) (k0_pay15 DB) (k0_pay16 DB) (k0_pay17 DB)
    (k0_pay18 DB BX) (k0_pay19 DB BX) k0_pay20

/-- Whether this object is the default box's own. -/
def kHot : IVec S16x8732 1 :=
  k0_pay26 (k0_pay8 BX) (k0_pay9 BX) (k0_pay10 BX) (k0_pay11 BX) (k0_pay14 DB) (k0_pay15 DB) (k0_pay16 DB) (k0_pay17 DB)
    (k0_pay18 DB BX) (k0_pay19 DB BX) k0_pay20

/-- The class of every default box. -/
def kLab : IVec S1x8732 32 := k0_pay28 (kVal DB BX) (kHot DB BX) (k0_pay27 (k0_pay7 LB))

/-- Which default boxes hold an object. -/
def kMask : FVec F S1x8732 .f32 := k0_pay36 (kVal DB BX) (kHot DB BX) (k0_pay27 (k0_pay7 LB))

/-- How many hold an object. -/
def kCount : F .f32 := k0_pay37 (kVal DB BX) (kHot DB BX) (k0_pay27 (k0_pay7 LB))

/-- The sum of the distances to the wanted offsets. -/
def kAbs : F .f32 :=
  k0_pay38 (k0_pay4 PB) (k0_pay32 (k0_pay8 BX) (k0_pay10 BX) (k0_pay12 DB) (k0_pay14 DB) (kHot DB BX))
    (k0_pay33 (k0_pay9 BX) (k0_pay11 BX) (k0_pay13 DB) (k0_pay15 DB) (kHot DB BX))
    (k0_pay34 (k0_pay10 BX) (k0_pay14 DB) (kHot DB BX)) (k0_pay35 (k0_pay11 BX) (k0_pay15 DB) (kHot DB BX))
    (kMask DB BX LB)

/-- The cross entropy of every default box. -/
def kLoss : FVec F S1x8732 .f32 := k0_pay39 (k0_pay5 XL) (kLab DB BX LB)

/-- Its sum over the boxes that hold an object. -/
def kPos : F .f32 := k0_pay40 (kMask DB BX LB) (kLoss DB XL BX LB)

/-- The losses of the boxes that hold none. -/
def kNeg : FVec F S1x8732 .f32 := k0_pay41 (kMask DB BX LB) (kLoss DB XL BX LB)

/-- The last bracket of the search. -/
def kSearch : F .f32 × F .f32 :=
  Scf.fold (n := k0_t1_loop.trips) (fun _ a => (k0_pay46 (kMask DB BX LB) (kCount DB BX LB) (kLoss DB XL BX LB) a.1 a.2,
      k0_pay47 (kMask DB BX LB) (kCount DB BX LB) (kLoss DB XL BX LB) a.1 a.2))
    (FloatOps.ofBits FTy.f32 0#32, k0_pay43 (kMask DB BX LB) (kLoss DB XL BX LB))

/-- The sum of the hardest negatives. -/
def kTop : F .f32 :=
  k0_pay48 (kMask DB BX LB) (kCount DB BX LB) (kLoss DB XL BX LB) (kSearch DB XL BX LB).2

/-- What one grid step adds to the four lanes. -/
def kStep (PB' : Vec F S1x4x8732 .f32) (XL' : Vec F S1x81x8732 .f32) (BX' : Vec F S1x16x4 .f32) (LB' : Vec F S1x16x1 .i32) :
    FVec F S1x128 .f32 :=
  k0_pay1 (k0_pay94 (kAbs DB PB BX LB) (kAbs DB PB' BX' LB')) (k0_pay94 (kCount DB BX LB) (kCount DB BX' LB'))
    (k0_pay94 (kPos DB XL BX LB) (kPos DB XL' BX' LB')) (k0_pay94 (kTop DB XL BX LB) (kTop DB XL' BX' LB'))
    (iota Kind.tc S1x128 32 [1] iota_S1x128_d1_w32) k0_pay98

end Cert.KernelIdeal.Value

end
-- ==== Proof.Step.lean ====
/-
What one grid step leaves in the output block: the first step its contribution, every later one the block plus its
contribution.
-/
module

public import proofs.«01_k».proof.Proof.Image
public import Idealize.ShloMosaic.Lib.Pipeline.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

theorem hz : (![0, 0] : Fin 2 → Nat) = fun _ => 0 := funext fun a => by fin_cases a <;> rfl

/-- A grid step's contribution, read off its five input blocks. -/
def stepOf (x0 : Vec F S2x4x8732 .f32) (x1 : Vec F S2x81x8732 .f32) (x2 : Vec F S2x16x4 .f32) (x3 : Vec F S2x16x1 .i32) (x4 : Vec F S4x8732 .f32) :
    FVec F S1x128 .f32 :=
  kStep x4
    (View.ld x0 (Rect.unit ![0, 0, 0] ![1, 4, 8732] inb_S2x4x8732_S1x4x8732_0_0_0))
    (View.ld x1 (Rect.unit ![0, 0, 0] ![1, 81, 8732] inb_S2x81x8732_S1x81x8732_0_0_0))
    (View.ld x2 (Rect.unit ![0, 0, 0] ![1, 16, 4] inb_S2x16x4_S1x16x4_0_0_0))
    (View.ld x3 (Rect.unit ![0, 0, 0] ![1, 16, 1] inb_S2x16x1_S1x16x1_0_0_0))
    (View.ld x0 (Rect.unit ![1, 0, 0] ![1, 4, 8732] inb_S2x4x8732_S1x4x8732_1_0_0))
    (View.ld x1 (Rect.unit ![1, 0, 0] ![1, 81, 8732] inb_S2x81x8732_S1x81x8732_1_0_0))
    (View.ld x2 (Rect.unit ![1, 0, 0] ![1, 16, 4] inb_S2x16x4_S1x16x4_1_0_0))
    (View.ld x3 (Rect.unit ![1, 0, 0] ![1, 16, 1] inb_S2x16x1_S1x16x1_1_0_0))

theorem out_A (c : Dev nD) (i : grid0.Coords) (arg1 : Memref sig .tc .vmem S2x4x8732 .f32) (harg1 : arg1.IsWhole) (arg2 : Memref sig .tc .vmem S2x81x8732 .f32) (harg2 : arg2.IsWhole) (arg3 : Memref sig .tc .vmem S2x16x4 .f32) (harg3 : arg3.IsWhole) (arg4 : Memref sig .tc .vmem S2x16x1 .i32) (harg4 : arg4.IsWhole) (arg5 : Memref sig .tc .vmem S4x8732 .f32) (harg5 : arg5.IsWhole) (arg6 : Memref sig .tc .vmem S1x128 .f32) (harg6 : arg6.IsWhole) (hc0 : cond0_0 i) (hc1 : ¬cond0_1 i)
    (x0 : Vec F S2x4x8732 .f32) (x1 : Vec F S2x81x8732 .f32) (x2 : Vec F S2x16x4 .f32) (x3 : Vec F S2x16x1 .i32) (x4 : Vec F S4x8732 .f32) :
    out0_A_5 c i arg1 harg1 arg2 harg2 arg3 harg3 arg4 harg4 arg5 harg5 arg6 harg6 hc0 hc1 x0 x1 x2 x3 x4 = stepOf x0 x1 x2 x3 x4 := by
  unfold out0_A_5
  rw [View.read_writes_eq_canon _ _ _ (fun y => cover0_A_5 c i arg1 harg1 arg2 harg2 arg3 harg3 arg4 harg4 arg5 harg5 arg6 harg6 hc0 hc1 x0 x1 x2 x3 x4 y)]
  unfold kernelRun0_A
  dsimp only
  sl_unfold_words
  rw [View.canon_unit_zero hz]
  simp only [View.readAt_eq_ld, harg1.read_unread, harg2.read_unread, harg3.read_unread, harg4.read_unread, harg5.read_unread]
  rw [View.ld_unit_zero (S := S4x8732) hz]
  rfl

theorem out_B (c : Dev nD) (i : grid0.Coords) (arg1 : Memref sig .tc .vmem S2x4x8732 .f32) (harg1 : arg1.IsWhole) (arg2 : Memref sig .tc .vmem S2x81x8732 .f32) (harg2 : arg2.IsWhole) (arg3 : Memref sig .tc .vmem S2x16x4 .f32) (harg3 : arg3.IsWhole) (arg4 : Memref sig .tc .vmem S2x16x1 .i32) (harg4 : arg4.IsWhole) (arg5 : Memref sig .tc .vmem S4x8732 .f32) (harg5 : arg5.IsWhole) (arg6 : Memref sig .tc .vmem S1x128 .f32) (harg6 : arg6.IsWhole) (hc0 : ¬cond0_0 i) (hc1 : cond0_1 i)
    (x0 : Vec F S2x4x8732 .f32) (x1 : Vec F S2x81x8732 .f32) (x2 : Vec F S2x16x4 .f32) (x3 : Vec F S2x16x1 .i32) (x4 : Vec F S4x8732 .f32) (xo : Vec F S1x128 .f32) :
    out0_B_5 c i arg1 harg1 arg2 harg2 arg3 harg3 arg4 harg4 arg5 harg5 arg6 harg6 hc0 hc1 x0 x1 x2 x3 x4 xo = addf xo (stepOf x0 x1 x2 x3 x4) := by
  unfold out0_B_5
  rw [View.read_writes_eq_canon _ _ _ (fun y => cover0_B_5 c i arg1 harg1 arg2 harg2 arg3 harg3 arg4 harg4 arg5 harg5 arg6 harg6 hc0 hc1 x0 x1 x2 x3 x4 xo y)]
  unfold kernelRun0_B
  dsimp only
  sl_unfold_words
  rw [View.canon_unit_zero hz]
  simp only [View.readAt_eq_ld, harg1.read_unread, harg2.read_unread, harg3.read_unread, harg4.read_unread, harg5.read_unread, harg6.read_unread]
  rw [View.ld_unit_zero (S := S4x8732) hz, View.ld_unit_zero (S := S1x128) hz]
  unfold k0_pay2
  dsimp only
  rw [shapeCast_self]
  rfl

end Cert.KernelIdeal.Value

end
-- ==== Proof.Acc.lean ====
/-
The kernel's run: the contributions of the sixteen grid steps added up in the result array, and the scalars the
program's last lines make of its first four lanes.
-/
module

public import proofs.«01_k».proof.Proof.Step
public import Idealize.ShloMosaic.Lib.Pointwise
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

section Run

variable {F : FTy → Type} [FloatOps F]
variable (m : (ℓ : Loc nD τ sig) → Buf (Elt F) ℓ) (ρ : Dev nD → PrngReg)

/-- What grid step `t` contributes. -/
abbrev contrib (c : Dev nD) (t : Fin cfg0.N) : FVec F S1x128 .f32 :=
  stepOf (iblk m c 0 t) (iblk m c 1 t) (iblk m c 2 t) (iblk m c 3 t) (iblk m c 4 t)

/-- The contributions up to step `n`, added in order. -/
def chain (c : Dev nD) : (n : ℕ) → n < cfg0.N → FVec F S1x128 .f32
  | 0, h => contrib m c ⟨0, h⟩
  | n + 1, h => addf (chain c n (Nat.lt_of_succ_lt h)) (contrib m c ⟨n + 1, h⟩)

theorem outsAt_eq (c : Dev nD) : ∀ (n : ℕ) (h : n < cfg0.N), outsAt0 m c n h = chain m c n h
  | 0, h => (outsAt0_A m c ⟨0, h⟩ rfl (by dsimp only; omega)).trans (out_A ..)
  | n + 1, h => by
    have hN : cfg0.N = 16 := N_0
    rw [outsAt0_B m c ⟨n + 1, h⟩ (by dsimp only; omega) (by dsimp only; omega), out_B]
    show addf (outsAt0 m c n _) _ = addf (chain m c n _) _
    rw [outsAt_eq c n]

/-- The result array's end. -/
abbrev result (c : Dev nD) : Buf (Elt F) ((c : Thread nD τ).loc main_v4) := chain m c 15 (by rw [show cfg0.N = 16 from N_0]; decide)

/-- The last grid step. -/
abbrev tLast : Fin cfg0.N := ⟨15, by rw [show cfg0.N = 16 from N_0]; decide⟩

theorem index_last (a : Fin 2) : win0_5.index tLast a = 0 := by revert a; decide +kernel

theorem flushed_eq (c : Dev nD) (t : Fin cfg0.N) (hf : (cfg0.win 5).flush t = true) :
    (dats m 0 c).flushed 5 t = ((cfg0.win 5).blk t).view.read (Elt F) (result m c) := by
  have hN : cfg0.N = 16 := N_0
  have h3 : t.val = 15 := by have := (flush0_5 t).mp hf; have := t.isLt; omega
  obtain rfl : t = tLast := Fin.ext h3
  show (cfg0.win 5).cut (grid0.coords tLast) ((dats m 0 c).after 5 tLast) = _
  rw [after0_5, outsAt_eq]
  have hz' : (fun a => win0_5.index tLast a * main_v4.ty.shape.size a) = fun _ => 0 := funext fun a => by
    rw [index_last, Nat.zero_mul]
  exact (Memref.read_access_unit_zero (Elt F) main_v4 hz' (fun a => by rw [congrFun hz' a]; simp) (result m c)).symm

theorem final_o (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v4).slice (win0_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [index_last 0, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [index_last 1, show win0_5.xsize (grid0.coords tLast) 1 = 128 from by decide +kernel]; omega⟩

/-- A lane of the result, as a scalar. -/
abbrev lane0 (w : FVec F S1x128 .f32) : FVec F S_ .f32 := shapeCast S_ (extractStridedSlice S1 ![0] (shapeCast S128 w shapeCasts_S1x128_S128) slices_S128_S1_0) shapeCasts_S1_S_
abbrev lane1 (w : FVec F S1x128 .f32) : FVec F S_ .f32 := shapeCast S_ (extractStridedSlice S1 ![1] (shapeCast S128 w shapeCasts_S1x128_S128) slices_S128_S1_1) shapeCasts_S1_S_
abbrev lane2 (w : FVec F S1x128 .f32) : FVec F S_ .f32 := shapeCast S_ (extractStridedSlice S1 ![2] (shapeCast S128 w shapeCasts_S1x128_S128) slices_S128_S1_2) shapeCasts_S1_S_
abbrev lane3 (w : FVec F S1x128 .f32) : FVec F S_ .f32 := shapeCast S_ (extractStridedSlice S1 ![3] (shapeCast S128 w shapeCasts_S1x128_S128) slices_S128_S1_3) shapeCasts_S1_S_

/-- The loss, of the four lanes. -/
def total (w : FVec F S1x128 .f32) : FVec F S_ .f32 :=
  addf (Host.divf (addf (lane3 w) (lane2 w)) (lane1 w))
    (mulf (constant S_ .f32 0x3F800000#32) (Host.divf (lane0 w) (mulf (lane1 w) (constant S_ .f32 0x40800000#32))))

theorem tail_eq (c : Dev nD) : Pipeline.afterTail₀ cfgs (dats m) 0 (V0 m) [hostOps1] c main_v19 = total (result m c) := by
  have hv : (Pipeline.withArrays spec0 c (V0 m c) (fun w => (dats m 0 c).arrAt w cfg0.N)) (Proc.devRef .tc main_v4) = result m c :=
    (Pipeline.withArrays_arr spec0 (by decide) c (V0 m c) _ 5).trans (final_o m c)
  unfold Pipeline.afterTail₀
  show StableHlo.after hostOps1 (Pipeline.withArrays spec0 c (V0 m c) fun w => (dats m 0 c).arrAt w cfg0.N) (Proc.devRef .tc main_v19) = _
  generalize (Pipeline.withArrays spec0 c (V0 m c) fun w => (dats m 0 c).arrAt w cfg0.N) = W at hv
  unfold hostOps1
  after_results
  rw [hv]
  rfl

/-- The kernel's run, its result read. -/
theorem run : θ_run defs (onTc (τ := τ) (main (F := F))) ⟨m, fun _ => 0, ρ⟩ fun r => ∀ c : Dev nD,
      r.2.mem ((c : Thread nD τ).loc main_v19) = total (result m c) :=
  (θ_run defs _ _).mono (fun _ h c => ((h c).2 main_v19 (by decide)).trans (tail_eq m c)) (run_main m ρ)

end Run

end Cert.KernelIdeal.Value

end
-- ==== Proof.Lanes.lean ====
/-
Four numbers laid on the first four lanes, and the loss of the four.
-/
module

public import proofs.«01_k».proof.Proof.Acc
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- Eight numbers, added in pairs and laid on four lanes. -/
def lay (a b c d e f g h : Ideal .f32) : FVec Ideal S1x128 .f32 :=
  k0_pay1 (k0_pay94 a b) (k0_pay94 c d) (k0_pay94 e f) (k0_pay94 g h) (iota Kind.tc S1x128 32 [1] iota_S1x128_d1_w32) k0_pay98

theorem lay_apply (a b c d e f g h : Ideal .f32) (i : Fin 128) : lay a b c d e f g h (ix2 0 i)
      = Scalar.select (IntOp.cmpi CmpIPredicate.eq (BitVec.ofNat 32 ↑i) 0#32) ((a : EReal) + b) 0
        + Scalar.select (IntOp.cmpi CmpIPredicate.eq (BitVec.ofNat 32 ↑i) 1#32) ((c : EReal) + d) 0
        + Scalar.select (IntOp.cmpi CmpIPredicate.eq (BitVec.ofNat 32 ↑i) 2#32) ((e : EReal) + f) 0
        + Scalar.select (IntOp.cmpi CmpIPredicate.eq (BitVec.ofNat 32 ↑i) 3#32) ((g : EReal) + h) (0 : EReal) := by
  unfold lay
  pointwise [k0_pay1, k0_pay94, k0_pay98]

theorem lay_0 (a b c d e f g h : Ideal .f32) : lay a b c d e f g h (ix2 0 0) = (a : EReal) + b := by
  rw [lay_apply]
  show (a : EReal) + b + 0 + 0 + 0 = _
  simp only [add_zero]
theorem lay_1 (a b c d e f g h : Ideal .f32) : lay a b c d e f g h (ix2 0 1) = (c : EReal) + d := by
  rw [lay_apply]
  show (0 : EReal) + (c + d) + 0 + 0 = _
  simp only [add_zero, zero_add]
theorem lay_2 (a b c d e f g h : Ideal .f32) : lay a b c d e f g h (ix2 0 2) = (e : EReal) + f := by
  rw [lay_apply]
  show (0 : EReal) + 0 + (e + f) + 0 = _
  simp only [add_zero, zero_add]
theorem lay_3 (a b c d e f g h : Ideal .f32) : lay a b c d e f g h (ix2 0 3) = (g : EReal) + h := by
  rw [lay_apply]
  show (0 : EReal) + 0 + 0 + (g + h) = _
  simp only [add_zero, zero_add]

/-- A step lays its two images' numbers. -/
theorem kStep_eq (DB : Vec Ideal S4x8732 .f32) (PB : Vec Ideal S1x4x8732 .f32) (XL : Vec Ideal S1x81x8732 .f32) (BX : Vec Ideal S1x16x4 .f32)
    (LB : Vec Ideal S1x16x1 .i32) (PB' : Vec Ideal S1x4x8732 .f32) (XL' : Vec Ideal S1x81x8732 .f32) (BX' : Vec Ideal S1x16x4 .f32)
    (LB' : Vec Ideal S1x16x1 .i32) :
    kStep DB PB XL BX LB PB' XL' BX' LB' = lay (kAbs DB PB BX LB) (kAbs DB PB' BX' LB') (kCount DB BX LB) (kCount DB BX' LB')
      (kPos DB XL BX LB) (kPos DB XL' BX' LB') (kTop DB XL BX LB) (kTop DB XL' BX' LB') := by
  unfold kStep lay
  with_reducible rfl

/-- The loss of four numbers. -/
def comb (a n p t : EReal) : EReal :=
  Ideal.div (t + p) n + Ideal.div a (n * Ideal.ofBits .f32 0x40800000#32)

theorem total_apply (w : FVec Ideal S1x128 .f32) : total w ix0 = comb (w (ix2 0 0)) (w (ix2 0 1)) (w (ix2 0 2)) (w (ix2 0 3)) := by
  unfold total comb lane0 lane1 lane2 lane3
  pointwise

theorem chain_apply (m : (ℓ : Loc nD τ sig) → Buf (Elt Ideal) ℓ) (c : Dev nD) (i : Fin 128) : ∀ (n : ℕ) (h : n < cfg0.N),
    chain m c n h (ix2 0 i) = ∑ t : Fin (n + 1), (contrib m c ⟨t.val, lt_of_lt_of_le t.isLt h⟩ (ix2 0 i) : EReal)
  | 0, h => by
    rw [Fin.sum_univ_succ, Fin.sum_univ_zero, add_zero]
    rfl
  | n + 1, h => by
    rw [Fin.sum_univ_castSucc]
    show (chain m c n _ (ix2 0 i) : EReal) + _ = _
    rw [chain_apply m c i n]
    rfl

/-- A sum over sixteen pairs is a sum over thirty-two. -/
theorem sum_pairs (f : Fin 32 → EReal) : ∑ t : Fin 16, (f ⟨2 * t.val, by omega⟩ + f ⟨2 * t.val + 1, by omega⟩) = ∑ i, f i := by
  rw [← (finProdFinEquiv (m := 16) (n := 2)).sum_comp f, Fintype.sum_prod_type]
  refine Finset.sum_congr rfl fun t _ => ?_
  rw [Fin.sum_univ_two]
  refine congrArg₂ (fun x y => f x + f y) (Fin.ext ?_) (Fin.ext ?_)
  · show 2 * t.val = 0 + 2 * t.val; omega
  · show 2 * t.val + 1 = 1 + 2 * t.val; omega

end Cert.KernelIdeal.Value

end
-- ==== Proof.Match.lean ====
/-
The matching of default boxes to objects: the first index of a largest value, the last object whose best box this is,
and the folds over 32-bit words that compute them.
-/
module

public import Idealize.ShloMosaic.Lib.Pointwise

@[expose] public section

noncomputable section

open Idealize.ShloMosaic

namespace Cert.Spec

open Finset

/-- The largest of finitely many values. -/
def top {n : ℕ} (v : Fin n → EReal) : EReal := univ.fold max (Ideal.ofBits .f32 0xFF800000#32) v

theorem ninf : Ideal.ofBits .f32 0xFF800000#32 = ⊥ := by decide +kernel

theorem top_eq {n : ℕ} (v : Fin n → EReal) : top v = univ.sup v := by
  unfold top; rw [ninf]; rfl

theorem le_top {n : ℕ} (v : Fin n → EReal) (i : Fin n) : v i ≤ top v := by rw [top_eq]; exact le_sup (mem_univ i)

theorem exists_top {n : ℕ} [NeZero n] (v : Fin n → EReal) : ∃ i, v i = top v := by
  obtain ⟨i, -, h⟩ := exists_mem_eq_sup univ ⟨0, mem_univ _⟩ v
  exact ⟨i, by rw [top_eq, h]⟩

/-- The first index of the largest value. -/
def first {n : ℕ} [NeZero n] (v : Fin n → EReal) : Fin n :=
  (univ.filter fun i => v i = top v).min' (by obtain ⟨i, h⟩ := exists_top v; exact ⟨i, by simp [h]⟩)

theorem first_top {n : ℕ} [NeZero n] (v : Fin n → EReal) : v (first v) = top v := by
  have := min'_mem (univ.filter fun i => v i = top v) (by obtain ⟨i, h⟩ := exists_top v; exact ⟨i, by simp [h]⟩)
  exact (mem_filter.1 this).2

theorem first_le {n : ℕ} [NeZero n] (v : Fin n → EReal) {i : Fin n} (h : v i = top v) : first v ≤ i :=
  min'_le _ _ (by simp [h])

/-- What picks out the first largest index. -/
theorem first_unique {n : ℕ} [NeZero n] (v : Fin n → EReal) {i : Fin n} (h : ∀ j, v j ≤ v i) (h' : ∀ j, v j = v i → i ≤ j) :
    first v = i := by
  have e : v i = top v := by
    obtain ⟨j, hj⟩ := exists_top v
    exact le_antisymm (le_top v i) (hj ▸ h j)
  exact le_antisymm (first_le v e) (h' _ (by rw [first_top v, e]))

section Words

variable {ι : Type} [DecidableEq ι]

theorem toInt_minsi (a b : BitVec 32) : (IntOp.minsi a b).toInt = min a.toInt b.toInt := by
  unfold IntOp.minsi; rw [BitVec.slt_eq_decide]; simp only [decide_eq_true_eq]; split <;> omega

theorem toInt_maxsi (a b : BitVec 32) : (IntOp.maxsi a b).toInt = max a.toInt b.toInt := by
  unfold IntOp.maxsi; rw [BitVec.slt_eq_decide]; simp only [decide_eq_true_eq]; split <;> omega

theorem fold_minsi_le (b : BitVec 32) (f : ι → BitVec 32) (s : Finset ι) {i : ι} (hi : i ∈ s) :
    (s.fold IntOp.minsi b f).toInt ≤ (f i).toInt := by
  induction s using Finset.induction_on with
  | empty => simp at hi
  | insert a s ha ih =>
    rw [fold_insert ha, toInt_minsi]
    rcases mem_insert.1 hi with rfl | h
    · exact min_le_left _ _
    · exact (min_le_right _ _).trans (ih h)

theorem fold_minsi_mem (b : BitVec 32) (f : ι → BitVec 32) (s : Finset ι) :
    s.fold IntOp.minsi b f = b ∨ ∃ i ∈ s, s.fold IntOp.minsi b f = f i := by
  induction s using Finset.induction_on with
  | empty => exact .inl rfl
  | insert a s ha ih =>
    rw [fold_insert ha]
    unfold IntOp.minsi
    split
    · exact .inr ⟨a, mem_insert_self _ _, rfl⟩
    · rcases ih with h | ⟨i, hi, h⟩
      · exact .inl h
      · exact .inr ⟨i, mem_insert_of_mem hi, h⟩

theorem le_fold_maxsi (b : BitVec 32) (f : ι → BitVec 32) (s : Finset ι) {i : ι} (hi : i ∈ s) :
    (f i).toInt ≤ (s.fold IntOp.maxsi b f).toInt := by
  induction s using Finset.induction_on with
  | empty => simp at hi
  | insert a s ha ih =>
    rw [fold_insert ha, toInt_maxsi]
    rcases mem_insert.1 hi with rfl | h
    · exact le_max_left _ _
    · exact (ih h).trans (le_max_right _ _)

theorem fold_maxsi_mem (b : BitVec 32) (f : ι → BitVec 32) (s : Finset ι) :
    s.fold IntOp.maxsi b f = b ∨ ∃ i ∈ s, s.fold IntOp.maxsi b f = f i := by
  induction s using Finset.induction_on with
  | empty => exact .inl rfl
  | insert a s ha ih =>
    rw [fold_insert ha]
    unfold IntOp.maxsi
    split
    · exact .inr ⟨a, mem_insert_self _ _, rfl⟩
    · rcases ih with h | ⟨i, hi, h⟩
      · exact .inl h
      · exact .inr ⟨i, mem_insert_of_mem hi, h⟩

/-- A fold of least words that meets a least element is that element. -/
theorem fold_minsi_eq (b : BitVec 32) (f : ι → BitVec 32) (s : Finset ι) {i : ι} (hi : i ∈ s)
    (hb : (f i).toInt ≤ b.toInt) (h : ∀ j ∈ s, (f i).toInt ≤ (f j).toInt) : s.fold IntOp.minsi b f = f i := by
  apply BitVec.eq_of_toInt_eq
  refine le_antisymm (fold_minsi_le b f s hi) ?_
  rcases fold_minsi_mem b f s with e | ⟨j, hj, e⟩
  · rw [e]; exact hb
  · rw [e]; exact h j hj

/-- A fold of largest words that meets a largest element is that element. -/
theorem fold_maxsi_eq (b : BitVec 32) (f : ι → BitVec 32) (s : Finset ι) {i : ι} (hi : i ∈ s)
    (hb : b.toInt ≤ (f i).toInt) (h : ∀ j ∈ s, (f j).toInt ≤ (f i).toInt) : s.fold IntOp.maxsi b f = f i := by
  apply BitVec.eq_of_toInt_eq
  refine le_antisymm ?_ (le_fold_maxsi b f s hi)
  rcases fold_maxsi_mem b f s with e | ⟨j, hj, e⟩
  · rw [e]; exact hb
  · rw [e]; exact h j hj

end Words

theorem toInt_ofNat {k : ℕ} (h : k < 2 ^ 31) : (BitVec.ofNat 32 k).toInt = k := by
  rw [BitVec.toInt_eq_toNat_of_lt (by rw [BitVec.toNat_ofNat]; omega), BitVec.toNat_ofNat]; omega

theorem ofNat_inj {a b : ℕ} (ha : a < 2 ^ 31) (hb : b < 2 ^ 31) : BitVec.ofNat 32 a = BitVec.ofNat 32 b ↔ a = b := by
  constructor
  · intro h
    have := congrArg BitVec.toInt h
    rw [toInt_ofNat ha, toInt_ofNat hb] at this
    omega
  · rintro rfl; rfl

/-- The least index among the largest values, as the kernel finds it. -/
theorem fold_first {n : ℕ} [NeZero n] (hn : n < 2 ^ 31) (v : Fin n → EReal) (t : EReal) (ht : t = top v) :
    (univ.fold IntOp.minsi (2147483647#32) fun x : Fin n => if v x = t then BitVec.ofNat 32 x else BitVec.ofNat 32 n)
      = BitVec.ofNat 32 (first v) := by
  subst ht
  rw [fold_minsi_eq _ _ _ (mem_univ (first v))]
  · rw [if_pos (first_top v)]
  · rw [if_pos (first_top v), toInt_ofNat (by omega)]
    have : (2147483647#32).toInt = 2147483647 := by decide
    omega
  · intro j _
    rw [if_pos (first_top v), toInt_ofNat (by omega)]
    split
    · rename_i h
      rw [toInt_ofNat (by omega)]
      exact_mod_cast first_le v h
    · rw [toInt_ofNat hn]
      exact_mod_cast (first v).isLt.le

section Objects

variable {D : ℕ} [NeZero D] (v : Fin 16 → Fin D → EReal)

/-- Whether some object's best default box is this one. -/
def Forced (d : Fin D) : Prop := ∃ g, first (v g) = d

open Classical in
/-- The object of a default box: the last one whose best box it is, or else the first one it overlaps most. -/
def owner (d : Fin D) : Fin 16 :=
  if h : (univ.filter fun g => first (v g) = d).Nonempty then (univ.filter fun g => first (v g) = d).max' h
  else first fun g => v g d

theorem owner_spec {d : Fin D} (h : Forced v d) : first (v (owner v d)) = d ∧ ∀ g, first (v g) = d → g ≤ owner v d := by
  classical
  have h' : (univ.filter fun g => first (v g) = d).Nonempty := by
    obtain ⟨g, hg⟩ := h; exact ⟨g, by simp [hg]⟩
  have e : owner v d = (univ.filter fun g => first (v g) = d).max' h' := by
    unfold owner; rw [dif_pos (by convert h')]
  rw [e]
  refine ⟨(mem_filter.1 (max'_mem _ h')).2, fun g hg => le_max' _ _ (by simp [hg])⟩

theorem owner_unique {d : Fin D} {o : Fin 16} (h : first (v o) = d) (h' : ∀ g, first (v g) = d → g ≤ o) : owner v d = o :=
  le_antisymm (h' _ (owner_spec v ⟨o, h⟩).1) ((owner_spec v ⟨o, h⟩).2 _ h)

theorem owner_free {d : Fin D} (h : ¬ Forced v d) : owner v d = first fun g => v g d := by
  classical
  unfold owner
  rw [dif_neg]
  rintro ⟨g, hg⟩
  exact h ⟨g, by simpa using hg⟩

open Classical in
/-- The last object whose best box this is, as the kernel finds it. -/
theorem fold_last (hD : D < 2 ^ 31) (p : Fin 16 → BitVec 32) (hp : ∀ g, p g = BitVec.ofNat 32 (first (v g))) (d : Fin D) :
    (univ.fold IntOp.maxsi (2147483648#32) fun g : Fin 16 =>
        Scalar.select (IntOp.cmpi .eq (BitVec.ofNat 32 d) (p g)) (BitVec.ofNat 32 g) 4294967295#32)
      = if Forced v d then BitVec.ofNat 32 (owner v d) else 4294967295#32 := by
  have hs : ∀ g : Fin 16, Scalar.select (IntOp.cmpi .eq (BitVec.ofNat 32 d) (p g)) (BitVec.ofNat 32 g) 4294967295#32
      = if first (v g) = d then BitVec.ofNat 32 g else 4294967295#32 := fun g => by
    have : IntOp.cmpi .eq (BitVec.ofNat 32 d) (p g) = BitVec.ofBool (decide (first (v g) = d)) := by
      rw [hp]; show BitVec.ofBool (BitVec.ofNat 32 d == BitVec.ofNat 32 (first (v g))) = _
      congr 1
      rw [Bool.eq_iff_iff]
      simp only [beq_iff_eq, decide_eq_true_eq]
      rw [ofNat_inj (d.isLt.trans hD) ((first (v g)).isLt.trans hD), Fin.ext_iff]; exact eq_comm
    rw [this]
    unfold Scalar.select
    by_cases h : first (v g) = d <;> simp [h]
  simp only [hs]
  have e0 : (2147483648#32).toInt = -2147483648 := by decide
  have e1 : (4294967295#32).toInt = -1 := by decide
  split
  · rename_i h
    obtain ⟨h1, h2⟩ := owner_spec v h
    rw [fold_maxsi_eq _ _ _ (mem_univ (owner v d))]
    · rw [if_pos h1]
    · rw [if_pos h1, e0, toInt_ofNat (by omega)]; omega
    · intro j _
      rw [if_pos h1, toInt_ofNat (by omega)]
      split
      · rename_i hj
        rw [toInt_ofNat (by omega)]
        exact_mod_cast h2 j hj
      · rw [e1]; omega
  · rename_i h
    have hn : ∀ g, ¬ first (v g) = d := fun g hg => h ⟨g, hg⟩
    rw [fold_maxsi_eq _ _ _ (mem_univ (0 : Fin 16))]
    · rw [if_neg (hn _)]
    · rw [if_neg (hn _), e0, e1]; omega
    · intro j _
      rw [if_neg (hn _), if_neg (hn _)]

end Objects

end Cert.Spec

end
-- ==== Proof.Spec.lean ====
/-
The loss of one image in plain terms: the overlaps, the matched object of every default box, its class, the wanted
offsets, the cross entropies, and the sums of them that enter the loss.
-/
module

public import proofs.«01_k».proof.Proof.Match

@[expose] public section

noncomputable section

open Idealize.ShloMosaic

namespace Cert.Spec

open Finset

/-- One half. -/
def half : EReal := Ideal.ofBits .f32 1056964608#32

theorem half_eq : half = ((1 / 2 : ℝ) : EReal) := by
  unfold half; simp [Ideal.ofBits, Ideal.ieee, -EReal.coe_mul]; norm_num

variable {D : ℕ} [NeZero D]
variable (db : Fin 4 → Fin D → EReal) (bx : Fin 16 → Fin 4 → EReal) (lg : Fin 16 → BitVec 32)
variable (pb : Fin 4 → Fin D → EReal) (x : Fin 81 → Fin D → EReal)

/-- The intersection of an object with a default box, given by its centre and its upper corner. -/
def inter (g : Fin 16) (d : Fin D) : EReal :=
  max (min (bx g 2) (db 2 d) - max (bx g 0) (db 0 d - db 2 d * half)) 0
    * max (min (bx g 3) (db 3 d) - max (bx g 1) (db 1 d - db 3 d * half)) 0

/-- Their intersection over their union. -/
def iou (g : Fin 16) (d : Fin D) : EReal :=
  Ideal.div (inter db bx g d)
    ((bx g 2 - bx g 0) * (bx g 3 - bx g 1)
      + (db 2 d - (db 0 d - db 2 d * half)) * (db 3 d - (db 1 d - db 3 d * half)) - inter db bx g d)

section Classes

variable (v : Fin 16 → Fin D → EReal)

open Classical in
/-- The overlap a default box is judged by: one half where it is some object's best, else its largest. -/
def best (d : Fin D) : EReal := if Forced v d then half else top fun g => v g d

open Classical in
/-- The class of a default box: its object's, or none where the overlap is below one half. -/
def lab (d : Fin D) : BitVec 32 := if best v d < half then 0#32 else lg (owner v d)

end Classes

variable (l : Fin D → BitVec 32)

/-- One where a default box holds an object. -/
def mask (d : Fin D) : EReal := if l d = 0#32 then 0 else 1

/-- How many do. -/
def npos : EReal := ∑ d, mask l d

/-- The offset that leads from a default box to an object. -/
def off (b : Fin 4 → EReal) (d : Fin D) : Fin 4 → EReal :=
  ![Ideal.div ((b 0 + b 2) * half - db 0 d) (db 2 d), Ideal.div ((b 1 + b 3) * half - db 1 d) (db 3 d),
    Ideal.log (Ideal.div (b 2) (db 2 d)), Ideal.log (Ideal.div (b 3) (db 3 d))]

/-- The distances of the predicted offsets from the wanted ones, over the boxes that hold an object. -/
def gap (o : Fin D → Fin 16) : EReal :=
  ∑ j, ∑ d, FloatOps.absf (F := Ideal) (φ := .f32) (pb j d - off db (bx (o d)) d j) * mask l d

/-- The cross entropy of a default box's scores. -/
def loss (d : Fin D) : EReal :=
  (top (fun c => x c d) + Ideal.log (∑ c, Ideal.exp (x c d - top fun c => x c d)))
    - ∑ c : Fin 81, if BitVec.ofNat 32 c = l d then x c d else 0

/-- Its sum over the boxes that hold an object. -/
def pos : EReal := ∑ d, loss x l d * mask l d

/-- The cross entropy of the boxes that hold none, zero at the others. -/
def neg (d : Fin D) : EReal := loss x l d * (1 - mask l d)

end Cert.Spec

end
-- ==== Proof.KRead.lean ====
/-
The kernel's functions of one image, read entry by entry: they are the image's loss in plain terms.
-/
module

public import proofs.«01_k».proof.Proof.Image
public import proofs.«01_k».proof.Proof.Spec

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-- A bit as a number. -/
theorem bit (p : Bool) : (FloatOps.sitofp FTy.f32 (BitVec.setWidth 32 (BitVec.ofBool p)) : Ideal .f32) = if p then (1 : EReal) else 0 := by
  show (((BitVec.setWidth 32 (BitVec.ofBool p)).toInt : ℝ) : EReal) = _
  cases p
  · have : (BitVec.setWidth 32 (BitVec.ofBool false)).toInt = 0 := by decide
    rw [this]; simp
  · have : (BitVec.setWidth 32 (BitVec.ofBool true)).toInt = 1 := by decide
    rw [this]; simp

theorem select_bool {α : Type} (p : Bool) (a b : α) : Scalar.select (BitVec.ofBool p) a b = if p then a else b := by
  cases p <;> rfl

theorem cmpi_eq (a b : BitVec 32) : IntOp.cmpi .eq a b = BitVec.ofBool (decide (a = b)) := by
  show BitVec.ofBool (a == b) = _
  congr 1

theorem cmpi_ne (a b : BitVec 32) : IntOp.cmpi .ne a b = BitVec.ofBool (decide (a ≠ b)) := by
  show BitVec.ofBool (a != b) = _
  congr 1; rw [Bool.eq_iff_iff]; simp

variable (DB : Vec Ideal S4x8732 .f32) (PB : Vec Ideal S1x4x8732 .f32) (XL : Vec Ideal S1x81x8732 .f32) (BX : Vec Ideal S1x16x4 .f32)
  (LB : Vec Ideal S1x16x1 .i32)

/-- The default boxes of a block. -/
abbrev dbs : Fin 4 → Fin 8732 → EReal := fun j d => DB (ix2 j d)
/-- The objects of a block. -/
abbrev bxs : Fin 16 → Fin 4 → EReal := fun g j => BX (ix3 0 g j)
/-- Their classes. -/
abbrev lgs : Fin 16 → BitVec 32 := fun g => LB (ix3 0 g 0)
/-- The predicted offsets of a block. -/
abbrev pbs : Fin 4 → Fin 8732 → EReal := fun j d => PB (ix3 0 j d)
/-- The scores of a block. -/
abbrev xs : Fin 81 → Fin 8732 → EReal := fun c d => XL (ix3 0 c d)
/-- The overlaps of a block. -/
abbrev vs : Fin 16 → Fin 8732 → EReal := iou (dbs DB) (bxs BX)
/-- The classes of a block's default boxes. -/
abbrev ls : Fin 8732 → BitVec 32 := lab (lgs LB) (vs DB BX)

theorem kIou_eq (g : Fin 16) (d : Fin 8732) : kIou DB BX (ix2 g d) = vs DB BX g d := by
  pointwise [kIou, k0_pay21, k0_pay8, k0_pay9, k0_pay10, k0_pay11, k0_pay12, k0_pay13, k0_pay14, k0_pay15, k0_pay16, k0_pay17, k0_pay18, k0_pay19, k0_pay20, k0_pay3, k0_pay6]
  rfl

theorem kLast_unfold : ∀ (u : FVec Ideal S16x8732 .f32) (_ : kIou DB BX = u) (d : Fin 8732),
    kLast DB BX (ix2 0 d) = Finset.fold IntOp.maxsi (2147483648#32) (fun x : Fin 16 => Scalar.select
      (IntOp.cmpi .eq (BitVec.ofNat 32 ↑d) (Finset.fold IntOp.minsi (2147483647#32) (fun x_1 : Fin 8732 =>
        if u (ix2 x x_1) = top (fun x_2 : Fin 8732 => u (ix2 x x_2)) then BitVec.ofNat 32 ↑x_1 else 8732#32) Finset.univ))
      (BitVec.ofNat 32 ↑x) 4294967295#32) Finset.univ := by
  intro u e d
  unfold kIou at e
  unfold kLast k0_pay23
  simp only [e]
  pointwise
  rfl

open Classical in
theorem kLast_eq (d : Fin 8732) : kLast DB BX (ix2 0 d)
    = if Forced (vs DB BX) d then BitVec.ofNat 32 (owner (vs DB BX) d) else 4294967295#32 := by
  rw [kLast_unfold DB BX _ rfl]
  simp only [kIou_eq]
  exact fold_last (vs DB BX) (by norm_num) _ (fun g => fold_first (by norm_num) (vs DB BX g) _ rfl) d

theorem kHot_unfold (u : FVec Ideal S16x8732 .f32) (w : IVec S1x8732 32) (hu : kIou DB BX = u) (hw : kLast DB BX = w)
    (g : Fin 16) (d : Fin 8732) : kHot DB BX (ix2 g d) = IntOp.cmpi .eq (Scalar.select (IntOp.cmpi .sge (w (ix2 0 d)) 0#32) (w (ix2 0 d))
      (Finset.fold IntOp.minsi (2147483647#32) (fun x : Fin 16 => if u (ix2 x d) = top (fun x : Fin 16 => u (ix2 x d)) then BitVec.ofNat 32 ↑x else 16#32) Finset.univ))
      (BitVec.ofNat 32 ↑g) := by
  unfold kIou at hu
  unfold kLast at hw
  unfold kHot k0_pay26 k0_pay24 k0_pay22
  simp only [hu, hw]
  pointwise
  rfl

theorem kVal_unfold (u : FVec Ideal S16x8732 .f32) (w : IVec S1x8732 32) (hu : kIou DB BX = u) (hw : kLast DB BX = w)
    (d : Fin 8732) : kVal DB BX (ix2 0 d) = Scalar.select (IntOp.cmpi .sge (w (ix2 0 d)) 0#32) half (top (fun x : Fin 16 => u (ix2 x d))) := by
  unfold kIou at hu
  unfold kLast at hw
  unfold kVal k0_pay25 k0_pay24 k0_pay22
  simp only [hu, hw]
  pointwise
  rfl

theorem sge_ofNat (g : Fin 16) : IntOp.cmpi .sge (BitVec.ofNat 32 g) 0#32 = 1#1 := by revert g; decide
theorem sge_neg : IntOp.cmpi .sge 4294967295#32 0#32 = 0#1 := by decide

/-- Where a default box is forced, the kernel knows it by its last object. -/
theorem select_last {α : Type} (d : Fin 8732) (a b : α) :
    Scalar.select (IntOp.cmpi .sge (kLast DB BX (ix2 0 d)) 0#32) a b = open Classical in if Forced (vs DB BX) d then a else b := by
  rw [kLast_eq]
  split
  · rw [sge_ofNat]; rfl
  · rw [sge_neg]; rfl

theorem hot_word (o g : Fin 16) : IntOp.cmpi .eq (BitVec.ofNat 32 o) (BitVec.ofNat 32 g) = BitVec.ofBool (decide (o = g)) := by
  rw [cmpi_eq]
  have : (BitVec.ofNat 32 (o : ℕ) = BitVec.ofNat 32 (g : ℕ)) ↔ o = g := by
    rw [ofNat_inj (by omega) (by omega), Fin.ext_iff]
  simp only [this]

theorem kHot_eq (g : Fin 16) (d : Fin 8732) :
    kHot DB BX (ix2 g d) = BitVec.ofBool (decide (owner (vs DB BX) d = g)) := by
  rw [kHot_unfold DB BX _ _ rfl rfl, select_last]
  have e : (Finset.fold IntOp.minsi (2147483647#32) (fun x : Fin 16 => if kIou DB BX (ix2 x d) = top (fun x : Fin 16 => kIou DB BX (ix2 x d)) then BitVec.ofNat 32 ↑x else 16#32) Finset.univ)
      = BitVec.ofNat 32 (first fun g => vs DB BX g d) := by
    simp only [kIou_eq]
    exact fold_first (by norm_num) (fun g => vs DB BX g d) _ rfl
  rw [e]
  have e' : (open Classical in if Forced (vs DB BX) d then kLast DB BX (ix2 0 d) else BitVec.ofNat 32 (first fun g => vs DB BX g d))
      = BitVec.ofNat 32 (owner (vs DB BX) d) := by
    split
    · rename_i h
      rw [kLast_eq, if_pos h]
    · rename_i h
      rw [owner_free _ h]
  rw [e', hot_word]

theorem kVal_eq (d : Fin 8732) : kVal DB BX (ix2 0 d) = best (vs DB BX) d := by
  rw [kVal_unfold DB BX _ _ rfl rfl, select_last]
  simp only [kIou_eq]
  rfl

/-- The class of a default box, where the objects' classes are not negative. -/
theorem kLab_eq (h : ∀ g, 0 ≤ (lgs LB g).toInt) (d : Fin 8732) : kLab DB BX LB (ix2 0 d) = ls DB BX LB d := by
  have e : kLab DB BX LB (ix2 0 d) = if kVal DB BX (ix2 0 d) < half then 0#32 else
      Finset.fold IntOp.maxsi (2147483648#32) (fun x : Fin 16 => Scalar.select (kHot DB BX (ix2 x d)) (LB (ix3 0 x 0)) 0#32) Finset.univ := by
    unfold kLab
    pointwise [k0_pay28, k0_pay27, k0_pay7]
    rfl
  rw [e, kVal_eq]
  unfold ls lab
  by_cases hb : best (vs DB BX) d < half
  · rw [if_pos hb, if_pos hb]
  rw [if_neg hb, if_neg hb]
  simp only [kHot_eq, select_bool]
  rw [fold_maxsi_eq _ _ _ (Finset.mem_univ (owner (vs DB BX) d))]
  · simp
  · have : (2147483648#32).toInt = -2147483648 := by decide
    have h2 : 0 ≤ (LB (ix3 0 (owner (vs DB BX) d) 0)).toInt := h (owner (vs DB BX) d)
    simp; omega
  · intro j _
    have := h (owner (vs DB BX) d)
    by_cases hj : owner (vs DB BX) d = j <;> simp [hj]
    simpa using this

/-- The mask. -/
theorem kMask_eq (h : ∀ g, 0 ≤ (lgs LB g).toInt) (d : Fin 8732) : kMask DB BX LB (ix2 0 d) = mask (ls DB BX LB) d := by
  have e : kMask DB BX LB (ix2 0 d) = FloatOps.sitofp FTy.f32 (BitVec.setWidth 32 (IntOp.cmpi .ne (kLab DB BX LB (ix2 0 d)) 0#32)) := by
    unfold kMask k0_pay36
    pointwise
    rfl
  rw [e, kLab_eq DB BX LB h, cmpi_ne, bit]
  unfold mask
  by_cases h0 : ls DB BX LB d = 0#32 <;> simp [h0]

theorem kCount_eq (h : ∀ g, 0 ≤ (lgs LB g).toInt) : kCount DB BX LB = npos (ls DB BX LB) := by
  have e : ∀ w, kMask DB BX LB = w → kCount DB BX LB = ∑ _x : Fin 1, ∑ x : Fin 8732, w (ix2 0 x) := by
    intro w hw
    unfold kMask at hw
    unfold kCount k0_pay37
    simp only [hw]
    pointwise
  rw [e _ rfl]
  simp only [kMask_eq DB BX LB h]
  rw [Fin.sum_univ_one]; rfl

/-- A sum against the one-hot row of the own object is that object's value. -/
theorem sum_hot (o : Fin 16) (f : Fin 16 → EReal) :
    (∑ x : Fin 16, (FloatOps.sitofp FTy.f32 (BitVec.setWidth 32 (BitVec.ofBool (decide (o = x)))) : Ideal .f32) * f x : EReal) = f o := by
  rw [Finset.sum_eq_single o]
  · rw [bit]; simp
  · intro b _ hb
    rw [bit]; simp [Ne.symm hb]
  · simp

theorem kAbs_eq (h : ∀ g, 0 ≤ (lgs LB g).toInt) : kAbs DB PB BX LB
    = gap (dbs DB) (bxs BX) (pbs PB) (ls DB BX LB) (owner (vs DB BX)) := by
  have e : ∀ a b c d w : FVec Ideal S1x8732 .f32, k0_pay38 (k0_pay4 PB) a b c d w
      = (∑ _x : Fin 1, ∑ x : Fin 8732, (FloatOps.absf (PB (ix3 0 0 x) - a (ix2 0 x)) : Ideal .f32) * w (ix2 0 x) : EReal)
        + (∑ _x : Fin 1, ∑ x : Fin 8732, (FloatOps.absf (PB (ix3 0 1 x) - b (ix2 0 x)) : Ideal .f32) * w (ix2 0 x) : EReal)
        + (∑ _x : Fin 1, ∑ x : Fin 8732, (FloatOps.absf (PB (ix3 0 2 x) - c (ix2 0 x)) : Ideal .f32) * w (ix2 0 x) : EReal)
        + (∑ _x : Fin 1, ∑ x : Fin 8732, (FloatOps.absf (PB (ix3 0 3 x) - d (ix2 0 x)) : Ideal .f32) * w (ix2 0 x) : EReal) := by
    intro a b c d w
    pointwise [k0_pay38, k0_pay4]
  have e0 : ∀ d, k0_pay32 (k0_pay8 BX) (k0_pay10 BX) (k0_pay12 DB) (k0_pay14 DB) (kHot DB BX) (ix2 0 d)
      = off (dbs DB) (bxs BX (owner (vs DB BX) d)) d 0 := by
    intro d
    generalize hh : kHot DB BX = hot
    pointwise [k0_pay32, k0_pay30, k0_pay29, k0_pay8, k0_pay10, k0_pay12, k0_pay14, k0_pay3, k0_pay6]
    subst hh
    simp only [kHot_eq]
    rw [sum_hot _ fun x => BX (ix3 0 x 0), sum_hot _ fun x => BX (ix3 0 x 2)]
    rfl
  have e1 : ∀ d, k0_pay33 (k0_pay9 BX) (k0_pay11 BX) (k0_pay13 DB) (k0_pay15 DB) (kHot DB BX) (ix2 0 d)
      = off (dbs DB) (bxs BX (owner (vs DB BX) d)) d 1 := by
    intro d
    generalize hh : kHot DB BX = hot
    pointwise [k0_pay33, k0_pay31, k0_pay29, k0_pay9, k0_pay11, k0_pay13, k0_pay15, k0_pay3, k0_pay6]
    subst hh
    simp only [kHot_eq]
    rw [sum_hot _ fun x => BX (ix3 0 x 1), sum_hot _ fun x => BX (ix3 0 x 3)]
    rfl
  have e2 : ∀ d, k0_pay34 (k0_pay10 BX) (k0_pay14 DB) (kHot DB BX) (ix2 0 d)
      = off (dbs DB) (bxs BX (owner (vs DB BX) d)) d 2 := by
    intro d
    generalize hh : kHot DB BX = hot
    pointwise [k0_pay34, k0_pay30, k0_pay29, k0_pay10, k0_pay14, k0_pay3, k0_pay6]
    subst hh
    simp only [kHot_eq]
    rw [sum_hot _ fun x => BX (ix3 0 x 2)]
    rfl
  have e3 : ∀ d, k0_pay35 (k0_pay11 BX) (k0_pay15 DB) (kHot DB BX) (ix2 0 d)
      = off (dbs DB) (bxs BX (owner (vs DB BX) d)) d 3 := by
    intro d
    generalize hh : kHot DB BX = hot
    pointwise [k0_pay35, k0_pay31, k0_pay29, k0_pay11, k0_pay15, k0_pay3, k0_pay6]
    subst hh
    simp only [kHot_eq]
    rw [sum_hot _ fun x => BX (ix3 0 x 3)]
    rfl
  unfold kAbs
  rw [e]
  simp only [e0, e1, e2, e3, kMask_eq DB BX LB h]
  unfold gap
  rw [Fin.sum_univ_four]
  simp only [Fin.sum_univ_one]

theorem kLoss_eq (h : ∀ g, 0 ≤ (lgs LB g).toInt) (d : Fin 8732) : kLoss DB XL BX LB (ix2 0 d) = loss (xs XL) (ls DB BX LB) d := by
  have e : ∀ L : IVec S1x8732 32, k0_pay39 (k0_pay5 XL) L (ix2 0 d) = (top (fun c => xs XL c d) + Ideal.log (∑ c, Ideal.exp (xs XL c d - top fun c => xs XL c d)))
    - ∑ x : Fin 81, Scalar.select (IntOp.cmpi .eq (BitVec.ofNat 32 x) (L (ix2 0 d))) (XL (ix3 0 x d)) 0 := by
    intro L
    pointwise [k0_pay39, k0_pay5]
    rfl
  unfold kLoss
  rw [e, kLab_eq DB BX LB h]
  unfold loss
  simp only [cmpi_eq, select_bool, decide_eq_true_eq]

theorem kPos_eq (h : ∀ g, 0 ≤ (lgs LB g).toInt) : kPos DB XL BX LB = pos (xs XL) (ls DB BX LB) := by
  have e : ∀ a b : FVec Ideal S1x8732 .f32, k0_pay40 a b = ∑ _x : Fin 1, ∑ x : Fin 8732, b (ix2 0 x) * a (ix2 0 x) := by
    intro a b
    pointwise [k0_pay40]
  unfold kPos
  rw [e]
  simp only [kMask_eq DB BX LB h, kLoss_eq DB XL BX LB h]
  rw [Fin.sum_univ_one]; rfl

theorem kNeg_eq (h : ∀ g, 0 ≤ (lgs LB g).toInt) (d : Fin 8732) : kNeg DB XL BX LB (ix2 0 d) = neg (xs XL) (ls DB BX LB) d := by
  have e : ∀ a b : FVec Ideal S1x8732 .f32, k0_pay41 a b (ix2 0 d) = b (ix2 0 d) * (1 - a (ix2 0 d)) := by
    intro a b
    pointwise [k0_pay41]
  unfold kNeg
  rw [e, kMask_eq DB BX LB h, kLoss_eq DB XL BX LB h]
  rfl

end Cert.KernelIdeal.Value

end
-- ==== Proof.Search.lean ====
/-
The 33-section search for the hard negatives, over the reals: after every step the bracket `[lo, hi]` still holds the
threshold and has shrunk by a fixed factor; and when the smallest value taken exceeds the largest value left out by
more than the last bracket, "sum above `hi`, plus `hi` for each one still missing" is the sum of the values taken.
-/
module

public import Idealize.ShloMosaic.Lib.Tactic
public import Mathlib.Algebra.BigOperators.Fin
public import Mathlib.Data.Real.Basic
public import Mathlib.Tactic.Linarith
public import Mathlib.Tactic.Ring
public import Mathlib.Tactic.NormNum
public import Mathlib.Tactic.Positivity

@[expose] public section

noncomputable section

namespace Cert.Search

open Finset

variable {D : ℕ}

/-- How many of the values exceed `t`. -/
def cnt (s : Fin D → ℝ) (t : ℝ) : ℕ := #{r | t < s r}

theorem cnt_anti (s : Fin D → ℝ) {t u : ℝ} (h : t ≤ u) : cnt s u ≤ cnt s t :=
  card_le_card fun r hr => by simp only [mem_filter, mem_univ, true_and] at hr ⊢; linarith

/-- What the search keeps true of its bracket. -/
structure Inv (s : Fin D → ℝ) (k : ℕ) (lo hi : ℝ) : Prop where
  le : lo ≤ hi
  top : cnt s hi ≤ k
  bot : lo = 0 ∨ k < cnt s lo

/-- The trial points of one step. -/
def trial (c lo hi : ℝ) (i : Fin 32) : ℝ := lo + (hi - lo) * (((i : ℕ) + 1 : ℝ) * c)

section Step

variable {s : Fin D → ℝ} {k : ℕ} {lo hi lo' hi' c : ℝ}

theorem lo_le_trial (hc : 0 ≤ c) (h : lo ≤ hi) (i : Fin 32) : lo ≤ trial c lo hi i := by
  have : 0 ≤ (hi - lo) * (((i : ℕ) + 1 : ℝ) * c) := by
    have := sub_nonneg.2 h
    positivity
  unfold trial; linarith

theorem trial_le_hi (hc : 0 ≤ c) (hc' : 32 * c ≤ 1) (h : lo ≤ hi) (i : Fin 32) : trial c lo hi i ≤ hi := by
  have h1 : ((i : ℕ) + 1 : ℝ) ≤ 32 := by exact_mod_cast i.isLt
  have h2 : ((i : ℕ) + 1 : ℝ) * c ≤ 1 := (mul_le_mul_of_nonneg_right h1 hc).trans hc'
  have h3 := mul_le_mul_of_nonneg_left h2 (sub_nonneg.2 h)
  unfold trial; linarith

/-- One step keeps the invariant. -/
theorem Inv.step (I : Inv s k lo hi) (hc : 0 ≤ c) (hc' : 32 * c ≤ 1)
    (hl : ∃ i, lo' = if k < cnt s (trial c lo hi i) then trial c lo hi i else lo)
    (hh : ∃ i, hi' = if k < cnt s (trial c lo hi i) then hi else trial c lo hi i) : Inv s k lo' hi' := by
  obtain ⟨i, rfl⟩ := hl
  obtain ⟨j, rfl⟩ := hh
  have a := lo_le_trial hc I.le j
  have b := trial_le_hi hc hc' I.le i
  refine ⟨?_, ?_, ?_⟩
  · split_ifs with h1 h2 h2
    · exact b
    · by_contra h
      exact h2 (h1.trans_le (cnt_anti s (not_le.1 h).le))
    · exact I.le
    · exact a
  · split_ifs with h
    · exact I.top
    · exact not_lt.1 h
  · split_ifs with h
    · exact .inr h
    · exact I.bot

/-- One step shrinks the bracket. -/
theorem Inv.width (I : Inv s k lo hi) {q : ℝ} (hq : c ≤ q) (hq' : 1 - 32 * c ≤ q)
    (hl : ∀ i, (if k < cnt s (trial c lo hi i) then trial c lo hi i else lo) ≤ lo')
    (hh : ∀ i, hi' ≤ if k < cnt s (trial c lo hi i) then hi else trial c lo hi i)
    (hlo : lo ≤ lo') : hi' - lo' ≤ q * (hi - lo) := by
  have hw := sub_nonneg.2 I.le
  by_cases h0 : k < cnt s (trial c lo hi 0)
  · by_cases h31 : k < cnt s (trial c lo hi 31)
    · have a := hl 31; have b := hh 31
      rw [if_pos h31] at a b
      have := mul_le_mul_of_nonneg_right hq' hw
      have e : trial c lo hi 31 = lo + (hi - lo) * (32 * c) := by
        unfold trial; norm_num
      rw [e] at a
      nlinarith
    · have key : ∃ n : ℕ, ∃ h : n + 1 < 32, k < cnt s (trial c lo hi ⟨n, by omega⟩) ∧ ¬ k < cnt s (trial c lo hi ⟨n + 1, h⟩) := by
        by_contra hn
        push Not at hn
        have : ∀ n : ℕ, ∀ h : n < 32, k < cnt s (trial c lo hi ⟨n, h⟩) := by
          intro n
          induction n with
          | zero => intro _; exact h0
          | succ n ih => intro h; exact hn n h (ih (by omega))
        exact h31 (this 31 (by omega))
      obtain ⟨n, h, a, b⟩ := key
      have a' := hl ⟨n, by omega⟩; have b' := hh ⟨n + 1, h⟩
      rw [if_pos a] at a'
      rw [if_neg b] at b'
      have := mul_le_mul_of_nonneg_right hq hw
      unfold trial at a' b'
      push_cast at a' b'
      nlinarith
  · have b := hh 0
    rw [if_neg h0] at b
    have := mul_le_mul_of_nonneg_right hq hw
    have e : trial c lo hi 0 = lo + (hi - lo) * c := by unfold trial; norm_num
    rw [e] at b
    nlinarith

end Step

/-- The value after the last one: zero. -/
def at' (s : Fin D → ℝ) (k : ℕ) : ℝ := if h : k < D then s ⟨k, h⟩ else 0

section Final

variable {s : Fin D → ℝ} {k : ℕ} {lo hi : ℝ}

theorem at_le_hi (hs : Antitone s) (I : Inv s k lo hi) (h : k < D) : s ⟨k, h⟩ ≤ hi := by
  by_contra hn
  have : (Finset.univ.filter fun r : Fin D => (r : ℕ) ≤ k) ⊆ (Finset.univ.filter fun r : Fin D => hi < s r) := fun r hr => by
    simp only [mem_filter, mem_univ, true_and] at hr ⊢
    exact (not_le.1 hn).trans_le (hs hr)
  have h2 := card_le_card this
  have h3 : (Finset.univ.filter fun r : Fin D => (r : ℕ) ≤ k).card = k + 1 := by
    have : (Finset.univ.filter fun r : Fin D => (r : ℕ) ≤ k) = Finset.Iic ⟨k, h⟩ := by ext r; simp [Fin.le_def]
    rw [this, Fin.card_Iic]
  have h4 := I.top
  unfold cnt at h4
  omega

theorem lo_le_at (hs : Antitone s) (h0 : ∀ r, 0 ≤ s r) (I : Inv s k lo hi) (hk : k ≤ D) : lo ≤ at' s k := by
  unfold at'
  split_ifs with h
  · rcases I.bot with e | e
    · rw [e]; exact h0 _
    · by_contra hn
      have : (Finset.univ.filter fun r : Fin D => lo < s r) ⊆ (Finset.univ.filter fun r : Fin D => (r : ℕ) < k) := fun r hr => by
        simp only [mem_filter, mem_univ, true_and] at hr ⊢
        by_contra hr'
        have := hs (show (⟨k, h⟩ : Fin D) ≤ r from not_lt.1 hr')
        linarith [not_le.1 hn]
      have h2 := card_le_card this
      have h3 : (Finset.univ.filter fun r : Fin D => (r : ℕ) < k).card = k := by
        have : (Finset.univ.filter fun r : Fin D => (r : ℕ) < k) = Finset.Iio ⟨k, h⟩ := by ext r; simp [Fin.lt_def]
        rw [this, Fin.card_Iio]
      unfold cnt at e
      omega
  · rcases I.bot with e | e
    · exact e.le
    · have : cnt s lo ≤ D := (card_filter_le _ _).trans (by simp)
      omega

/-- The search's answer is the sum of the `k` largest values. -/
theorem top_sum (hs : Antitone s) (h0 : ∀ r, 0 ≤ s r) (I : Inv s k lo hi) (hk : k ≤ D) {δ : ℝ} (hw : hi - lo ≤ δ)
    (gap : ∀ r : Fin D, (r : ℕ) + 1 = k → δ ≤ s r - at' s k) :
    (∑ r : Fin D, if hi < s r then s r else 0) + max ((k : ℝ) - cnt s hi) 0 * hi = ∑ r : Fin D, if (r : ℕ) < k then s r else 0 := by
  have hmax : max ((k : ℝ) - cnt s hi) 0 = (k : ℝ) - cnt s hi := max_eq_left (by
    have : (cnt s hi : ℝ) ≤ k := by exact_mod_cast I.top
    linarith)
  have hlow : ∀ r : Fin D, (r : ℕ) < k → hi ≤ s r := fun r hr => by
    have h1 := lo_le_at hs h0 I hk
    have hk1 : k - 1 < D := by omega
    have h2 := gap ⟨k - 1, hk1⟩ (by show k - 1 + 1 = k; omega)
    have h3 : s ⟨k - 1, hk1⟩ ≤ s r := hs (show (r : ℕ) ≤ k - 1 by omega)
    linarith
  have hhigh : ∀ r : Fin D, ¬ (r : ℕ) < k → s r ≤ hi := fun r hr => by
    have hkD : k < D := by omega
    exact (hs (show (⟨k, hkD⟩ : Fin D) ≤ r from not_lt.1 hr)).trans (at_le_hi hs I hkD)
  have e1 : ∀ r : Fin D, (if (r : ℕ) < k then s r else 0) = (if hi < s r then s r else 0) - (if hi < s r then 1 else 0) * hi + (if (r : ℕ) < k then 1 else 0) * hi := fun r => by
    by_cases hr : (r : ℕ) < k
    · have := hlow r hr
      by_cases hh : hi < s r
      · simp [hr, hh]
      · have : s r = hi := le_antisymm (not_lt.1 hh) this
        simp [hr, this]
    · have := hhigh r hr
      simp [hr, not_lt.2 this]
  have e2 : (∑ r : Fin D, (if hi < s r then (1 : ℝ) else 0)) = cnt s hi := by
    unfold cnt; rw [Finset.sum_boole]
  have e3 : (∑ r : Fin D, (if (r : ℕ) < k then (1 : ℝ) else 0)) = k := by
    rw [Finset.sum_boole]
    congr 1
    have := Fin.card_filter_val_lt (n := D) (m := k)
    rw [this, min_eq_right hk]
  rw [Finset.sum_congr rfl fun r _ => e1 r, Finset.sum_add_distrib, Finset.sum_sub_distrib, ← Finset.sum_mul, ← Finset.sum_mul, e2, e3, hmax]
  ring

end Final

end Cert.Search

end
-- ==== Proof.KTop.lean ====
/-
The search of the kernel on the numbers it meets: what it takes of the hardest negatives is the sum of the largest ones.
-/
module

public import proofs.«01_k».proof.Proof.KRead
public import proofs.«01_k».proof.Proof.Search

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec Cert.Search

/-- The width of a section, as the kernel's constant has it. -/
def sec : ℝ := 16268816 / 536870912

theorem sec_word : Ideal.ofBits .f32 1022901776#32 = ((sec : ℝ) : EReal) := by
  unfold sec; simp [Ideal.ofBits, Ideal.ieee, -EReal.coe_mul]; norm_num

theorem three_word : Ideal.ofBits .f32 1077936128#32 = ((3 : ℝ) : EReal) := by
  simp [Ideal.ofBits, Ideal.ieee, -EReal.coe_mul]; norm_num

theorem all_word : Ideal.ofBits .f32 1174958080#32 = ((8732 : ℝ) : EReal) := by
  simp [Ideal.ofBits, Ideal.ieee, -EReal.coe_mul]; norm_num

theorem zero_word : (FloatOps.ofBits FTy.f32 0#32 : Ideal .f32) = ((0 : ℝ) : EReal) := by
  show Ideal.ofBits .f32 0#32 = _
  simp [Ideal.ofBits, Ideal.ieee]

theorem pinf : Ideal.ofBits .f32 2139095040#32 = ⊤ := by decide +kernel

theorem sitofp_ofNat {k : ℕ} (h : k < 2 ^ 31) : (FloatOps.sitofp FTy.f32 (BitVec.ofNat 32 k) : Ideal .f32) = (((k : ℝ)) : EReal) := by
  show (((BitVec.ofNat 32 k).toInt : ℝ) : EReal) = _
  rw [toInt_ofNat h]; simp

/-- A sum of real numbers, among the extended ones. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (a b : ℝ) : (if p then (a : EReal) else (b : EReal)) = ((if p then a else b : ℝ) : EReal) := by
  split <;> rfl

theorem coe_min' (a b : ℝ) : ((min a b : ℝ) : EReal) = min (a : EReal) b := EReal.coe_strictMono.monotone.map_min

theorem coe_max' (a b : ℝ) : ((max a b : ℝ) : EReal) = max (a : EReal) b := EReal.coe_strictMono.monotone.map_max

section Counting

variable {D : ℕ} {w : Fin D → ℝ} (σ : Fin D ≃ Fin D)

theorem sum_above (t : ℝ) : (∑ d : Fin D, if (t : EReal) < (w d : EReal) then (1 : EReal) else 0) = ((cnt (w ∘ σ) t : ℝ) : EReal) := by
  have : ∀ d, (if (t : EReal) < (w d : EReal) then (1 : EReal) else 0) = ((if t < w d then (1 : ℝ) else 0 : ℝ) : EReal) := fun d => by
    rw [← coe_ite]; simp [EReal.coe_lt_coe_iff]
  simp only [this]
  rw [coe_sum, ← Equiv.sum_comp σ fun d => if t < w d then (1 : ℝ) else 0]
  congr 1
  unfold cnt
  rw [Finset.sum_boole]; rfl

theorem sum_over (t : ℝ) : (∑ d : Fin D, if (t : EReal) < (w d : EReal) then (w d : EReal) else 0)
    = ((∑ r : Fin D, if t < (w ∘ σ) r then (w ∘ σ) r else 0 : ℝ) : EReal) := by
  have : ∀ d, (if (t : EReal) < (w d : EReal) then (w d : EReal) else 0) = ((if t < w d then w d else 0 : ℝ) : EReal) := fun d => by
    rw [← coe_ite]; simp [EReal.coe_lt_coe_iff]
  simp only [this]
  rw [coe_sum, ← Equiv.sum_comp σ fun d => if t < w d then w d else 0]; rfl

end Counting

/-- A fold over a list keeps what every step keeps. -/
theorem foldl_keeps {α β : Type} (f : β → α → β) (P : ℕ → β → Prop) (h : ∀ i b a, P i b → P (i + 1) (f b a)) :
    ∀ (l : List α) (i : ℕ) (b : β), P i b → P (i + l.length) (l.foldl f b)
  | [], i, b, hb => hb
  | a :: l, i, b, hb => by
    have := foldl_keeps f P h l (i + 1) (f b a) (h i b a hb)
    rw [List.length_cons, List.foldl_cons]
    rwa [Nat.add_right_comm, Nat.add_assoc] at this

/-- The largest of finitely many real numbers is one of them and above all. -/
theorem fold_max_real {ι : Type} [Fintype ι] [Nonempty ι] (f : ι → ℝ) (F : ι → EReal) (hF : ∀ i, F i = f i) :
    ∃ m : ℝ, Finset.fold max (Ideal.ofBits FTy.f32 4286578688#32) F Finset.univ = (m : EReal) ∧ (∃ i, m = f i) ∧ ∀ i, f i ≤ m := by
  have e : Finset.fold max (Ideal.ofBits FTy.f32 4286578688#32) F Finset.univ = Finset.univ.sup F := by
    rw [show Ideal.ofBits FTy.f32 4286578688#32 = ⊥ from ninf]; rfl
  obtain ⟨i, -, hi⟩ := Finset.exists_mem_eq_sup Finset.univ Finset.univ_nonempty F
  refine ⟨f i, by rw [e, hi, hF], ⟨i, rfl⟩, fun j => ?_⟩
  have : F j ≤ Finset.univ.sup F := Finset.le_sup (Finset.mem_univ j)
  rw [hi, hF, hF] at this
  exact EReal.coe_le_coe_iff.1 this

/-- The least of finitely many real numbers is one of them and below all. -/
theorem fold_min_real {ι : Type} [Fintype ι] [Nonempty ι] (f : ι → ℝ) (F : ι → EReal) (hF : ∀ i, F i = f i) :
    ∃ m : ℝ, Finset.fold min (Ideal.ofBits FTy.f32 2139095040#32) F Finset.univ = (m : EReal) ∧ (∃ i, m = f i) ∧ ∀ i, m ≤ f i := by
  have e : Finset.fold min (Ideal.ofBits FTy.f32 2139095040#32) F Finset.univ = Finset.univ.inf F := by
    rw [pinf]; rfl
  obtain ⟨i, -, hi⟩ := Finset.exists_mem_eq_inf Finset.univ Finset.univ_nonempty F
  refine ⟨f i, by rw [e, hi, hF], ⟨i, rfl⟩, fun j => ?_⟩
  have : Finset.univ.inf F ≤ F j := Finset.inf_le (Finset.mem_univ j)
  rw [hi, hF, hF] at this
  exact EReal.coe_le_coe_iff.1 this

section Step

variable (M Z : FVec Ideal S1x8732 .f32) (n : ℕ) (w : Fin 8732 → ℝ) (hw : ∀ d, k0_pay41 M Z (ix2 0 d) = (w d : EReal))
  (σ : Fin 8732 ≃ Fin 8732)

/-- How many negatives are taken. -/
abbrev want : ℕ := min (3 * n) 8732

theorem want_coe : min (Ideal.ofBits FTy.f32 1077936128#32 * ((n : ℝ) : EReal)) (Ideal.ofBits FTy.f32 1174958080#32) = ((want n : ℝ) : EReal) := by
  rw [three_word, all_word, ← EReal.coe_mul, ← coe_min']
  congr 1; push_cast; rfl

theorem trial_coe (lo hi : ℝ) (i : Fin 32) :
    (lo : EReal) + ((hi : EReal) - lo) * (((FloatOps.sitofp FTy.f32 (BitVec.ofNat 32 ↑i) : Ideal .f32) + 1 : EReal) * Ideal.ofBits FTy.f32 1022901776#32)
      = ((trial sec lo hi i : ℝ) : EReal) := by
  rw [sitofp_ofNat (by omega), sec_word]
  unfold trial
  push_cast
  rfl

theorem pay44_eq (lo hi : ℝ) (i : Fin 32) : k0_pay44 (F := Ideal) (lo : EReal) (hi : EReal) (ix2 i 0) = ((trial sec lo hi i : ℝ) : EReal) := by
  rw [← trial_coe]
  pointwise [k0_pay44]

include hw in
theorem pay45_eq (lo hi : ℝ) (i : Fin 32) : k0_pay45 (F := Ideal) M ((n : ℝ) : EReal) Z (lo : EReal) (hi : EReal) (ix2 i 0)
    = BitVec.ofBool (decide (want n < cnt (w ∘ σ) (trial sec lo hi i))) := by
  have e : ∀ (W : FVec Ideal S1x8732 .f32) (T : FVec Ideal S32x1 .f32), k0_pay41 M Z = W → k0_pay44 (F := Ideal) (lo : EReal) (hi : EReal) = T →
      k0_pay45 (F := Ideal) M ((n : ℝ) : EReal) Z (lo : EReal) (hi : EReal) (ix2 i 0)
      = BitVec.ofBool (decide (min (Ideal.ofBits FTy.f32 1077936128#32 * ((n : ℝ) : EReal)) (Ideal.ofBits FTy.f32 1174958080#32)
        < ∑ x : Fin 8732, (FloatOps.sitofp FTy.f32 (BitVec.setWidth 32 (BitVec.ofBool (decide (T (ix2 i 0) < W (ix2 0 x))))) : Ideal .f32))) := by
    intro W T hW hT
    unfold k0_pay45
    simp only [hW, hT]
    pointwise [k0_pay42]
  rw [e _ _ rfl rfl]
  simp only [bit, pay44_eq, hw, decide_eq_true_eq]
  rw [sum_above σ, want_coe]
  simp only [EReal.coe_lt_coe_iff, Nat.cast_lt]

include hw in
theorem pay46_eq (lo hi : ℝ) : ∃ m : ℝ, k0_pay46 (F := Ideal) M ((n : ℝ) : EReal) Z (lo : EReal) (hi : EReal) = (m : EReal)
    ∧ (∃ i, m = if want n < cnt (w ∘ σ) (trial sec lo hi i) then trial sec lo hi i else lo)
    ∧ ∀ i, (if want n < cnt (w ∘ σ) (trial sec lo hi i) then trial sec lo hi i else lo) ≤ m := by
  have e : ∀ (V : IVec S32x1 1) (T : FVec Ideal S32x1 .f32), k0_pay45 (F := Ideal) M ((n : ℝ) : EReal) Z (lo : EReal) (hi : EReal) = V →
      k0_pay44 (F := Ideal) (lo : EReal) (hi : EReal) = T →
      k0_pay46 (F := Ideal) M ((n : ℝ) : EReal) Z (lo : EReal) (hi : EReal)
      = Finset.fold max (Ideal.ofBits FTy.f32 4286578688#32) (fun x : Fin 32 × Fin 1 => Scalar.select (V (ix2 x.1 0)) (T (ix2 x.1 0)) (lo : EReal)) Finset.univ := by
    intro V T hV hT
    unfold k0_pay46
    simp only [hV, hT]
    pointwise
  rw [e _ _ rfl rfl]
  obtain ⟨m, h1, ⟨i, h2⟩, h3⟩ := fold_max_real
    (fun x : Fin 32 × Fin 1 => if want n < cnt (w ∘ σ) (trial sec lo hi x.1) then trial sec lo hi x.1 else lo)
    (fun x => Scalar.select (k0_pay45 (F := Ideal) M ((n : ℝ) : EReal) Z (lo : EReal) (hi : EReal) (ix2 x.1 0)) (k0_pay44 (F := Ideal) (lo : EReal) (hi : EReal) (ix2 x.1 0)) (lo : EReal))
    (fun x => by rw [pay45_eq M Z n w hw σ, pay44_eq, select_bool, ← coe_ite]; simp only [decide_eq_true_eq])
  exact ⟨m, h1, ⟨i.1, h2⟩, fun i => h3 (i, 0)⟩

include hw in
theorem pay47_eq (lo hi : ℝ) : ∃ m : ℝ, k0_pay47 (F := Ideal) M ((n : ℝ) : EReal) Z (lo : EReal) (hi : EReal) = (m : EReal)
    ∧ (∃ i, m = if want n < cnt (w ∘ σ) (trial sec lo hi i) then hi else trial sec lo hi i)
    ∧ ∀ i, m ≤ if want n < cnt (w ∘ σ) (trial sec lo hi i) then hi else trial sec lo hi i := by
  have e : ∀ (V : IVec S32x1 1) (T : FVec Ideal S32x1 .f32), k0_pay45 (F := Ideal) M ((n : ℝ) : EReal) Z (lo : EReal) (hi : EReal) = V →
      k0_pay44 (F := Ideal) (lo : EReal) (hi : EReal) = T →
      k0_pay47 (F := Ideal) M ((n : ℝ) : EReal) Z (lo : EReal) (hi : EReal)
      = Finset.fold min (Ideal.ofBits FTy.f32 2139095040#32) (fun x : Fin 32 × Fin 1 => Scalar.select (V (ix2 x.1 0)) (hi : EReal) (T (ix2 x.1 0))) Finset.univ := by
    intro V T hV hT
    unfold k0_pay47
    simp only [hV, hT]
    pointwise
  rw [e _ _ rfl rfl]
  obtain ⟨m, h1, ⟨i, h2⟩, h3⟩ := fold_min_real
    (fun x : Fin 32 × Fin 1 => if want n < cnt (w ∘ σ) (trial sec lo hi x.1) then hi else trial sec lo hi x.1)
    (fun x => Scalar.select (k0_pay45 (F := Ideal) M ((n : ℝ) : EReal) Z (lo : EReal) (hi : EReal) (ix2 x.1 0)) (hi : EReal) (k0_pay44 (F := Ideal) (lo : EReal) (hi : EReal) (ix2 x.1 0)))
    (fun x => by rw [pay45_eq M Z n w hw σ, pay44_eq, select_bool, ← coe_ite]; simp only [decide_eq_true_eq])
  exact ⟨m, h1, ⟨i.1, h2⟩, fun i => h3 (i, 0)⟩

theorem sec_nonneg : 0 ≤ sec := by unfold sec; norm_num
theorem sec_le : 32 * sec ≤ 1 := by unfold sec; norm_num
theorem sec_rest : 1 - 32 * sec ≤ sec := by unfold sec; norm_num
theorem sec_pow : sec ^ 7 ≤ (2 : ℝ)⁻¹ ^ 35 := by unfold sec; norm_num

/-- What the search keeps: a bracket of real numbers, narrower by a factor each step. -/
def Keeps (h : ℝ) (i : ℕ) (a : Ideal .f32 × Ideal .f32) : Prop :=
  ∃ lo hi : ℝ, a = ((lo : EReal), (hi : EReal)) ∧ Inv (w ∘ σ) (want n) lo hi ∧ hi - lo ≤ sec ^ i * h

include hw in
theorem Keeps.step {h : ℝ} {i : ℕ} {a : Ideal .f32 × Ideal .f32} (K : Keeps n w σ h i a) :
    Keeps n w σ h (i + 1) (k0_pay46 M ((n : ℝ) : EReal) Z a.1 a.2, k0_pay47 M ((n : ℝ) : EReal) Z a.1 a.2) := by
  obtain ⟨lo, hi, rfl, I, hd⟩ := K
  obtain ⟨lo', e1, x1, y1⟩ := pay46_eq M Z n w hw σ lo hi
  obtain ⟨hi', e2, x2, y2⟩ := pay47_eq M Z n w hw σ lo hi
  refine ⟨lo', hi', by rw [← e1, ← e2], I.step sec_nonneg sec_le x1 x2, ?_⟩
  have hlo : lo ≤ lo' := by
    refine le_trans ?_ (y1 0)
    split
    · exact lo_le_trial sec_nonneg I.le 0
    · exact le_rfl
  have := I.width le_rfl sec_rest y1 y2 hlo
  refine this.trans ?_
  rw [pow_succ, mul_comm (sec ^ i) sec, mul_assoc]
  exact mul_le_mul_of_nonneg_left hd sec_nonneg

include hw in
/-- The sum the kernel takes is the sum of the largest values, where the last one taken stands clear of the next. -/
theorem topSum_eq (hs : Antitone (w ∘ σ)) (h0 : ∀ d, 0 ≤ w d)
    (gap : ∀ r : Fin 8732, (r : ℕ) + 1 = want n → w (σ 0) * (2 : ℝ)⁻¹ ^ 35 ≤ w (σ r) - at' (w ∘ σ) (want n)) :
    k0_pay48 M ((n : ℝ) : EReal) Z (Scf.fold (n := k0_t1_loop.trips) (fun _ a => (k0_pay46 M ((n : ℝ) : EReal) Z a.1 a.2,
      k0_pay47 M ((n : ℝ) : EReal) Z a.1 a.2)) (FloatOps.ofBits FTy.f32 0#32, k0_pay43 M Z)).2
      = ((∑ r : Fin 8732, if (r : ℕ) < want n then w (σ r) else 0 : ℝ) : EReal) := by
  have e43 : ∀ W : FVec Ideal S1x8732 .f32, k0_pay41 M Z = W → k0_pay43 M Z
      = Finset.fold max (Ideal.ofBits FTy.f32 4286578688#32) (fun x : Fin 1 × Fin 8732 => W (ix2 0 x.2)) Finset.univ := by
    intro W hW
    unfold k0_pay43
    simp only [hW]
    pointwise
  obtain ⟨m, hm, ⟨i, hi⟩, hle⟩ := fold_max_real (fun x : Fin 1 × Fin 8732 => w x.2) (fun x => k0_pay41 M Z (ix2 0 x.2)) (fun x => hw x.2)
  have hm43 : k0_pay43 M Z = (m : EReal) := by rw [e43 _ rfl, hm]
  have hm0 : 0 ≤ m := hi ▸ h0 _
  have hms : m ≤ w (σ 0) := by
    have : (w ∘ σ) (σ.symm i.2) ≤ (w ∘ σ) 0 := hs (Fin.zero_le _)
    rw [hi]; simpa using this
  have K0 : Keeps n w σ m 0 ((FloatOps.ofBits FTy.f32 0#32 : Ideal .f32), k0_pay43 M Z) := by
    refine ⟨0, m, ?_, ⟨hm0, ?_, .inl rfl⟩, by simp⟩
    · rw [hm43]
      rw [zero_word]
    · have : cnt (w ∘ σ) m = 0 := by
        unfold cnt
        rw [Finset.card_eq_zero, Finset.filter_eq_empty_iff]
        intro r _
        exact not_lt.2 (hle (0, σ r))
      rw [this]; exact Nat.zero_le _
  rw [Scf.fold_eq]
  have K := foldl_keeps (fun (a : Ideal .f32 × Ideal .f32) (_ : Fin k0_t1_loop.trips) => (k0_pay46 M ((n : ℝ) : EReal) Z a.1 a.2, k0_pay47 M ((n : ℝ) : EReal) Z a.1 a.2))
    (Keeps n w σ m) (fun i b _ hb => hb.step M Z n w hw σ) (List.finRange k0_t1_loop.trips) 0 _ K0
  rw [List.length_finRange, show k0_t1_loop.trips = 7 from by decide +kernel, Nat.zero_add] at K
  obtain ⟨lo, hi', e, I, hd⟩ := K
  rw [show (List.foldl (fun (a : Ideal .f32 × Ideal .f32) (_ : Fin k0_t1_loop.trips) => (k0_pay46 M ((n : ℝ) : EReal) Z a.1 a.2, k0_pay47 M ((n : ℝ) : EReal) Z a.1 a.2))
    ((FloatOps.ofBits FTy.f32 0#32 : Ideal .f32), k0_pay43 M Z) (List.finRange k0_t1_loop.trips)).2 = (hi' : EReal) from congrArg Prod.snd e]
  have e48 : ∀ W : FVec Ideal S1x8732 .f32, k0_pay41 M Z = W → k0_pay48 M ((n : ℝ) : EReal) Z (hi' : EReal)
      = (∑ _x : Fin 1, ∑ x : Fin 8732, if (hi' : EReal) < W (ix2 0 x) then W (ix2 0 x) else (0 : EReal))
      + max (min (Ideal.ofBits FTy.f32 1077936128#32 * ((n : ℝ) : EReal)) (Ideal.ofBits FTy.f32 1174958080#32) -
            ∑ _x : Fin 1, ∑ x : Fin 8732, (FloatOps.sitofp FTy.f32 (BitVec.setWidth 32 (BitVec.ofBool (decide ((hi' : EReal) < W (ix2 0 x))))) : Ideal .f32))
          0 * (hi' : EReal) := by
    intro W hW
    unfold k0_pay48
    simp only [hW]
    pointwise [k0_pay42]
  rw [e48 _ rfl]
  simp only [Fin.sum_univ_one, bit, hw, decide_eq_true_eq]
  rw [sum_above σ, sum_over σ, want_coe, ← EReal.coe_sub, ← EReal.coe_zero, ← coe_max', ← EReal.coe_mul, ← EReal.coe_add]
  refine congrArg (fun r : ℝ => (r : EReal)) ?_
  refine top_sum hs (fun r => h0 _) I (min_le_right _ _) (δ := w (σ 0) * (2 : ℝ)⁻¹ ^ 35) ?_ gap
  refine hd.trans ?_
  rw [mul_comm]
  exact mul_le_mul hms sec_pow (pow_nonneg sec_nonneg _) (h0 _)

end Step

end Cert.KernelIdeal.Value

end
-- ==== Proof.Blocks.lean ====
/-
The grid step's blocks, read off the program's arguments, and the four sums the run ends with.
-/
module

public import proofs.«01_k».proof.Proof.Acc
public import proofs.«01_k».proof.Proof.KTop
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (m : (ℓ : Loc nD τ sig) → Buf (Elt Ideal) ℓ) (c : Dev nD)

/-- The arguments, as arrays of numbers. -/
abbrev a0 : Vec Ideal S32x8732x4 .f32 := m ((c : Thread nD τ).loc main_arg0)
abbrev a1 : Vec Ideal S32x8732x81 .f32 := m ((c : Thread nD τ).loc main_arg1)
abbrev a2 : Vec Ideal S32x16x4 .f32 := m ((c : Thread nD τ).loc main_arg2)
abbrev a3 : Vec Ideal S32x16 .i32 := m ((c : Thread nD τ).loc main_arg3)
abbrev a4 : Vec Ideal S8732x4 .f32 := m ((c : Thread nD τ).loc main_arg4)

/-- Image `j` of grid step `t`. -/
def img (t : Fin cfg0.N) (j : Fin 2) : Fin 32 := ⟨2 * t.val + j.val, by have := t.isLt; have : cfg0.N = 16 := N_0; omega⟩

theorem V_v0 : V m c main_v0 = transpose S32x4x8732 [0, 2, 1] (a0 m c) transposes_S32x8732x4_S32x4x8732_0_2_1 := by
  dsimp only [V, V0, hostOps0, List.flatten, List.append]
  after_results

theorem V_v1 : V m c main_v1 = transpose S32x81x8732 [0, 2, 1] (a1 m c) transposes_S32x8732x81_S32x81x8732_0_2_1 := by
  dsimp only [V, V0, hostOps0, List.flatten, List.append]
  after_results

theorem V_v2 : V m c main_v2 = broadcastInDim S32x16x1 ![0, 1] bcast_S32x16_S32x16x1_0_1 (a3 m c) := by
  dsimp only [V, V0, hostOps0, List.flatten, List.append]
  after_results

theorem V_v3 : V m c main_v3 = transpose S4x8732 [1, 0] (a4 m c) transposes_S8732x4_S4x8732_1_0 := by
  dsimp only [V, V0, hostOps0, List.flatten, List.append]
  after_results

theorem V_a2 : V m c main_arg2 = a2 m c := V_main_arg2 m c

theorem idx0 (t : Fin cfg0.N) (a : Fin 3) : win0_0.index t a = ![t.val, 0, 0] a := by revert t a; decide +kernel
theorem idx1 (t : Fin cfg0.N) (a : Fin 3) : win0_1.index t a = ![t.val, 0, 0] a := by revert t a; decide +kernel
theorem idx2 (t : Fin cfg0.N) (a : Fin 3) : win0_2.index t a = ![t.val, 0, 0] a := by revert t a; decide +kernel
theorem idx3 (t : Fin cfg0.N) (a : Fin 3) : win0_3.index t a = ![t.val, 0, 0] a := by revert t a; decide +kernel
theorem idx4 (t : Fin cfg0.N) (a : Fin 2) : win0_4.index t a = 0 := by revert t a; decide +kernel

theorem blk0 (t : Fin cfg0.N) (j : Fin 2) (k : Fin 4) (d : Fin 8732) :
    (iblk m c 0 t : Vec Ideal S2x4x8732 .f32) (ix3 j k d) = a0 m c (ix3 (img t j) d k) := by
  have e : (iblk m c 0 t : Vec Ideal S2x4x8732 .f32) (ix3 j k d) = V m c main_v0 (ix3 (img t j) k d) := by
    unfold iblk
    rw [View.read_apply]
    show V m c main_v0 _ = V m c main_v0 _
    congr 1
    funext a
    apply Fin.ext
    match a with
    | ⟨0, _⟩ => show win0_0.index t 0 * 2 + 1 * j.val = 2 * t.val + j.val; rw [idx0]; show t.val * 2 + 1 * j.val = _; omega
    | ⟨1, _⟩ => show win0_0.index t 1 * 4 + 1 * k.val = k.val; rw [idx0]; show 0 * 4 + 1 * k.val = _; omega
    | ⟨2, _⟩ => show win0_0.index t 2 * 8732 + 1 * d.val = d.val; rw [idx0]; show 0 * 8732 + 1 * d.val = _; omega
  rw [e, V_v0]
  pointwise

theorem blk1 (t : Fin cfg0.N) (j : Fin 2) (k : Fin 81) (d : Fin 8732) :
    (iblk m c 1 t : Vec Ideal S2x81x8732 .f32) (ix3 j k d) = a1 m c (ix3 (img t j) d k) := by
  have e : (iblk m c 1 t : Vec Ideal S2x81x8732 .f32) (ix3 j k d) = V m c main_v1 (ix3 (img t j) k d) := by
    unfold iblk
    rw [View.read_apply]
    show V m c main_v1 _ = V m c main_v1 _
    congr 1
    funext a
    apply Fin.ext
    match a with
    | ⟨0, _⟩ => show win0_1.index t 0 * 2 + 1 * j.val = 2 * t.val + j.val; rw [idx1]; show t.val * 2 + 1 * j.val = _; omega
    | ⟨1, _⟩ => show win0_1.index t 1 * 81 + 1 * k.val = k.val; rw [idx1]; show 0 * 81 + 1 * k.val = _; omega
    | ⟨2, _⟩ => show win0_1.index t 2 * 8732 + 1 * d.val = d.val; rw [idx1]; show 0 * 8732 + 1 * d.val = _; omega
  rw [e, V_v1]
  pointwise

theorem blk2 (t : Fin cfg0.N) (j : Fin 2) (g : Fin 16) (k : Fin 4) :
    (iblk m c 2 t : Vec Ideal S2x16x4 .f32) (ix3 j g k) = a2 m c (ix3 (img t j) g k) := by
  rw [← V_a2]
  unfold iblk
  rw [View.read_apply]
  show V m c main_arg2 _ = V m c main_arg2 _
  congr 1
  funext a
  apply Fin.ext
  match a with
  | ⟨0, _⟩ => show win0_2.index t 0 * 2 + 1 * j.val = 2 * t.val + j.val; rw [idx2]; show t.val * 2 + 1 * j.val = _; omega
  | ⟨1, _⟩ => show win0_2.index t 1 * 16 + 1 * g.val = g.val; rw [idx2]; show 0 * 16 + 1 * g.val = _; omega
  | ⟨2, _⟩ => show win0_2.index t 2 * 4 + 1 * k.val = k.val; rw [idx2]; show 0 * 4 + 1 * k.val = _; omega

theorem blk3 (t : Fin cfg0.N) (j : Fin 2) (g : Fin 16) (k : Fin 1) :
    (iblk m c 3 t : Vec Ideal S2x16x1 .i32) (ix3 j g k) = a3 m c (ix2 (img t j) g) := by
  have e : (iblk m c 3 t : Vec Ideal S2x16x1 .i32) (ix3 j g k) = V m c main_v2 (ix3 (img t j) g k) := by
    unfold iblk
    rw [View.read_apply]
    show V m c main_v2 _ = V m c main_v2 _
    congr 1
    funext a
    apply Fin.ext
    match a with
    | ⟨0, _⟩ => show win0_3.index t 0 * 2 + 1 * j.val = 2 * t.val + j.val; rw [idx3]; show t.val * 2 + 1 * j.val = _; omega
    | ⟨1, _⟩ => show win0_3.index t 1 * 16 + 1 * g.val = g.val; rw [idx3]; show 0 * 16 + 1 * g.val = _; omega
    | ⟨2, _⟩ => show win0_3.index t 2 * 1 + 1 * k.val = k.val; rw [idx3]; show 0 * 1 + 1 * k.val = _; omega
  rw [e, V_v2]
  pointwise

theorem blk4 (t : Fin cfg0.N) (k : Fin 4) (d : Fin 8732) :
    (iblk m c 4 t : Vec Ideal S4x8732 .f32) (ix2 k d) = a4 m c (ix2 d k) := by
  have e : (iblk m c 4 t : Vec Ideal S4x8732 .f32) (ix2 k d) = V m c main_v3 (ix2 k d) := by
    unfold iblk
    rw [View.read_apply]
    show V m c main_v3 _ = V m c main_v3 _
    congr 1
    funext a
    apply Fin.ext
    match a with
    | ⟨0, _⟩ => show win0_4.index t 0 * 4 + 1 * k.val = k.val; rw [idx4]; omega
    | ⟨1, _⟩ => show win0_4.index t 1 * 8732 + 1 * d.val = d.val; rw [idx4]; omega
  rw [e, V_v3]
  pointwise

/-- The default boxes. -/
abbrev Db : Fin 4 → Fin 8732 → EReal := fun k d => a4 m c (ix2 d k)
/-- Image `i`'s objects. -/
abbrev Bx (i : Fin 32) : Fin 16 → Fin 4 → EReal := fun g k => a2 m c (ix3 i g k)
/-- Their classes. -/
abbrev Lg (i : Fin 32) : Fin 16 → BitVec 32 := fun g => a3 m c (ix2 i g)
/-- The predicted offsets of image `i`. -/
abbrev Pb (i : Fin 32) : Fin 4 → Fin 8732 → EReal := fun k d => a0 m c (ix3 i d k)
/-- Its scores. -/
abbrev Xs (i : Fin 32) : Fin 81 → Fin 8732 → EReal := fun k d => a1 m c (ix3 i d k)

theorem ld0 (t : Fin cfg0.N) (j : Fin 2) (inb) : pbs (View.ld (iblk m c 0 t : Vec Ideal S2x4x8732 .f32) (Rect.unit ![j.val, 0, 0] ![1, 4, 8732] inb)) = Pb m c (img t j) := by
  funext k d
  refine (View.ld_unit_apply_of _ _ _ _ _ (ix3 j k d) ?_).trans (blk0 m c t j k d)
  intro a
  match a with
  | ⟨0, _⟩ => show j.val = j.val + 0; omega
  | ⟨1, _⟩ => show k.val = 0 + k.val; omega
  | ⟨2, _⟩ => show d.val = 0 + d.val; omega

theorem ld1 (t : Fin cfg0.N) (j : Fin 2) (inb) : xs (View.ld (iblk m c 1 t : Vec Ideal S2x81x8732 .f32) (Rect.unit ![j.val, 0, 0] ![1, 81, 8732] inb)) = Xs m c (img t j) := by
  funext k d
  refine (View.ld_unit_apply_of _ _ _ _ _ (ix3 j k d) ?_).trans (blk1 m c t j k d)
  intro a
  match a with
  | ⟨0, _⟩ => show j.val = j.val + 0; omega
  | ⟨1, _⟩ => show k.val = 0 + k.val; omega
  | ⟨2, _⟩ => show d.val = 0 + d.val; omega

theorem ld2 (t : Fin cfg0.N) (j : Fin 2) (inb) : bxs (View.ld (iblk m c 2 t : Vec Ideal S2x16x4 .f32) (Rect.unit ![j.val, 0, 0] ![1, 16, 4] inb)) = Bx m c (img t j) := by
  funext k d
  refine (View.ld_unit_apply_of _ _ _ _ _ (ix3 j k d) ?_).trans (blk2 m c t j k d)
  intro a
  match a with
  | ⟨0, _⟩ => show j.val = j.val + 0; omega
  | ⟨1, _⟩ => show k.val = 0 + k.val; omega
  | ⟨2, _⟩ => show d.val = 0 + d.val; omega

theorem ld3 (t : Fin cfg0.N) (j : Fin 2) (inb) : lgs (View.ld (iblk m c 3 t : Vec Ideal S2x16x1 .i32) (Rect.unit ![j.val, 0, 0] ![1, 16, 1] inb)) = Lg m c (img t j) := by
  funext k
  refine (View.ld_unit_apply_of _ _ _ _ _ (ix3 j k 0) ?_).trans (blk3 m c t j k 0)
  intro a
  match a with
  | ⟨0, _⟩ => show j.val = j.val + 0; omega
  | ⟨1, _⟩ => show k.val = 0 + k.val; omega
  | ⟨2, _⟩ => show 0 = 0 + 0; omega

theorem ld4 (t : Fin cfg0.N) : dbs (iblk m c 4 t : Vec Ideal S4x8732 .f32) = Db m c := by
  funext k d
  exact blk4 m c t k d

end Cert.KernelIdeal.Value

end
-- ==== Proof.RefIou.lean ====
/-
The reference's overlaps.
-/
module

public import proofs.«01_k».proof.Proof.RefTerms
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec Idealize.ShloMosaic.StableHlo

/-- Division by two is multiplication by one half. -/
theorem div_two (x : EReal) : Ideal.div x (Ideal.ofBits .f32 1073741824#32) = x * half := by
  have e : Ideal.ofBits .f32 1073741824#32 = ((2 : ℝ) : EReal) := by
    simp [Ideal.ofBits, Ideal.ieee, -EReal.coe_mul]; norm_num
  rw [e, Ideal.div_coe (by norm_num), half_eq]

variable (V0 : Valuation τ sig (Elt Ideal))

/-- The arguments, as arrays of numbers. -/
abbrev A0 : Vec Ideal S32x8732x4 .f32 := V0 (Proc.devRef .tc main_arg0)
abbrev A1 : Vec Ideal S32x8732x81 .f32 := V0 (Proc.devRef .tc main_arg1)
abbrev A2 : Vec Ideal S32x16x4 .f32 := V0 (Proc.devRef .tc main_arg2)
abbrev A3 : Vec Ideal S32x16 .i32 := V0 (Proc.devRef .tc main_arg3)
abbrev A4 : Vec Ideal S8732x4 .f32 := V0 (Proc.devRef .tc main_arg4)

/-- The default boxes. -/
abbrev Db : Fin 4 → Fin 8732 → EReal := fun k d => A4 V0 (ix2 d k)
/-- Image `i`'s objects. -/
abbrev Bx (i : Fin 32) : Fin 16 → Fin 4 → EReal := fun g k => A2 V0 (ix3 i g k)
/-- Their classes. -/
abbrev Lg (i : Fin 32) : Fin 16 → BitVec 32 := fun g => A3 V0 (ix2 i g)
/-- The predicted offsets of image `i`. -/
abbrev Pb (i : Fin 32) : Fin 4 → Fin 8732 → EReal := fun k d => A0 V0 (ix3 i d k)
/-- Its scores. -/
abbrev Xs (i : Fin 32) : Fin 81 → Fin 8732 → EReal := fun k d => A1 V0 (ix3 i d k)

theorem v22_0 (d : Fin 8732) : res_main_v22 V0 (ix2 d 0) = Db V0 0 d - Db V0 2 d * half := by
  unfold res_main_v22
  show _ = A4 V0 _ - A4 V0 _ * half
  rw [← div_two]
  pointwise
theorem v22_1 (d : Fin 8732) : res_main_v22 V0 (ix2 d 1) = Db V0 1 d - Db V0 3 d * half := by
  unfold res_main_v22
  show _ = A4 V0 _ - A4 V0 _ * half
  rw [← div_two]
  pointwise
theorem v22_2 (d : Fin 8732) : res_main_v22 V0 (ix2 d 2) = Db V0 2 d := by
  unfold res_main_v22
  pointwise
theorem v22_3 (d : Fin 8732) : res_main_v22 V0 (ix2 d 3) = Db V0 3 d := by
  unfold res_main_v22
  pointwise

theorem zero_bits : Ideal.ofBits .f32 0#32 = 0 := by simp [Ideal.ofBits, Ideal.ieee]

theorem v40_0 (i : Fin 32) (g : Fin 16) (d : Fin 8732) : res_main_v40 V0 (ix4 i g d 0)
      = max (min (Bx V0 i g 2) (Db V0 2 d) - max (Bx V0 i g 0) (Db V0 0 d - Db V0 2 d * half)) 0 := by
  rw [← v22_0, ← v22_2 V0 d]
  have key : ∀ W : Vec Ideal S8732x4 .f32, res_main_v22 V0 = W → res_main_v40 V0 (ix4 i g d 0) = max (0 : EReal) (min (A2 V0 (ix3 i g 2)) (W (ix2 d 2)) - max (A2 V0 (ix3 i g 0)) (W (ix2 d 0))) := by
    intro W h
    unfold res_main_v40
    simp only [h]
    pointwise
    show max (Ideal.ofBits .f32 0#32) _ = _
    rw [zero_bits]
  rw [key _ rfl, max_comm]
theorem v40_1 (i : Fin 32) (g : Fin 16) (d : Fin 8732) : res_main_v40 V0 (ix4 i g d 1)
      = max (min (Bx V0 i g 3) (Db V0 3 d) - max (Bx V0 i g 1) (Db V0 1 d - Db V0 3 d * half)) 0 := by
  rw [← v22_1, ← v22_3 V0 d]
  have key : ∀ W : Vec Ideal S8732x4 .f32, res_main_v22 V0 = W → res_main_v40 V0 (ix4 i g d 1) = max (0 : EReal) (min (A2 V0 (ix3 i g 3)) (W (ix2 d 3)) - max (A2 V0 (ix3 i g 1)) (W (ix2 d 1))) := by
    intro W h
    unfold res_main_v40
    simp only [h]
    pointwise
    show max (Ideal.ofBits .f32 0#32) _ = _
    rw [zero_bits]
  rw [key _ rfl, max_comm]

theorem v45_eq (i : Fin 32) (g : Fin 16) (d : Fin 8732) : res_main_v45 V0 (ix3 i g d) = inter (Db V0) (Bx V0 i) g d := by
  have key : ∀ W : Vec Ideal S32x16x8732x2 .f32, res_main_v40 V0 = W → res_main_v45 V0 (ix3 i g d) = (W (ix4 i g d 0) * W (ix4 i g d 1) : EReal) := by
    intro W h
    unfold res_main_v45
    simp only [h]
    pointwise
  rw [key _ rfl, v40_0, v40_1]
  rfl

theorem v75_eq (i : Fin 32) (g : Fin 16) (d : Fin 8732) : res_main_v75 V0 (ix3 i g d) = iou (Db V0) (Bx V0 i) g d := by
  have key : ∀ (W : Vec Ideal S32x16x8732 .f32) (W' : Vec Ideal S8732x4 .f32), res_main_v45 V0 = W → res_main_v22 V0 = W' → res_main_v75 V0 (ix3 i g d) = Ideal.div (W (ix3 i g d))
      ((A2 V0 (ix3 i g 2) - A2 V0 (ix3 i g 0)) * (A2 V0 (ix3 i g 3) - A2 V0 (ix3 i g 1)) +
          (W' (ix2 d 2) - W' (ix2 d 0)) * (W' (ix2 d 3) - W' (ix2 d 1)) - W (ix3 i g d)) := by
    intro W W' h h'
    unfold res_main_v75
    simp only [h, h']
    pointwise
  rw [key _ _ rfl rfl, v45_eq, v22_0, v22_1, v22_2, v22_3]
  rfl

end Cert.ReferenceIdeal.Value

end
-- ==== Proof.Arg.lean ====
/-
The reference's index of the largest value along an axis, its scatters and its gathers.
-/
module

public import proofs.«01_k».proof.Proof.RefTerms
public import proofs.«01_k».proof.Proof.Match
public import Idealize.ShloMosaic.Lib.Pointwise
public import Idealize.ShloMosaic.Lib.Routing.OpsPair

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec Idealize.ShloMosaic.StableHlo

/-- One step of the search for the largest value. -/
theorem arg_step (a b : EReal) (p q : BitVec 32) : (reducer_argmax_f32_i32 (F := Ideal) (a, p) (b, q))
    = (if b < a then a else b, if b < a ∨ (a = b ∧ p.toInt < q.toInt) then p else q) := by
  unfold reducer_argmax_f32_i32
  simp only [Ideal.cmpf_def, Ideal.cmp, IntOp.cmpi, IntOp.ori, IntOp.andi, Scalar.select, BitVec.slt_eq_decide]
  rcases lt_trichotomy a b with h | h | h
  · have h1 : ¬ b < a := not_lt.2 h.le
    have h2 : ¬ a = b := h.ne
    simp [h1, h2, h]
  · subst h
    by_cases h' : p.toInt < q.toInt <;> simp [h']
  · have h2 : ¬ a = b := h.ne'
    simp [h2, h]

/-- What the search holds after a list. -/
theorem arg_fold {ι : Type} (val : ι → EReal) (key : ι → ℕ) (hk : ∀ n, key n < 2 ^ 31) (L : List ι) :
    ∃ (M : EReal) (k : ℕ), k < 2 ^ 31
      ∧ (L.map fun n => (val n, BitVec.ofNat 32 (key n))).foldl (reducer_argmax_f32_i32 (F := Ideal)) (⊥, 0#32) = (M, BitVec.ofNat 32 k)
      ∧ (∀ n ∈ L, val n ≤ M) ∧ (∀ n ∈ L, val n = M → k ≤ key n) ∧ ((∃ n ∈ L, val n = M ∧ key n = k) ∨ (M = ⊥ ∧ k = 0)) := by
  induction L using List.reverseRecOn with
  | nil => exact ⟨⊥, 0, by norm_num, rfl, by simp, by simp, .inr ⟨rfl, rfl⟩⟩
  | append_singleton L n ih =>
    obtain ⟨M, k, hk', e, h1, h2, h3⟩ := ih
    have t : ∀ x : ℕ, x < 2 ^ 31 → (BitVec.ofNat 32 x).toInt = x := fun x hx => toInt_ofNat hx
    rw [List.map_append, List.foldl_append, e, List.map_singleton, List.foldl_cons, List.foldl_nil, arg_step, t _ hk', t _ (hk n)]
    by_cases hlt : val n < M
    · rw [if_pos hlt, if_pos (.inl hlt)]
      refine ⟨M, k, hk', rfl, ?_, ?_, ?_⟩
      · intro m hm
        rcases List.mem_append.1 hm with hm | hm
        · exact h1 m hm
        · rw [List.mem_singleton.1 hm]; exact hlt.le
      · intro m hm he
        rcases List.mem_append.1 hm with hm | hm
        · exact h2 m hm he
        · rw [List.mem_singleton.1 hm] at he; exact absurd he hlt.ne
      · rcases h3 with ⟨m, hm, hh⟩ | h
        · exact .inl ⟨m, List.mem_append_left _ hm, hh⟩
        · exact .inr h
    rw [if_neg hlt]
    rcases eq_or_lt_of_le (not_lt.1 hlt) with he | hgt
    · by_cases hkk : k < key n
      · rw [if_pos (.inr ⟨he, by exact_mod_cast hkk⟩)]
        refine ⟨val n, k, hk', rfl, ?_, ?_, ?_⟩
        · intro m hm
          rcases List.mem_append.1 hm with hm | hm
          · exact he ▸ h1 m hm
          · rw [List.mem_singleton.1 hm]
        · intro m hm hv
          rcases List.mem_append.1 hm with hm | hm
          · exact h2 m hm (hv.trans he.symm)
          · rw [List.mem_singleton.1 hm]; exact hkk.le
        · rcases h3 with ⟨m, hm, hh, hh'⟩ | ⟨h, h'⟩
          · exact .inl ⟨m, List.mem_append_left _ hm, hh.trans he, hh'⟩
          · exact .inr ⟨he ▸ h, h'⟩
      · rw [if_neg (by rintro (h | ⟨-, h⟩); exacts [hlt h, hkk (by exact_mod_cast h)])]
        refine ⟨val n, key n, hk n, rfl, ?_, ?_, .inl ⟨n, by simp, rfl, rfl⟩⟩
        · intro m hm
          rcases List.mem_append.1 hm with hm | hm
          · exact he ▸ h1 m hm
          · rw [List.mem_singleton.1 hm]
        · intro m hm hv
          rcases List.mem_append.1 hm with hm | hm
          · exact (not_lt.1 hkk).trans (h2 m hm (hv.trans he.symm))
          · rw [List.mem_singleton.1 hm]
    · rw [if_neg (by rintro (h | ⟨h, -⟩); exacts [hlt h, hgt.ne h])]
      refine ⟨val n, key n, hk n, rfl, ?_, ?_, .inl ⟨n, by simp, rfl, rfl⟩⟩
      · intro m hm
        rcases List.mem_append.1 hm with hm | hm
        · exact (h1 m hm).trans hgt.le
        · rw [List.mem_singleton.1 hm]
      · intro m hm hv
        rcases List.mem_append.1 hm with hm | hm
        · exact absurd (h1 m hm) (by rw [hv]; exact not_le.2 hgt)
        · rw [List.mem_singleton.1 hm]

/-- Over a fiber whose elements are a vector's, that is the vector's first largest index. -/
theorem arg_first {ι : Type} {D : ℕ} [NeZero D] (hD : D < 2 ^ 31) (v : Fin D → EReal) (ix : ι → Fin D) (L : List ι)
    (hL : ∀ d, ∃ n ∈ L, ix n = d) :
    ((L.map fun n => (v (ix n), BitVec.ofNat 32 (ix n).val)).foldl (reducer_argmax_f32_i32 (F := Ideal)) (⊥, 0#32)).2
      = BitVec.ofNat 32 (first v).val := by
  obtain ⟨M, k, hk, e, h1, h2, h3⟩ := arg_fold (fun n => v (ix n)) (fun n => (ix n).val) (fun n => lt_trans (ix n).isLt hD) L
  rw [e]
  have hkD : k < D := by
    rcases h3 with ⟨n, -, -, h⟩ | ⟨-, h⟩
    · rw [← h]; exact (ix n).isLt
    · rw [h]; exact Nat.pos_of_ne_zero (NeZero.ne D)
  have hv : v ⟨k, hkD⟩ = M := by
    rcases h3 with ⟨n, -, h, h'⟩ | ⟨h, h'⟩
    · rw [← h]; exact congrArg v (Fin.ext h'.symm)
    · obtain ⟨n, hn, hd⟩ := hL ⟨k, hkD⟩
      have := h1 n hn
      rw [hd, h] at this
      rw [h]; exact le_bot_iff.1 this
  have : first v = ⟨k, hkD⟩ := first_unique v
    (fun j => by obtain ⟨n, hn, hd⟩ := hL j; rw [hv, ← hd]; exact h1 n hn)
    (fun j hj => by obtain ⟨n, hn, hd⟩ := hL j; rw [hv, ← hd] at hj; have := h2 n hn hj; rw [hd] at this; exact this)
  rw [this]

theorem drop_last (i : Fin 32) (g : Fin 16) (d : Fin 8732) : reducesTo_S32x16x8732_S32x16_d2.drop (ix3 i g d) = ix2 i g := by
  funext a
  match a with
  | ⟨0, _⟩ => rfl
  | ⟨1, _⟩ => rfl

theorem drop_mid (i : Fin 32) (g : Fin 16) (d : Fin 8732) : reducesTo_S32x16x8732_S32x8732_d1.drop (ix3 i g d) = ix2 i d := by
  funext a
  match a with
  | ⟨0, _⟩ => rfl
  | ⟨1, _⟩ => rfl

theorem ninf_first {u : Shape} (hu : 0 < u.numel) : (constant (F := Ideal) u .f32 0xFF800000#32) (Shape.Idx.first hu) = (⊥ : EReal) := ninf

/-- An object's best default box. -/
theorem argmax_last (x : FVec Ideal S32x16x8732 .f32) (i : Fin 32) (g : Fin 16) :
    (Host.argReduce reducer_argmax_f32_i32 x (iotaInDim S32x16x8732 32 2) (constant S_ .f32 0xFF800000#32) (constantI S_ 32 0#32)
      reducesTo_S32x16x8732_S32x16_d2 h_S_ (ix2 i g)).2 = BitVec.ofNat 32 (first fun d => x (ix3 i g d)).val := by
  rw [Ideal.argReduce_eq_reduce2, Host.reduce2_eq_foldl_fiber, ninf_first]
  unfold Host.argReduceFiber
  rw [← arg_first (by norm_num) (fun d : Fin 8732 => x (ix3 i g d)) (fun n => (S32x16x8732.rowMajor.symm n) 2)
    ((List.finRange S32x16x8732.numel).filter fun n => reducesTo_S32x16x8732_S32x16_d2.drop (S32x16x8732.rowMajor.symm n) = ix2 i g)]
  · refine congrArg Prod.snd (congrArg (List.foldl _ _) (List.map_congr_left fun n hn => ?_))
    have h := (List.mem_filter.1 hn).2
    rw [decide_eq_true_eq] at h
    obtain ⟨a, b, d, e⟩ : ∃ a b d, S32x16x8732.rowMajor.symm n = ix3 a b d := ⟨_, _, _, ValueIdx.eq_ix3 _⟩
    rw [e, drop_last] at h
    have h0 : a = i := congrFun h 0
    have h1 : b = g := congrFun h 1
    rw [e, h0, h1]
    rfl
  · intro d
    refine ⟨S32x16x8732.rowMajor (ix3 i g d), List.mem_filter.2 ⟨List.mem_finRange _, ?_⟩, ?_⟩
    · rw [Equiv.symm_apply_apply, drop_last, decide_eq_true_eq]
    · rw [Equiv.symm_apply_apply]
      rfl

/-- A default box's best object. -/
theorem argmax_mid (x : FVec Ideal S32x16x8732 .f32) (i : Fin 32) (d : Fin 8732) :
    (Host.argReduce reducer_argmax_f32_i32 x (iotaInDim S32x16x8732 32 1) (constant S_ .f32 0xFF800000#32) (constantI S_ 32 0#32)
      reducesTo_S32x16x8732_S32x8732_d1 h_S_ (ix2 i d)).2 = BitVec.ofNat 32 (first fun g => x (ix3 i g d)).val := by
  rw [Ideal.argReduce_eq_reduce2, Host.reduce2_eq_foldl_fiber, ninf_first]
  unfold Host.argReduceFiber
  rw [← arg_first (by norm_num) (fun g : Fin 16 => x (ix3 i g d)) (fun n => (S32x16x8732.rowMajor.symm n) 1)
    ((List.finRange S32x16x8732.numel).filter fun n => reducesTo_S32x16x8732_S32x8732_d1.drop (S32x16x8732.rowMajor.symm n) = ix2 i d)]
  · refine congrArg Prod.snd (congrArg (List.foldl _ _) (List.map_congr_left fun n hn => ?_))
    have h := (List.mem_filter.1 hn).2
    rw [decide_eq_true_eq] at h
    obtain ⟨a, b, d', e⟩ : ∃ a b d, S32x16x8732.rowMajor.symm n = ix3 a b d := ⟨_, _, _, ValueIdx.eq_ix3 _⟩
    rw [e, drop_mid] at h
    have h0 : a = i := congrFun h 0
    have h1 : d' = d := congrFun h 1
    rw [e, h0, h1]
    rfl
  · intro g
    refine ⟨S32x16x8732.rowMajor (ix3 i g d), List.mem_filter.2 ⟨List.mem_finRange _, ?_⟩, ?_⟩
    · rw [Equiv.symm_apply_apply, drop_mid, decide_eq_true_eq]
    · rw [Equiv.symm_apply_apply]
      rfl

/-- A label picked out by two index words. -/
theorem gather_label (x : IVec S32x16 32) (idx : IVec S32x8732x2 32) (i : Fin 32) (d : Fin 8732) (p : Fin 32) (q : Fin 16)
    (h0 : (idx (ix3 i d 0)).toInt = p.val) (h1 : (idx (ix3 i d 1)).toInt = q.val) :
    Host.gather gather_S32x16_S32x8732x2_S32x8732_n_01_n_n_01_2_11 x idx (ix2 i d) = x (ix2 p q) := by
  unfold Host.gather
  congr 1
  funext a
  refine Fin.ext ?_
  show (gather_S32x16_S32x8732x2_S32x8732_n_01_n_n_01_2_11).start (ix2 i d) idx a + (gather_S32x16_S32x8732x2_S32x8732_n_01_n_n_01_2_11).batchCoord (ix2 i d) a
    + (gather_S32x16_S32x8732x2_S32x8732_n_01_n_n_01_2_11).offCoord (ix2 i d) a = _
  have ha : a ∈ (gather_S32x16_S32x8732x2_S32x8732_n_01_n_n_01_2_11).startIndexMap := by
    show a ∈ [(0 : Fin 2), 1]
    revert a; decide
  rw [GatherDims.batchCoord_eq_zero _ _ _ List.not_mem_nil,
    GatherDims.offCoord_eq_zero _ _ _ (fun h => ((GatherDims.mem_sKept _ _).mp h).1 ha)]
  unfold GatherDims.start
  rw [dif_pos ha]
  match a with
  | ⟨0, _⟩ =>
    have hsi : (gather_S32x16_S32x8732x2_S32x8732_n_01_n_n_01_2_11).siIdx (ix2 i d) ⟨0, by decide⟩ = ix3 i d 0 := by
      funext b; match b with
      | ⟨0, _⟩ => rfl
      | ⟨1, _⟩ => rfl
      | ⟨2, _⟩ => rfl
    show min (idx ((gather_S32x16_S32x8732x2_S32x8732_n_01_n_n_01_2_11).siIdx (ix2 i d) ⟨0, _⟩)).toInt.toNat 31 + 0 + 0 = p.val
    rw [hsi, h0]
    have := p.isLt
    omega
  | ⟨1, _⟩ =>
    have hsi : (gather_S32x16_S32x8732x2_S32x8732_n_01_n_n_01_2_11).siIdx (ix2 i d) ⟨1, by decide⟩ = ix3 i d 1 := by
      funext b; match b with
      | ⟨0, _⟩ => rfl
      | ⟨1, _⟩ => rfl
      | ⟨2, _⟩ => rfl
    show min (idx ((gather_S32x16_S32x8732x2_S32x8732_n_01_n_n_01_2_11).siIdx (ix2 i d) ⟨1, _⟩)).toInt.toNat 15 + 0 + 0 = q.val
    rw [hsi, h1]
    have := q.isLt
    omega

/-- A box picked out by two index words. -/
theorem gather_box (x : FVec Ideal S32x16x4 .f32) (idx : IVec S32x8732x2 32) (i : Fin 32) (d : Fin 8732) (k : Fin 4) (p : Fin 32) (q : Fin 16)
    (h0 : (idx (ix3 i d 0)).toInt = p.val) (h1 : (idx (ix3 i d 1)).toInt = q.val) :
    Host.gather gather_S32x16x4_S32x8732x2_S32x8732x4_2_01_n_n_01_2_114 x idx (ix3 i d k) = x (ix3 p q k) := by
  unfold Host.gather
  congr 1
  funext a
  refine Fin.ext ?_
  show (gather_S32x16x4_S32x8732x2_S32x8732x4_2_01_n_n_01_2_114).start (ix3 i d k) idx a
    + (gather_S32x16x4_S32x8732x2_S32x8732x4_2_01_n_n_01_2_114).batchCoord (ix3 i d k) a
    + (gather_S32x16x4_S32x8732x2_S32x8732x4_2_01_n_n_01_2_114).offCoord (ix3 i d k) a = _
  rw [GatherDims.batchCoord_eq_zero _ _ _ List.not_mem_nil]
  match a with
  | ⟨0, h⟩ =>
    have ha : (⟨0, h⟩ : Fin 3) ∈ (gather_S32x16x4_S32x8732x2_S32x8732x4_2_01_n_n_01_2_114).startIndexMap := by
      show (⟨0, h⟩ : Fin 3) ∈ [(0 : Fin 3), 1]; decide +revert
    rw [GatherDims.offCoord_eq_zero _ _ _ (fun h => ((GatherDims.mem_sKept _ _).mp h).1 ha)]
    unfold GatherDims.start
    rw [dif_pos ha]
    have hsi : (gather_S32x16x4_S32x8732x2_S32x8732x4_2_01_n_n_01_2_114).siIdx (ix3 i d k) ⟨0, by decide⟩ = ix3 i d 0 := by
      funext b; match b with
      | ⟨0, _⟩ => rfl
      | ⟨1, _⟩ => rfl
      | ⟨2, _⟩ => rfl
    show min (idx ((gather_S32x16x4_S32x8732x2_S32x8732x4_2_01_n_n_01_2_114).siIdx (ix3 i d k) ⟨0, _⟩)).toInt.toNat 31 + 0 + 0 = p.val
    rw [hsi, h0]
    have := p.isLt
    omega
  | ⟨1, h⟩ =>
    have ha : (⟨1, h⟩ : Fin 3) ∈ (gather_S32x16x4_S32x8732x2_S32x8732x4_2_01_n_n_01_2_114).startIndexMap := by
      show (⟨1, h⟩ : Fin 3) ∈ [(0 : Fin 3), 1]; decide +revert
    rw [GatherDims.offCoord_eq_zero _ _ _ (fun h => ((GatherDims.mem_sKept _ _).mp h).1 ha)]
    unfold GatherDims.start
    rw [dif_pos ha]
    have hsi : (gather_S32x16x4_S32x8732x2_S32x8732x4_2_01_n_n_01_2_114).siIdx (ix3 i d k) ⟨1, by decide⟩ = ix3 i d 1 := by
      funext b; match b with
      | ⟨0, _⟩ => rfl
      | ⟨1, _⟩ => rfl
      | ⟨2, _⟩ => rfl
    show min (idx ((gather_S32x16x4_S32x8732x2_S32x8732x4_2_01_n_n_01_2_114).siIdx (ix3 i d k) ⟨1, _⟩)).toInt.toNat 15 + 0 + 0 = q.val
    rw [hsi, h1]
    have := q.isLt
    omega
  | ⟨2, h⟩ =>
    have ha : (⟨2, h⟩ : Fin 3) ∉ (gather_S32x16x4_S32x8732x2_S32x8732x4_2_01_n_n_01_2_114).startIndexMap := by
      show (⟨2, h⟩ : Fin 3) ∉ [(0 : Fin 3), 1]; decide +revert
    unfold GatherDims.start
    rw [dif_neg ha]
    have hk : (⟨2, h⟩ : Fin 3) ∈ (gather_S32x16x4_S32x8732x2_S32x8732x4_2_01_n_n_01_2_114).sKept := by
      show (⟨2, h⟩ : Fin 3) ∈ (⟨3, ![32, 16, 4]⟩ : Shape).kept ([0, 1] ++ []); decide +revert
    unfold GatherDims.offCoord
    rw [dif_pos hk]
    show 0 + 0 + k.val = k.val
    omega

/-- A score picked out by its row and an index word. -/
theorem gather_pick (x : FVec Ideal S279424x81 .f32) (idx : IVec S279424x1x1 32) (n : Fin 279424) (q : Fin 81)
    (h1 : (idx (ix3 n 0 0)).toInt = q.val) :
    Host.gather gather_S279424x81_S279424x1x1_S279424x1_n_1_0_0_1_2_11 x idx (ix2 n 0) = x (ix2 n q) := by
  unfold Host.gather
  congr 1
  funext a
  refine Fin.ext ?_
  show (gather_S279424x81_S279424x1x1_S279424x1_n_1_0_0_1_2_11).start (ix2 n 0) idx a
    + (gather_S279424x81_S279424x1x1_S279424x1_n_1_0_0_1_2_11).batchCoord (ix2 n 0) a
    + (gather_S279424x81_S279424x1x1_S279424x1_n_1_0_0_1_2_11).offCoord (ix2 n 0) a = _
  match a with
  | ⟨0, h⟩ =>
    have ha : (⟨0, h⟩ : Fin 2) ∈ (gather_S279424x81_S279424x1x1_S279424x1_n_1_0_0_1_2_11).operandBatchingDims := by
      show (⟨0, h⟩ : Fin 2) ∈ [(0 : Fin 2)]; decide +revert
    rw [GatherDims.start_batching _ _ _ _ ha, GatherDims.offCoord_eq_zero _ _ _ (fun h => ((GatherDims.mem_sKept _ _).mp h).2 ha)]
    unfold GatherDims.batchCoord
    rw [dif_pos ha]
    show 0 + n.val + 0 = n.val
    omega
  | ⟨1, h⟩ =>
    have ha : (⟨1, h⟩ : Fin 2) ∈ (gather_S279424x81_S279424x1x1_S279424x1_n_1_0_0_1_2_11).startIndexMap := by
      show (⟨1, h⟩ : Fin 2) ∈ [(1 : Fin 2)]; decide +revert
    have hb : (⟨1, h⟩ : Fin 2) ∉ (gather_S279424x81_S279424x1x1_S279424x1_n_1_0_0_1_2_11).operandBatchingDims := by
      show (⟨1, h⟩ : Fin 2) ∉ [(0 : Fin 2)]; decide +revert
    rw [GatherDims.batchCoord_eq_zero _ _ _ hb, GatherDims.offCoord_eq_zero _ _ _ (fun h => ((GatherDims.mem_sKept _ _).mp h).1 ha)]
    unfold GatherDims.start
    rw [dif_pos ha]
    have hsi : (gather_S279424x81_S279424x1x1_S279424x1_n_1_0_0_1_2_11).siIdx (ix2 n 0) ⟨0, by decide⟩ = ix3 n 0 0 := by
      funext b; match b with
      | ⟨0, _⟩ => rfl
      | ⟨1, _⟩ => rfl
      | ⟨2, _⟩ => rfl
    show min (idx ((gather_S279424x81_S279424x1x1_S279424x1_n_1_0_0_1_2_11).siIdx (ix2 n 0) ⟨0, _⟩)).toInt.toNat 80 + 0 + 0 = q.val
    rw [hsi, h1]
    have := q.isLt
    omega

section Last

variable {α : Type} {N : ℕ}

/-- Nothing lands: the fold keeps its start. -/
theorem fold_none (P : Fin N → Prop) [DecidablePred P] (u : Fin N → α) (x : α) (L : List (Fin N)) (h : ∀ n ∈ L, ¬ P n) :
    L.foldl (fun a n => if P n then u n else a) x = x := by
  induction L with
  | nil => rfl
  | cons n L ih =>
    rw [List.foldl_cons, if_neg (h n (by simp))]
    exact ih fun m hm => h m (List.mem_cons_of_mem _ hm)

/-- The last that lands stays. -/
theorem fold_some (P : Fin N → Prop) [DecidablePred P] (u : Fin N → α) (x : α) (m : Fin N) (hm : P m) (L : List (Fin N)) (hL : L.Pairwise (· < ·)) (hmL : m ∈ L)
    (h : ∀ n ∈ L, P n → n ≤ m) : L.foldl (fun a n => if P n then u n else a) x = u m := by
  induction L using List.reverseRecOn with
  | nil => simp at hmL
  | append_singleton L n ih =>
    rw [List.foldl_append, List.foldl_cons, List.foldl_nil]
    obtain ⟨h1, -, h2⟩ := List.pairwise_append.1 hL
    by_cases hn : P n
    · rw [if_pos hn]
      have hle := h n (by simp) hn
      rcases List.mem_append.1 hmL with hm' | hm'
      · exact absurd (h2 m hm' n (by simp)) (not_lt.2 hle)
      · rw [List.mem_singleton.1 hm']
    · rw [if_neg hn]
      refine ih h1 ?_ fun k hk => h k (List.mem_append_left _ hk)
      rcases List.mem_append.1 hmL with hm' | hm'
      · exact hm'
      · rw [List.mem_singleton.1 hm'] at hm; exact absurd hm hn

end Last

open Classical in
/-- A scatter at each object's best default box: the last object to claim a box keeps it. -/
theorem scatter_owner {α : Type} (x : S32x8732.Idx → α) (idx : IVec S32x16x2 32) (upd : S32x16.Idx → α) (v : Fin 32 → Fin 16 → Fin 8732 → EReal)
    (h0 : ∀ i g, (idx (ix3 i g 0)).toInt = (i : ℕ)) (h1 : ∀ i g, (idx (ix3 i g 1)).toInt = ((first (v i g) : Fin 8732) : ℕ)) (i : Fin 32) (d : Fin 8732) :
    Host.scatter scatter_S32x8732_S32x16x2_S32x16_n_01_01_2 (fun _ b => b) x idx upd (ix2 i d)
      = if Forced (v i) d then upd (ix2 i (owner (v i) d)) else x (ix2 i d) := by
  rw [Routing.scatter_at]
  have key : ∀ (a : Fin 32) (b : Fin 16), (scatter_S32x8732_S32x16x2_S32x16_n_01_01_2).resultIdx? (ix2 a b) idx = some (ix2 i d)
      ↔ a = i ∧ first (v a b) = d := fun a b => by
    refine (Routing.scatter_lands2 (scatter_S32x8732_S32x16x2_S32x16_n_01_01_2) rfl rfl rfl idx a b i d).trans ?_
    change (idx (ix3 a b 0)).toInt = (i.val : ℤ) ∧ (idx (ix3 a b 1)).toInt = (d.val : ℤ) ↔ _
    rw [h0, h1, Nat.cast_inj, Nat.cast_inj, Fin.ext_iff, Fin.ext_iff]
  have at' : ∀ n, ∃ a b, S32x16.rowMajor.symm n = ix2 a b := fun n => ⟨_, _, ValueIdx.eq_ix2 _⟩
  by_cases hf : Forced (v i) d
  · rw [if_pos hf]
    obtain ⟨e1, e2⟩ := owner_spec (v i) hf
    have := fold_some (fun n => (scatter_S32x8732_S32x16x2_S32x16_n_01_01_2).resultIdx? (S32x16.rowMajor.symm n) idx = some (ix2 i d))
      (fun n => upd (S32x16.rowMajor.symm n)) (x (ix2 i d)) (S32x16.rowMajor (ix2 i (owner (v i) d)))
      (by rw [Equiv.symm_apply_apply, key]; exact ⟨rfl, e1⟩) (List.finRange S32x16.numel) (List.pairwise_lt_finRange _) (List.mem_finRange _)
      (by
        intro n _ hn
        obtain ⟨a, b, e⟩ := at' n
        rw [e, key] at hn
        have en : n = S32x16.rowMajor (ix2 a b) := by rw [← e, Equiv.apply_symm_apply]
        have hb := e2 b (by rw [← hn.1]; exact hn.2)
        rw [en, Fin.le_def, Shape.rowMajor_val_two, Shape.rowMajor_val_two, hn.1]
        show i.val * 16 + b.val ≤ i.val * 16 + (owner (v i) d).val
        have := Fin.le_def.1 hb
        omega)
    rw [Equiv.symm_apply_apply] at this
    exact this
  · rw [if_neg hf]
    have := fold_none (fun n => (scatter_S32x8732_S32x16x2_S32x16_n_01_01_2).resultIdx? (S32x16.rowMajor.symm n) idx = some (ix2 i d))
      (fun n => upd (S32x16.rowMajor.symm n)) (x (ix2 i d)) (List.finRange S32x16.numel) (by
        intro n _ hn
        obtain ⟨a, b, e⟩ := at' n
        rw [e, key] at hn
        exact hf ⟨b, by rw [← hn.1]; exact hn.2⟩)
    exact this

end Cert.ReferenceIdeal.Value

end
-- ==== Proof.RefMatch.lean ====
/-
The reference's matching: every default box's object, class and wanted offset.
-/
module

public import proofs.«01_k».proof.Proof.RefIou
public import proofs.«01_k».proof.Proof.Arg

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec Idealize.ShloMosaic.StableHlo

variable (V0 : Valuation τ sig (Elt Ideal))

/-- Image `i`'s overlaps. -/
abbrev Vs (i : Fin 32) : Fin 16 → Fin 8732 → EReal := iou (Db V0) (Bx V0 i)
/-- Image `i`'s classes. -/
abbrev Ls (i : Fin 32) : Fin 8732 → BitVec 32 := lab (Lg V0 i) (Vs V0 i)

/-- An index that is not negative is not wrapped. -/
theorem wrap_nat {k : ℕ} (h : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat]; omega)

theorem v77_eq (i : Fin 32) : res_main_v77 V0 (ix2 i 0) = BitVec.ofNat 32 i.val := by
  unfold res_main_v77
  pointwise

theorem word_first {n : ℕ} [NeZero n] {v w : Fin n → EReal} (h : v = w) : BitVec.ofNat 32 (first v).val = BitVec.ofNat 32 (first w).val := by rw [h]

/-- Every object's best default box, as one array. -/
theorem argmax_last' (x : FVec Ideal S32x16x8732 .f32) :
    (fun j => (Host.argReduce reducer_argmax_f32_i32 x (iotaInDim S32x16x8732 32 2) (constant S_ .f32 0xFF800000#32) (constantI S_ 32 0#32)
      reducesTo_S32x16x8732_S32x16_d2 h_S_ j).2) = fun j : S32x16.Idx => BitVec.ofNat 32 (first fun d => x (ix3 (j 0) (j 1) d)).val := by
  funext j
  obtain ⟨i, g, rfl⟩ : ∃ i g, j = ix2 i g := ⟨_, _, ValueIdx.eq_ix2 j⟩
  exact argmax_last x i g

theorem v80_fun : res_main_v80 V0 = fun j : S32x16.Idx => BitVec.ofNat 32 (first fun d => res_main_v75 V0 (ix3 (j 0) (j 1) d)).val :=
  argmax_last' (res_main_v75 V0)

theorem v80_eq (i : Fin 32) (g : Fin 16) : res_main_v80 V0 (ix2 i g) = BitVec.ofNat 32 (first (Vs V0 i g)).val :=
  (congrFun (v80_fun V0) (ix2 i g)).trans (word_first (funext fun d => v75_eq V0 i g d))

/-- The index words of the scatters. -/
abbrev at80 (W77 : IVec S32x1 32) (W80 : IVec S32x16 32) : IVec S32x16x2 32 :=
  concatenate S32x16x2 2 [⟨S32x16x1, (broadcastInDim S32x16x1 ![0, 1] bcast_S32x16_S32x16x1_0_1 (broadcastInDim S32x16 ![0, 1] bcast_S32x1_S32x16_0_1 (select (cmpi .slt W77 (broadcastInDim S32x1 ![] bcast_S_S32x1 (constantI S_ 32 0#32))) (addi W77 (broadcastInDim S32x1 ![] bcast_S_S32x1 (constantI S_ 32 32#32))) W77)))⟩, ⟨S32x16x1, (broadcastInDim S32x16x1 ![0, 1] bcast_S32x16_S32x16x1_0_1 (select (cmpi .slt W80 (broadcastInDim S32x16 ![] bcast_S_S32x16 (constantI S_ 32 0#32))) (addi W80 (broadcastInDim S32x16 ![] bcast_S_S32x16 (constantI S_ 32 8732#32))) W80))⟩] concatenates_S32x16x1_S32x16x1_S32x16x2_d2

theorem at80_0 (W77 : IVec S32x1 32) (W80 : IVec S32x16 32) (i : Fin 32) (g : Fin 16) (h : W77 (ix2 i 0) = BitVec.ofNat 32 i.val) :
    (at80 W77 W80 (ix3 i g 0)).toInt = (i.val : ℤ) := by
  have e : at80 W77 W80 (ix3 i g 0) = Scalar.select (IntOp.cmpi .slt (W77 (ix2 i 0)) 0#32) (IntOp.addi (W77 (ix2 i 0)) 32#32) (W77 (ix2 i 0)) := by
    unfold at80
    pointwise
  rw [e, h, wrap_nat (by omega), toInt_ofNat (by omega)]

theorem at80_1 (W77 : IVec S32x1 32) (W80 : IVec S32x16 32) (i : Fin 32) (g : Fin 16) {d : Fin 8732} (h : W80 (ix2 i g) = BitVec.ofNat 32 d.val) :
    (at80 W77 W80 (ix3 i g 1)).toInt = (d.val : ℤ) := by
  have e : at80 W77 W80 (ix3 i g 1) = Scalar.select (IntOp.cmpi .slt (W80 (ix2 i g)) 0#32) (IntOp.addi (W80 (ix2 i g)) 8732#32) (W80 (ix2 i g)) := by
    unfold at80
    pointwise
  rw [e, h, wrap_nat (by omega), toInt_ofNat (by omega)]

/-- A default box's object. -/
theorem v97_eq (i : Fin 32) (d : Fin 8732) : res_main_v97 V0 (ix2 i d) = BitVec.ofNat 32 (owner (Vs V0 i) d).val := by
  unfold res_main_v97 res_main_call1_v0 res_main_call1_cst res_main_call1_c
  refine (scatter_owner _ (at80 (res_main_v77 V0) (res_main_v80 V0)) _ (Vs V0) (fun i g => at80_0 _ _ i g (v77_eq V0 i))
    (fun i g => at80_1 _ _ i g (v80_eq V0 i g)) i d).trans ?_
  by_cases hf : Forced (Vs V0 i) d
  · rw [if_pos hf]
    pointwise
  · rw [if_neg hf, owner_free _ hf]
    refine (argmax_mid (res_main_v75 V0) i d).trans ?_
    rw [show (fun g => res_main_v75 V0 (ix3 i g d)) = fun g => Vs V0 i g d from funext fun g => v75_eq V0 i g d]

/-- The index words of the gathers. -/
abbrev at97 (W77 : IVec S32x1 32) (W97 : IVec S32x8732 32) : IVec S32x8732x2 32 :=
  concatenate S32x8732x2 2 [⟨S32x8732x1, (broadcastInDim S32x8732x1 ![0, 1] bcast_S32x8732_S32x8732x1_0_1 (broadcastInDim S32x8732 ![0, 1] bcast_S32x1_S32x8732_0_1 (select (cmpi .slt W77 (broadcastInDim S32x1 ![] bcast_S_S32x1 (constantI S_ 32 0#32))) (addi W77 (broadcastInDim S32x1 ![] bcast_S_S32x1 (constantI S_ 32 32#32))) W77)))⟩, ⟨S32x8732x1, (broadcastInDim S32x8732x1 ![0, 1] bcast_S32x8732_S32x8732x1_0_1 (select (cmpi .slt W97 (broadcastInDim S32x8732 ![] bcast_S_S32x8732 (constantI S_ 32 0#32))) (addi W97 (broadcastInDim S32x8732 ![] bcast_S_S32x8732 (constantI S_ 32 16#32))) W97))⟩] concatenates_S32x8732x1_S32x8732x1_S32x8732x2_d2

theorem at97_0 (W77 : IVec S32x1 32) (W97 : IVec S32x8732 32) (i : Fin 32) (d : Fin 8732) (h : W77 (ix2 i 0) = BitVec.ofNat 32 i.val) :
    (at97 W77 W97 (ix3 i d 0)).toInt = (i.val : ℤ) := by
  have e : at97 W77 W97 (ix3 i d 0) = Scalar.select (IntOp.cmpi .slt (W77 (ix2 i 0)) 0#32) (IntOp.addi (W77 (ix2 i 0)) 32#32) (W77 (ix2 i 0)) := by
    unfold at97
    pointwise
  rw [e, h, wrap_nat (by omega), toInt_ofNat (by omega)]

theorem at97_1 (W77 : IVec S32x1 32) (W97 : IVec S32x8732 32) (i : Fin 32) (d : Fin 8732) {g : Fin 16} (h : W97 (ix2 i d) = BitVec.ofNat 32 g.val) :
    (at97 W77 W97 (ix3 i d 1)).toInt = (g.val : ℤ) := by
  have e : at97 W77 W97 (ix3 i d 1) = Scalar.select (IntOp.cmpi .slt (W97 (ix2 i d)) 0#32) (IntOp.addi (W97 (ix2 i d)) 16#32) (W97 (ix2 i d)) := by
    unfold at97
    pointwise
  rw [e, h, wrap_nat (by omega), toInt_ofNat (by omega)]

theorem reduce_top (x : FVec Ideal S32x16x8732 .f32) (i : Fin 32) (d : Fin 8732) :
    Host.reduce FloatOps.maximumf x (constant S_ .f32 0xFF800000#32) reducesTo_S32x16x8732_S32x8732_d1 h_S_ (ix2 i d) = top fun g => x (ix3 i g d) := by
  unfold top
  pointwise

/-- A default box's class. -/
theorem v131_eq (i : Fin 32) (d : Fin 8732) : res_main_v131 V0 (ix2 i d) = Ls V0 i d := by
  have key : ∀ (S : FVec Ideal S32x8732 .f32) (G : IVec S32x8732 32), S (ix2 i d) = best (Vs V0 i) d → G (ix2 i d) = Lg V0 i (owner (Vs V0 i) d) →
      select (cmpf .olt S (broadcastInDim S32x8732 ![] bcast_S_S32x8732 (constant S_ .f32 0x3F000000#32))) (broadcastInDim S32x8732 ![] bcast_S_S32x8732 (id (constantI S_ 32 0#32))) G (ix2 i d)
        = Ls V0 i d := by
    intro S G hS hG
    have e : select (cmpf .olt S (broadcastInDim S32x8732 ![] bcast_S_S32x8732 (constant S_ .f32 0x3F000000#32))) (broadcastInDim S32x8732 ![] bcast_S_S32x8732 (id (constantI S_ 32 0#32))) G (ix2 i d)
        = Scalar.select (BitVec.ofBool (decide ((S (ix2 i d) : EReal) < half))) 0#32 (G (ix2 i d)) := by
      pointwise
      rfl
    rw [e, hS, hG]
    unfold Ls lab
    by_cases h : best (Vs V0 i) d < half <;> simp [Scalar.select, h]
  unfold res_main_v131
  refine key _ _ ?_ ?_
  · refine (scatter_owner _ (at80 (res_main_v77 V0) (res_main_v80 V0)) _ (Vs V0) (fun i g => at80_0 _ _ i g (v77_eq V0 i))
      (fun i g => at80_1 _ _ i g (v80_eq V0 i g)) i d).trans ?_
    unfold best
    by_cases hf : Forced (Vs V0 i) d
    · rw [if_pos hf, if_pos hf]
      pointwise
      rfl
    · rw [if_neg hf, if_neg hf, reduce_top]
      rw [show (fun g => res_main_v75 V0 (ix3 i g d)) = fun g => Vs V0 i g d from funext fun g => v75_eq V0 i g d]
  · exact gather_label _ (at97 (res_main_v77 V0) (res_main_v97 V0)) i d i (owner (Vs V0 i) d) (at97_0 _ _ i d (v77_eq V0 i))
      (at97_1 _ _ i d (v97_eq V0 i d))

/-- A default box's object's box. -/
theorem v146_eq (i : Fin 32) (d : Fin 8732) (k : Fin 4) : res_main_v146 V0 (ix3 i d k) = Bx V0 i (owner (Vs V0 i) d) k := by
  unfold res_main_v146
  exact gather_box _ (at97 (res_main_v77 V0) (res_main_v97 V0)) i d k i (owner (Vs V0 i) d) (at97_0 _ _ i d (v77_eq V0 i))
      (at97_1 _ _ i d (v97_eq V0 i d))

theorem v169_0 (i : Fin 32) (d : Fin 8732) : res_main_v169 V0 (ix3 i d 0) = (Bx V0 i (owner (Vs V0 i) d) 0 + Bx V0 i (owner (Vs V0 i) d) 2) * half := by
  have key : ∀ W : FVec Ideal S32x8732x4 .f32, res_main_v146 V0 = W → res_main_v169 V0 (ix3 i d 0) = ((W (ix3 i d 0) : EReal) + W (ix3 i d 2)) * half := by
    intro W h
    rw [← div_two]
    unfold res_main_v169
    simp only [h]
    pointwise
  rw [key _ rfl, v146_eq, v146_eq]
theorem v169_1 (i : Fin 32) (d : Fin 8732) : res_main_v169 V0 (ix3 i d 1) = (Bx V0 i (owner (Vs V0 i) d) 1 + Bx V0 i (owner (Vs V0 i) d) 3) * half := by
  have key : ∀ W : FVec Ideal S32x8732x4 .f32, res_main_v146 V0 = W → res_main_v169 V0 (ix3 i d 1) = ((W (ix3 i d 1) : EReal) + W (ix3 i d 3)) * half := by
    intro W h
    rw [← div_two]
    unfold res_main_v169
    simp only [h]
    pointwise
  rw [key _ rfl, v146_eq, v146_eq]
theorem v169_2 (i : Fin 32) (d : Fin 8732) : res_main_v169 V0 (ix3 i d 2) = Bx V0 i (owner (Vs V0 i) d) 2 := by
  have key : ∀ W : FVec Ideal S32x8732x4 .f32, res_main_v146 V0 = W → res_main_v169 V0 (ix3 i d 2) = W (ix3 i d 2) := by
    intro W h
    unfold res_main_v169
    simp only [h]
    pointwise
  rw [key _ rfl, v146_eq]
theorem v169_3 (i : Fin 32) (d : Fin 8732) : res_main_v169 V0 (ix3 i d 3) = Bx V0 i (owner (Vs V0 i) d) 3 := by
  have key : ∀ W : FVec Ideal S32x8732x4 .f32, res_main_v146 V0 = W → res_main_v169 V0 (ix3 i d 3) = W (ix3 i d 3) := by
    intro W h
    unfold res_main_v169
    simp only [h]
    pointwise
  rw [key _ rfl, v146_eq]

/-- Whether a default box holds an object. -/
theorem v217_eq (i : Fin 32) (d : Fin 8732) : res_main_v217 V0 (ix2 i d) = mask (Ls V0 i) d := by
  have key : ∀ W : IVec S32x8732 32, res_main_v131 V0 = W → res_main_v217 V0 (ix2 i d) = (FloatOps.uitofp (F := Ideal) .f32 (IntOp.cmpi .ne (W (ix2 i d)) 0#32) : EReal) := by
    intro W h
    unfold res_main_v217
    simp only [h]
    pointwise
  rw [key _ rfl, v131_eq]
  unfold mask
  by_cases h : Ls V0 i d = 0#32
  · rw [if_pos h, h]
    show (((0#1).toNat : ℝ) : EReal) = 0
    simp
  · rw [if_neg h]
    have : IntOp.cmpi .ne (Ls V0 i d) 0#32 = 1#1 := by
      show BitVec.ofBool (Ls V0 i d != 0#32) = 1#1
      rw [(bne_iff_ne).2 h]; rfl
    rw [this]
    show (((1#1).toNat : ℝ) : EReal) = 1
    simp

theorem v218_eq (i : Fin 32) : @Eq EReal (res_main_v218 V0 (ix1 i)) (npos (Ls V0 i)) := by
  have key : ∀ W : FVec Ideal S32x8732 .f32, res_main_v217 V0 = W → @Eq EReal (res_main_v218 V0 (ix1 i)) (∑ d : Fin 8732, (W (ix2 i d) : EReal)) := by
    intro W h
    unfold res_main_v218
    simp only [h]
    pointwise
  refine (key _ rfl).trans ?_
  unfold npos
  exact Finset.sum_congr rfl fun d _ => v217_eq V0 i d

end Cert.ReferenceIdeal.Value

end
-- ==== Proof.RefLoss.lean ====
/-
The reference's cross entropy of every default box.
-/
module

public import proofs.«01_k».proof.Proof.RefMatch
public import Idealize.ShloMosaic.Lib.Pipeline.Value

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec Idealize.ShloMosaic.StableHlo

variable (V0 : Valuation τ sig (Elt Ideal))

/-- A default box's row, all images' boxes in one list. -/
def row (i : Fin 32) (d : Fin 8732) : Fin 279424 := ⟨i.val * 8732 + d.val, by omega⟩

theorem flat3 {α : Type} (x : S32x8732x81.Idx → α) (h : S32x8732x81.ShapeCasts S279424x81) (i : Fin 32) (d : Fin 8732) (k : Fin 81) :
    shapeCast S279424x81 x h (ix2 (row i d) k) = x (ix3 i d k) :=
  shapeCast_apply _ _ _ (ix3 i d k) (by rw [Shape.rowMajor_val_three, Shape.rowMajor_val_two]; rfl)

theorem flat2 {α : Type} (x : S32x8732.Idx → α) (h : S32x8732.ShapeCasts S279424x1) (i : Fin 32) (d : Fin 8732) :
    shapeCast S279424x1 x h (ix2 (row i d) 0) = x (ix2 i d) :=
  shapeCast_apply _ _ _ (ix2 i d) (by
    rw [Shape.rowMajor_val_two, Shape.rowMajor_val_two]
    show i.val * 8732 + d.val = (i.val * 8732 + d.val) * 1 + 0
    omega)

theorem deep2 {α : Type} (x : S279424.Idx → α) (h : S279424.ShapeCasts S32x8732) (i : Fin 32) (d : Fin 8732) :
    shapeCast S32x8732 x h (ix2 i d) = x (ix1 (row i d)) :=
  shapeCast_apply _ _ _ (ix1 (row i d)) (by rw [Shape.rowMajor_val_two, Shape.rowMajor_val_one]; rfl)

theorem v228_eq (i : Fin 32) (d : Fin 8732) (k : Fin 81) : res_main_v228 V0 (ix2 (row i d) k) = Xs V0 i k d := by
  unfold res_main_v228
  exact flat3 _ _ i d k

theorem reduce_rows (x : FVec Ideal S279424x81 .f32) (n : Fin 279424) :
    Host.reduce FloatOps.maximumf x (constant S_ .f32 0xFF800000#32) reducesTo_S279424x81_S279424_d1 h_S_ (ix1 n) = top fun k : Fin 81 => x (ix2 n k) := by
  unfold top
  pointwise

theorem v229_eq (i : Fin 32) (d : Fin 8732) : res_main_v229 V0 (ix1 (row i d)) = top fun k => Xs V0 i k d := by
  have key : ∀ (W : FVec Ideal S279424x81 .f32) (n : Fin 279424), res_main_v228 V0 = W → res_main_v229 V0 (ix1 n) = top fun k : Fin 81 => W (ix2 n k) := by
    intro W n h
    unfold res_main_v229
    rw [h]
    exact reduce_rows W n
  rw [key _ _ rfl]
  exact congrArg top (funext fun k => v228_eq V0 i d k)

theorem v237_eq (i : Fin 32) (d : Fin 8732) : res_main_v237 V0 (ix2 (row i d) 0) = Ls V0 i d := by
  unfold res_main_v237
  exact (flat2 _ _ i d).trans (v131_eq V0 i d)

/-- The labels are classes. -/
def Classes : Prop := ∀ i g, 0 ≤ (Lg V0 i g).toInt ∧ (Lg V0 i g).toInt < 81

/-- A default box's class, as a number. -/
theorem Ls_nat (h : Classes V0) (i : Fin 32) (d : Fin 8732) : ∃ q : Fin 81, Ls V0 i d = BitVec.ofNat 32 q.val := by
  have : 0 ≤ (Ls V0 i d).toInt ∧ (Ls V0 i d).toInt < 81 := by
    unfold Ls lab
    split
    · decide
    · exact h i _
  refine ⟨⟨(Ls V0 i d).toInt.toNat, by omega⟩, ?_⟩
  apply BitVec.eq_of_toInt_eq
  rw [toInt_ofNat (by show (Ls V0 i d).toInt.toNat < _; omega)]
  show _ = (((Ls V0 i d).toInt.toNat : ℕ) : ℤ)
  omega

theorem call4_eq (h : Classes V0) (i : Fin 32) (d : Fin 8732) : res_main_call4_v5 V0 (ix3 (row i d) 0 0) = Ls V0 i d := by
  have key : ∀ (W : IVec S279424x1 32) (n : Fin 279424), res_main_v237 V0 = W → res_main_call4_v5 V0 (ix3 n 0 0)
      = Scalar.select (IntOp.cmpi .slt (W (ix2 n 0)) 0#32) (IntOp.addi (W (ix2 n 0)) 81#32) (W (ix2 n 0)) := by
    intro W n h
    unfold res_main_call4_v5
    simp only [h]
    pointwise
  rw [key _ _ rfl, v237_eq]
  obtain ⟨q, hq⟩ := Ls_nat V0 h i d
  rw [hq, wrap_nat (by omega)]

/-- The cross entropy of a row. -/
theorem rows_loss (W : FVec Ideal S279424x81 .f32) (M : FVec Ideal S279424 .f32) (C : IVec S279424x1x1 32) (G : FVec Ideal S279424x1 .f32) (n : Fin 279424) :
    @Eq EReal (subf (addf (Host.log (Host.reduceAdd (Host.exp (subf W (broadcastInDim S279424x81 ![0, 1] bcast_S279424x1_S279424x81_0_1 (broadcastInDim S279424x1 ![0] bcast_S279424_S279424x1_0 M)))) (constant S_ .f32 0x00000000#32) reducesTo_S279424x81_S279424_d1 h_S_)) M) (shapeCast S279424 (select (Host.reduce IntOp.andi (andi (cmpi .sge C (broadcastInDim S279424x1x1 ![] bcast_S_S279424x1x1 (constantI S_ 32 0#32))) (cmpi .sle C (broadcastInDim S279424x1x1 ![0, 1, 2] bcast_S1x1x1_S279424x1x1_0_1_2 (broadcastInDim S1x1x1 ![2] bcast_S1_S1x1x1_2 (constantI S1 32 80#32))))) (constantI S_ 1 1#1) reducesTo_S279424x1x1_S279424x1_d2 h_S_) G (broadcastInDim S279424x1 ![] bcast_S_S279424x1 (constant S_ .f32 0x7FC00000#32))) shapeCasts_S279424x1_S279424) (ix1 n))
      (Ideal.log (∑ x : Fin 81, Ideal.exp (W (ix2 n x) - M (ix1 n))) + M (ix1 n) -
      Scalar.select (IntOp.andi (IntOp.andi (IntOp.cmpi CmpIPredicate.sge (C (ix3 n 0 0)) 0#32) (IntOp.cmpi CmpIPredicate.sle (C (ix3 n 0 0)) 80#32)) 1#1)
        (G (ix2 n 0)) (Ideal.ofBits FTy.f32 2143289344#32)) := by
  pointwise
  rfl

/-- A number below 81 is a class. -/
theorem in_bounds (q : Fin 81) : IntOp.andi (IntOp.andi (IntOp.cmpi CmpIPredicate.sge (BitVec.ofNat 32 q.val) 0#32) (IntOp.cmpi CmpIPredicate.sle (BitVec.ofNat 32 q.val) 80#32)) 1#1 = 1#1 := by
  revert q; decide +kernel

/-- A default box's cross entropy. -/
theorem v241_eq (h : Classes V0) (i : Fin 32) (d : Fin 8732) : @Eq EReal (res_main_v241 V0 (ix2 i d)) (loss (Xs V0 i) (Ls V0 i) d) := by
  obtain ⟨q, hq⟩ := Ls_nat V0 h i d
  have hC := call4_eq V0 h i d
  rw [hq] at hC
  have hG : Host.gather gather_S279424x81_S279424x1x1_S279424x1_n_1_0_0_1_2_11 (res_main_v228 V0) (res_main_call4_v5 V0) (ix2 (row i d) 0) = Xs V0 i q d :=
    (gather_pick _ _ (row i d) q (by rw [hC, toInt_ofNat (by omega)])).trans (v228_eq V0 i d q)
  have e : @Eq EReal (res_main_v241 V0 (ix2 i d)) _ := (deep2 _ _ i d).trans (rows_loss (res_main_v228 V0) (res_main_v229 V0) (res_main_call4_v5 V0)
    (Host.gather gather_S279424x81_S279424x1x1_S279424x1_n_1_0_0_1_2_11 (res_main_v228 V0) (res_main_call4_v5 V0)) (row i d))
  refine e.trans ?_
  rw [hC, in_bounds, hG, v229_eq]
  have hs : ∀ W : FVec Ideal S279424x81 .f32, res_main_v228 V0 = W → ∑ x : Fin 81, Ideal.exp (W (ix2 (row i d) x) - top fun k => Xs V0 i k d) = ∑ x : Fin 81, Ideal.exp (Xs V0 i x d - top fun k => Xs V0 i k d) :=
    fun W hW => Finset.sum_congr rfl fun k _ => by rw [← hW, v228_eq]
  have hp : (∑ c : Fin 81, if BitVec.ofNat 32 c = Ls V0 i d then Xs V0 i c d else 0) = Xs V0 i q d := by
    rw [hq, Finset.sum_eq_single q]
    · rw [if_pos rfl]
    · intro b _ hb
      rw [if_neg]
      rw [ofNat_inj (by omega) (by omega)]
      exact fun h => hb (Fin.ext h)
    · simp
  unfold loss
  rw [hs _ rfl, hp, add_comm]
  rfl

end Cert.ReferenceIdeal.Value

end
-- ==== Proof.Sorted.lean ====
/-
What a sort of one row reads: the row's entries, in ascending order.
-/
module

public import proofs.«01_k».proof.Proof.RefMatch
public import Idealize.ShloMosaic.Lib.SortFacts

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec Idealize.ShloMosaic.StableHlo

/-- The comparison of the sort is the order. -/
theorem before_eq (a b : EReal) : comparator_f32_d1 (F := Ideal) a b = BitVec.ofBool (decide (a < b)) := by
  have z : (FloatOps.ofBits .f32 0x00000000#32 : Ideal .f32) = (0 : EReal) := zero_bits
  have e (x : EReal) : (Scalar.select (FloatOps.cmpf (F := Ideal) (φ := .f32) .oeq x (FloatOps.ofBits .f32 0x00000000#32)) (FloatOps.ofBits .f32 0x00000000#32) x : Ideal .f32) = x := by
    rw [z]
    by_cases h : x = 0
    · subst h; simp [Scalar.select]
    · simp [Scalar.select, FloatOps.cmpf, Ideal.cmp, h]
  have u (c x : EReal) : (Scalar.select (FloatOps.cmpf (F := Ideal) (φ := .f32) .une x x) c x : Ideal .f32) = x := by
    simp [Scalar.select, FloatOps.cmpf, Ideal.cmp]
  unfold comparator_f32_d1
  simp only [e]
  have u' := u
  simp only [u']
  rfl

variable (X : FVec Ideal S32x8732 .f32) (i : Fin 32)

/-- The place in its row of the entry of each rank. -/
def place : Fin 8732 → Fin 8732 := sortedFrom fun k k' => comparator_f32_d1 (F := Ideal) (X (ix2 i k)) (X (ix2 i k')) == 1#1

theorem sort_apply (r : Fin 8732) : Host.sort S32x8732 1 (comparator_f32_d1 (F := Ideal)) X (ix2 i r) = X (ix2 i (place X i r)) := by
  have hd : 1 < S32x8732.rank := by decide
  have h (k : Fin (S32x8732.size ⟨1, hd⟩)) : Shape.Idx.along (ix2 i r : S32x8732.Idx) ⟨1, hd⟩ k = (ix2 i k : S32x8732.Idx) :=
    (ValueIdx.eq_ix2 _).trans rfl
  unfold Host.sort place
  rw [dif_pos hd]
  simp only [h]
  exact congrArg (fun k : Fin 8732 => X (ix2 i k)) rfl

/-- The places are all the places, each once. -/
def perm : Fin 8732 ≃ Fin 8732 := Equiv.ofBijective (place X i) ⟨sortedFrom_injective _, sortedFrom_surjective _⟩

theorem perm_apply (r : Fin 8732) : perm X i r = place X i r := by unfold perm; exact Equiv.ofBijective_apply (place X i) _ r

theorem perm_ascends {r r' : Fin 8732} (h : r ≤ r') : (X (ix2 i (perm X i r)) : EReal) ≤ X (ix2 i (perm X i r')) := by
  rcases h.eq_or_lt with rfl | h
  · exact le_rfl
  have bit (p : Prop) [Decidable p] : (BitVec.ofBool (decide p) == 1#1) = decide p := by by_cases hp : p <;> simp [hp]
  have key := sortedFrom_noInversion (fun k k' => decide ((X (ix2 i k) : EReal) < X (ix2 i k')))
    (fun k k' => comparator_f32_d1 (F := Ideal) (X (ix2 i k)) (X (ix2 i k')) == 1#1)
    (fun a b hab => by
      rw [before_eq, bit] at hab
      exact decide_eq_false (not_lt_of_gt (of_decide_eq_true hab)))
    (fun a b hab => by rw [before_eq, bit]; exact hab)
    (fun a b c hab hbc => decide_eq_false (not_lt.mpr ((not_lt.mp (of_decide_eq_false hbc)).trans (not_lt.mp (of_decide_eq_false hab)))))
    r r' h
  have le : ¬ (X (ix2 i (place X i r')) : EReal) < X (ix2 i (place X i r)) := of_decide_eq_false key
  rw [perm_apply, perm_apply]
  exact not_lt.mp le

end Cert.ReferenceIdeal.Value

end
-- ==== Proof.RefTotal.lean ====
/-
The reference's loss, of four sums over the images.
-/
module

public import proofs.«01_k».proof.Proof.RefLoss
public import proofs.«01_k».proof.Proof.Sorted
public import proofs.«01_k».proof.Proof.KTop

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec Idealize.ShloMosaic.StableHlo

variable (V0 : Valuation τ sig (Elt Ideal))

/-- The loss of its sums. -/
def comb (a n n' p t : EReal) : EReal := Ideal.div (t + p) n + Ideal.div a (n' * Ideal.ofBits .f32 0x40800000#32)

/-- One where a rank is among those kept. -/
def kept (r : Fin 8732) (n : EReal) : EReal :=
  FloatOps.uitofp (F := Ideal) FTy.f32 (BitVec.ofBool (decide ((FloatOps.sitofp (F := Ideal) FTy.f32 (BitVec.ofNat 32 r.val) : EReal) < Ideal.ofBits FTy.f32 1077936128#32 * n)))

/-- The wanted offset, one column after another. -/
def cols (T : FVec Ideal S32x8732x4 .f32) (B : FVec Ideal S8732x4 .f32) (i : Fin 32) (d : Fin 8732) (k : Fin 4) : EReal :=
  if h : k.val < 1 then Ideal.div (T (ix3 i d 0) - B (ix2 d 0)) (B (ix2 d 2))
  else if h : k.val - 1 < 1 then Ideal.div (T (ix3 i d 1) - B (ix2 d 1)) (B (ix2 d 3))
  else if h : k.val - 1 - 1 < 1 then Ideal.log (Ideal.div (T (ix3 i d 2)) (B (ix2 d 2)))
  else Ideal.log (Ideal.div (T (ix3 i d 3)) (B (ix2 d 3)))

/-- The last lines of the reference, read. -/
theorem total_of (S L M : FVec Ideal S32x8732 .f32) (N : FVec Ideal S32 .f32) (T P : FVec Ideal S32x8732x4 .f32) (B : FVec Ideal S8732x4 .f32) :
    @Eq EReal ((addf (Host.divf (addf (Host.reduceAdd (mulf (Host.negf S) (uitofp .f32 (cmpf .olt (broadcastInDim S32x8732 ![0, 1] bcast_S1x8732_S32x8732_0_1 (broadcastInDim S1x8732 ![1] bcast_S8732_S1x8732_1 (sitofp .f32 (iotaInDim S8732 32 0)))) (broadcastInDim S32x8732 ![0, 1] bcast_S32x1_S32x8732_0_1 (mulf (broadcastInDim S32x1 ![] bcast_S_S32x1 (constant S_ .f32 0x40400000#32)) (broadcastInDim S32x1 ![0] bcast_S32_S32x1_0 N)))))) (constant S_ .f32 0x00000000#32) reducesTo_S32x8732_S_d0_1 h_S_) (Host.reduceAdd (mulf L M) (constant S_ .f32 0x00000000#32) reducesTo_S32x8732_S_d0_1 h_S_)) (Host.reduceAdd N (constant S_ .f32 0x00000000#32) reducesTo_S32_S_d0 h_S_)) (mulf (constant S_ .f32 0x3F800000#32) (Host.divf (Host.reduceAdd (mulf (Host.absf (subf P ((concatenate S32x8732x4 2 [⟨S32x8732x1, ((broadcastInDim S32x8732x1 ![0, 1] bcast_S32x8732_S32x8732x1_0_1 (Host.divf (subf (shapeCast _ (extractStridedSlice S32x8732x1 ![0, 0, 0] T slices_S32x8732x4_S32x8732x1_0_0_0) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 0] B slices_S8732x4_S8732x1_0_0) shapeCasts_S8732x1_S8732)))) (broadcastInDim S32x8732 ![0, 1] bcast_S1x8732_S32x8732_0_1 (broadcastInDim S1x8732 ![1] bcast_S8732_S1x8732_1 (shapeCast _ (extractStridedSlice S8732x1 ![0, 2] B slices_S8732x4_S8732x1_0_2) shapeCasts_S8732x1_S8732))))) : (⟨S32x8732x1, .f32⟩ : BufTy).Contents (Elt Ideal))⟩, ⟨S32x8732x1, ((broadcastInDim S32x8732x1 ![0, 1] bcast_S32x8732_S32x8732x1_0_1 (Host.divf (subf (shapeCast _ (extractStridedSlice S32x8732x1 ![0, 0, 1] T slices_S32x8732x4_S32x8732x1_0_0_1) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 1] B slices_S8732x4_S8732x1_0_1) shapeCasts_S8732x1_S8732)))) (broadcastInDim S32x8732 ![0, 1] bcast_S1x8732_S32x8732_0_1 (broadcastInDim S1x8732 ![1] bcast_S8732_S1x8732_1 (shapeCast _ (extractStridedSlice S8732x1 ![0, 3] B slices_S8732x4_S8732x1_0_3) shapeCasts_S8732x1_S8732))))) : (⟨S32x8732x1, .f32⟩ : BufTy).Contents (Elt Ideal))⟩, ⟨S32x8732x1, ((broadcastInDim S32x8732x1 ![0, 1] bcast_S32x8732_S32x8732x1_0_1 (Host.log (Host.divf (shapeCast _ (extractStridedSlice S32x8732x1 ![0, 0, 2] T slices_S32x8732x4_S32x8732x1_0_0_2) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 2] B slices_S8732x4_S8732x1_0_2) shapeCasts_S8732x1_S8732)))))) : (⟨S32x8732x1, .f32⟩ : BufTy).Contents (Elt Ideal))⟩, ⟨S32x8732x1, ((broadcastInDim S32x8732x1 ![0, 1] bcast_S32x8732_S32x8732x1_0_1 (Host.log (Host.divf (shapeCast _ (extractStridedSlice S32x8732x1 ![0, 0, 3] T slices_S32x8732x4_S32x8732x1_0_0_3) shapeCasts_S32x8732x1_S32x8732) (broadcastInDim S32x8732 ![0, 1] bcast_S1x8732_S32x8732_0_1 (broadcastInDim S1x8732 ![1] bcast_S8732_S1x8732_1 (shapeCast _ (extractStridedSlice S8732x1 ![0, 3] B slices_S8732x4_S8732x1_0_3) shapeCasts_S8732x1_S8732)))))) : (⟨S32x8732x1, .f32⟩ : BufTy).Contents (Elt Ideal))⟩] concatenates_S32x8732x1_S32x8732x1_S32x8732x1_S32x8732x1_S32x8732x4_d2 : (⟨S32x8732x4, .f32⟩ : BufTy).Contents (Elt Ideal))))) (broadcastInDim S32x8732x4 ![0, 1, 2] bcast_S32x8732x1_S32x8732x4_0_1_2 (broadcastInDim S32x8732x1 ![0, 1] bcast_S32x8732_S32x8732x1_0_1 M))) (constant S_ .f32 0x00000000#32) reducesTo_S32x8732x4_S_d0_1_2 h_S_) (mulf (Host.reduceAdd M (constant S_ .f32 0x00000000#32) reducesTo_S32x8732_S_d0_1 h_S_) (constant S_ .f32 0x40800000#32)))) : FVec Ideal S_ .f32) ix0)
      (comb (∑ i : Fin 32, ∑ d : Fin 8732, ∑ k : Fin 4, FloatOps.absf (F := Ideal) (φ := .f32) (P (ix3 i d k) - cols T B i d k) * M (ix2 i d))
        (∑ i : Fin 32, N (ix1 i)) (∑ i : Fin 32, ∑ d : Fin 8732, M (ix2 i d)) (∑ i : Fin 32, ∑ d : Fin 8732, L (ix2 i d) * M (ix2 i d))
        (∑ i : Fin 32, ∑ r : Fin 8732, -S (ix2 i r) * kept r (N (ix1 i)))) := by
  unfold comb kept cols
  pointwise

variable (V0 : Valuation τ sig (Elt Ideal))

/-- A rank is kept where it is below three times the count. -/
theorem kept_eq (r : Fin 8732) (n : ℕ) : kept r ((n : ℝ) : EReal) = if r.val < Cert.KernelIdeal.Value.want n then 1 else 0 := by
  have h : (FloatOps.sitofp (F := Ideal) FTy.f32 (BitVec.ofNat 32 r.val) : EReal) = ((r.val : ℝ) : EReal) := Cert.KernelIdeal.Value.sitofp_ofNat (by omega)
  have e : (((r.val : ℝ) : EReal) < Ideal.ofBits FTy.f32 1077936128#32 * ((n : ℝ) : EReal)) ↔ r.val < Cert.KernelIdeal.Value.want n := by
    rw [Cert.KernelIdeal.Value.three_word, ← EReal.coe_mul, EReal.coe_lt_coe_iff, lt_min_iff]
    constructor
    · intro h; exact ⟨by exact_mod_cast h, r.isLt⟩
    · intro h; exact_mod_cast h.1
  unfold kept
  rw [h]
  by_cases hr : r.val < Cert.KernelIdeal.Value.want n
  · rw [if_pos hr, decide_eq_true (e.mpr hr)]; simp [FloatOps.uitofp]
  · rw [if_neg hr, decide_eq_false (fun x => hr (e.mp x))]; simp [FloatOps.uitofp]

theorem cols_eq (T : FVec Ideal S32x8732x4 .f32) (B : FVec Ideal S8732x4 .f32) (i : Fin 32) (d : Fin 8732) (k : Fin 4) (b : Fin 4 → EReal)
    (h0 : T (ix3 i d 0) = (b 0 + b 2) * half) (h1 : T (ix3 i d 1) = (b 1 + b 3) * half) (h2 : T (ix3 i d 2) = b 2) (h3 : T (ix3 i d 3) = b 3) :
    cols T B i d k = off (fun j d => B (ix2 d j)) b d k := by
  unfold cols off
  rw [h0, h1, h2, h3]
  fin_cases k <;> rfl

/-- The row of losses the reference sorts. -/
def row' : FVec Ideal S32x8732 .f32 :=
  Host.negf (mulf (res_main_v241 V0) (subf (broadcastInDim S32x8732 ![] bcast_S_S32x8732 (constant S_ .f32 0x3F800000#32)) (res_main_v217 V0)))

theorem row'_eq (h : Classes V0) (i : Fin 32) (d : Fin 8732) : @Eq EReal (row' V0 (ix2 i d)) (-neg (Xs V0 i) (Ls V0 i) d) := by
  have key : ∀ L M : FVec Ideal S32x8732 .f32, @Eq EReal (Host.negf (mulf L (subf (broadcastInDim S32x8732 ![] bcast_S_S32x8732 (constant S_ .f32 0x3F800000#32)) M)) (ix2 i d))
      (-(L (ix2 i d) * (1 - M (ix2 i d)))) := by
    intro L M
    pointwise
  refine (key _ _).trans ?_
  unfold neg
  exact congrArg₂ (fun a b : EReal => -(a * (1 - b))) (v241_eq V0 h i d) (v217_eq V0 i d)

/-- The reference's loss. -/
theorem v265_eq (h : Classes V0) : @Eq EReal (res_main_v265 V0 ix0)
    (comb (∑ i, gap (Db V0) (Bx V0 i) (Pb V0 i) (Ls V0 i) (owner (Vs V0 i))) (∑ i, npos (Ls V0 i)) (∑ i, npos (Ls V0 i))
      (∑ i, pos (Xs V0 i) (Ls V0 i))
      (∑ i, ∑ r : Fin 8732, neg (Xs V0 i) (Ls V0 i) (perm (row' V0) i r) * kept r (npos (Ls V0 i)))) := by
  refine (total_of (Host.sort S32x8732 1 comparator_f32_d1 (row' V0)) (res_main_v241 V0) (res_main_v217 V0) (res_main_v218 V0) (res_main_v169 V0) (A0 V0) (A4 V0)).trans ?_
  have hM : ∀ M : FVec Ideal S32x8732 .f32, res_main_v217 V0 = M → ∀ i d, M (ix2 i d) = mask (Ls V0 i) d := fun M e i d => by rw [← e]; exact v217_eq V0 i d
  have hN : ∀ N : FVec Ideal S32 .f32, res_main_v218 V0 = N → ∀ i, N (ix1 i) = npos (Ls V0 i) := fun N e i => by rw [← e]; exact v218_eq V0 i
  have hL : ∀ L : FVec Ideal S32x8732 .f32, res_main_v241 V0 = L → ∀ i d, L (ix2 i d) = loss (Xs V0 i) (Ls V0 i) d := fun L e i d => by rw [← e]; exact v241_eq V0 h i d
  have hS : ∀ S : FVec Ideal S32x8732 .f32, Host.sort S32x8732 1 (comparator_f32_d1 (F := Ideal)) (row' V0) = S → ∀ i r, S (ix2 i r) = -neg (Xs V0 i) (Ls V0 i) (perm (row' V0) i r) :=
    fun S e i r => by rw [← e, sort_apply, perm_apply]; exact row'_eq V0 h i _
  have hC : ∀ T : FVec Ideal S32x8732x4 .f32, res_main_v169 V0 = T → ∀ i d k, cols T (A4 V0) i d k = off (Db V0) (Bx V0 i (owner (Vs V0 i) d)) d k := by
    intro T e i d k
    subst e
    exact cols_eq _ _ i d k _ (v169_0 V0 i d) (v169_1 V0 i d) (v169_2 V0 i d) (v169_3 V0 i d)
  generalize eM : res_main_v217 V0 = M
  generalize eN : res_main_v218 V0 = N
  generalize eL : res_main_v241 V0 = L
  generalize eS : Host.sort S32x8732 1 (comparator_f32_d1 (F := Ideal)) (row' V0) = S
  generalize eT : res_main_v169 V0 = T
  simp only [hM M eM, hN N eN, hL L eL, hS S eS, hC T eT, neg_neg]
  unfold gap pos npos
  refine congrArg (fun a => comb a _ _ _ _) (Finset.sum_congr rfl fun i _ => ?_)
  rw [Finset.sum_comm]

end Cert.ReferenceIdeal.Value

end
-- ==== Proof.Reals.lean ====
/-
The quantities of one image when its scores are real numbers: the losses are real and not negative.
-/
module

public import proofs.«01_k».proof.Proof.Spec
public import proofs.«01_k».proof.Proof.KTop

@[expose] public section

noncomputable section

open Idealize.ShloMosaic Finset

namespace Cert.Spec

theorem exp_coe (a : ℝ) : Ideal.exp (a : EReal) = ((Real.exp a : ℝ) : EReal) := rfl

theorem log_coe {a : ℝ} (h : 0 < a) : Ideal.log (a : EReal) = ((Real.log a : ℝ) : EReal) := by
  change (if a ≤ 0 then ⊥ else ((Real.log a : ℝ) : EReal)) = _
  rw [if_neg (not_le.mpr h)]

variable {D : ℕ} (x : Fin 81 → Fin D → EReal) (l : Fin D → BitVec 32)

theorem mask_real (d : Fin D) : mask l d = (((if l d = 0#32 then 0 else 1 : ℝ)) : EReal) := by
  unfold mask
  split <;> simp

/-- How many boxes are matched. -/
def matched : ℕ := ∑ d, if l d = 0#32 then 0 else 1

theorem npos_real : npos l = ((matched l : ℝ) : EReal) := by
  unfold npos matched
  simp only [mask_real]
  rw [Cert.KernelIdeal.Value.coe_sum]
  push_cast
  rfl

theorem loss_real (d : Fin D) (y : Fin 81 → ℝ) (hy : ∀ c, x c d = (y c : EReal)) (q : Fin 81) (hq : l d = BitVec.ofNat 32 q.val) :
    ∃ w : ℝ, 0 ≤ w ∧ loss x l d = (w : EReal) := by
  obtain ⟨c, hc⟩ := exists_top fun c => x c d
  have ht : (top fun c => x c d) = (y c : EReal) := by rw [← hc, hy]
  have hs : ∑ k, Ideal.exp (x k d - top fun c => x c d) = ((∑ k, Real.exp (y k - y c) : ℝ) : EReal) := by
    rw [← Cert.KernelIdeal.Value.coe_sum]
    refine sum_congr rfl fun k _ => ?_
    rw [ht, hy, ← EReal.coe_sub, exp_coe]
  have hp : (∑ k : Fin 81, if BitVec.ofNat 32 k.val = l d then x k d else 0) = ((y q : ℝ) : EReal) := by
    rw [sum_eq_single q, hq, if_pos rfl, hy]
    · intro k _ hk
      rw [hq, if_neg]
      intro e
      exact hk (Fin.ext ((ofNat_inj (by omega) (by omega)).mp e))
    · intro h; exact absurd (mem_univ q) h
  have hle : Real.exp (y q - y c) ≤ ∑ k, Real.exp (y k - y c) :=
    single_le_sum (f := fun k => Real.exp (y k - y c)) (fun k _ => (Real.exp_pos _).le) (mem_univ q)
  have hpos := (Real.exp_pos (y q - y c)).trans_le hle
  refine ⟨y c + Real.log (∑ k, Real.exp (y k - y c)) - y q, ?_, ?_⟩
  · have := Real.log_le_log (Real.exp_pos _) hle
    rw [Real.log_exp] at this
    linarith
  · unfold loss
    rw [hs, ht, log_coe hpos, hp]
    push_cast
    rfl

theorem neg_real (d : Fin D) (y : Fin 81 → ℝ) (hy : ∀ c, x c d = (y c : EReal)) (q : Fin 81) (hq : l d = BitVec.ofNat 32 q.val) :
    ∃ w : ℝ, 0 ≤ w ∧ neg x l d = (w : EReal) := by
  obtain ⟨w, h0, hw⟩ := loss_real x l d y hy q hq
  unfold neg
  rw [hw, mask_real]
  refine ⟨w * (1 - if l d = 0#32 then 0 else 1), ?_, ?_⟩
  · split <;> simp [h0]
  · push_cast
    rfl

end Cert.Spec

end
-- ==== Proof.PreRead.lean ====
/-
What the precondition says, entry by entry.
-/
module

public import proofs.«01_k».proof.Proof.RefTotal
public import proofs.«01_k».proof.Proof.Reals
public import proofs.«01_k».proof.Pre_separated

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec Idealize.ShloMosaic.StableHlo

variable [Cert.Pre_separated.Facts]

theorem part12_classes (X1 : FVec Ideal S32x8732x81 .f32) (X3 : IVec S32x16 32) (T U : FVec Ideal S32x8732 .f32) (C : IVec S32x8732 1) (i : Fin 32) (g : Fin 16) :
    (Cert.Pre_separated.fn_part12 (F := Ideal) X1 X3 T U C).1 (ix2 i g)
      = IntOp.andi (IntOp.cmpi .sge (X3 (ix2 i g)) 1#32) (IntOp.cmpi .slt (X3 (ix2 i g)) 81#32) := by
  rfl

theorem part12_scores (X1 : FVec Ideal S32x8732x81 .f32) (X3 : IVec S32x16 32) (T U : FVec Ideal S32x8732 .f32) (C : IVec S32x8732 1) (i : Fin 32) (d : Fin 8732) (c : Fin 81) :
    (Cert.Pre_separated.fn_part12 (F := Ideal) X1 X3 T U C).2.1 (ix3 i d c)
      = FloatOps.cmpf (F := Ideal) (φ := .f32) .olt (FloatOps.absf (X1 (ix3 i d c))) (FloatOps.ofBits .f32 0x7F800000#32) := by
  rfl

theorem part12_apart (X1 : FVec Ideal S32x8732x81 .f32) (X3 : IVec S32x16 32) (T U : FVec Ideal S32x8732 .f32) (C : IVec S32x8732 1) (i : Fin 32) (r : Fin 8732) :
    (Cert.Pre_separated.fn_part12 (F := Ideal) X1 X3 T U C).2.2 (ix2 i r)
      = IntOp.ori (C (ix2 i r)) (BitVec.ofBool (decide ((T (ix2 i 0) * Ideal.ofBits .f32 0x2E000000#32 : EReal) ≤ T (ix2 i r) - U (ix2 i r)))) := by
  unfold Cert.Pre_separated.fn_part12
  pointwise

theorem part11_apart (X1 : FVec Ideal S32x8732x81 .f32) (X3 : IVec S32x16 32) (M : FVec Ideal S32x8732 .f32) (N : FVec Ideal S32 .f32) (L O : FVec Ideal S32x8732 .f32) (i : Fin 32) (r : Fin 8732) :
    ∀ S : FVec Ideal S32x8732 .f32, Cert.Pre_separated.fn_sort (F := Ideal) (Host.negf (mulf L (subf O M))) = S →
    (Cert.Pre_separated.fn_part11 (F := Ideal) X1 X3 M N L O).2.2 (ix2 i r)
      = IntOp.ori (BitVec.ofBool (decide ((FloatOps.sitofp (F := Ideal) FTy.f32 (BitVec.ofNat 32 r.val) : EReal) + 1
          ≠ min (Ideal.ofBits FTy.f32 1077936128#32 * N (ix1 i)) (Ideal.ofBits FTy.f32 1174958080#32))))
        (BitVec.ofBool (decide (-S (ix2 i 0) * Ideal.ofBits FTy.f32 771751936#32
          ≤ -S (ix2 i r) - if h : r.val < 8731 then -S (ix2 i ⟨1 + r.val, by omega⟩) else 0))) := by
  intro S hS
  unfold Cert.Pre_separated.fn_part11
  simp only [hS]
  refine (part12_apart _ _ _ _ _ _ _).trans ?_
  pointwise
  simp only [hS]

variable (V0 : Valuation τ sig (Elt Ideal))

theorem pre_eq : Cert.Pre_separated.fn (F := Ideal) (A0 V0) (A1 V0) (A2 V0) (A3 V0) (A4 V0)
    = Cert.Pre_separated.fn_part11 (F := Ideal) (A1 V0) (A3 V0) (res_main_v217 V0) (res_main_v218 V0) (res_main_v241 V0) (broadcastInDim S32x8732 ![] bcast_S_S32x8732 (constant S_ .f32 0x3F800000#32)) := by
  rfl

/-- Both bits of a conjunction of bits are set. -/
theorem and_bits {a b : BitVec 1} (h : IntOp.andi a b = 1#1) : a = 1#1 ∧ b = 1#1 := by
  revert a b; decide

/-- One of two bits is set. -/
theorem or_bits {p q : Prop} [Decidable p] [Decidable q] (h : IntOp.ori (BitVec.ofBool (decide p)) (BitVec.ofBool (decide q)) = 1#1) : p ∨ q := by
  by_cases hp : p
  · exact .inl hp
  · by_cases hq : q
    · exact .inr hq
    · simp [hp, hq, IntOp.ori] at h

/-- The precondition, of the reference's arguments. -/
def Separated : Prop :=
  (Cert.Pre_separated.fn (F := Ideal) (A0 V0) (A1 V0) (A2 V0) (A3 V0) (A4 V0)).1 = (fun _ => 1#1)
    ∧ (Cert.Pre_separated.fn (F := Ideal) (A0 V0) (A1 V0) (A2 V0) (A3 V0) (A4 V0)).2.1 = (fun _ => 1#1)
    ∧ (Cert.Pre_separated.fn (F := Ideal) (A0 V0) (A1 V0) (A2 V0) (A3 V0) (A4 V0)).2.2 = (fun _ => 1#1)

/-- The objects' classes are in range. -/
theorem classes_of (h : Separated V0) : Classes V0 := by
  intro i g
  have h1 := h.1
  rw [pre_eq] at h1
  have h2 := (part12_classes (A1 V0) (A3 V0) _ _ _ i g).symm.trans (congrFun h1 (ix2 i g))
  obtain ⟨ha, hb⟩ := and_bits h2
  have e1 : (1#32).sle (A3 V0 (ix2 i g)) = true := by
    by_contra hn
    rw [Bool.not_eq_true] at hn
    exact absurd ((congrArg BitVec.ofBool hn).symm.trans ha) (by decide)
  have e2 : (A3 V0 (ix2 i g)).slt 81#32 = true := by
    by_contra hn
    rw [Bool.not_eq_true] at hn
    exact absurd ((congrArg BitVec.ofBool hn).symm.trans hb) (by decide)
  rw [BitVec.sle_iff_toInt_le] at e1
  rw [BitVec.slt_iff_toInt_lt] at e2
  have e3 : (1#32).toInt = 1 := by decide
  have e4 : (81#32).toInt = 81 := by decide
  rw [e3] at e1
  rw [e4] at e2
  exact ⟨by change 0 ≤ (A3 V0 (ix2 i g)).toInt; omega, e2⟩

/-- The scores are real numbers. -/
theorem scores_of (h : Separated V0) (i : Fin 32) (c : Fin 81) (d : Fin 8732) : ∃ y : ℝ, Xs V0 i c d = (y : EReal) := by
  have h1 := h.2.1
  rw [pre_eq] at h1
  have h2 := (part12_scores (A1 V0) (A3 V0) _ _ _ i d c).symm.trans (congrFun h1 (ix3 i d c))
  have key : ∀ x : EReal, FloatOps.cmpf (F := Ideal) (φ := .f32) .olt (FloatOps.absf (F := Ideal) (φ := .f32) x) (FloatOps.ofBits .f32 0x7F800000#32) = 1#1 → ∃ y : ℝ, x = (y : EReal) := by
    intro x hx
    have hlt : max x (-x) < ⊤ := by
      by_contra hn
      have e : (FloatOps.ofBits .f32 0x7F800000#32 : Ideal .f32) = (⊤ : EReal) := Cert.KernelIdeal.Value.pinf
      rw [e] at hx
      change BitVec.ofBool (decide (max x (-x) < ⊤)) = 1#1 at hx
      rw [decide_eq_false hn] at hx
      exact absurd hx (by decide)
    refine ⟨x.toReal, (EReal.coe_toReal ?_ ?_).symm⟩
    · rintro rfl; simp at hlt
    · rintro rfl; simp at hlt
  exact key _ h2

/-- The weights of the sorted row of one image, real and not negative. -/
theorem weights_of (h : Separated V0) (i : Fin 32) : ∃ w : Fin 8732 → ℝ, (∀ d, 0 ≤ w d) ∧ ∀ d, neg (Xs V0 i) (Ls V0 i) d = (w d : EReal) := by
  have key (d : Fin 8732) : ∃ w : ℝ, 0 ≤ w ∧ neg (Xs V0 i) (Ls V0 i) d = (w : EReal) := by
    choose y hy using fun c => scores_of V0 h i c d
    obtain ⟨q, hq⟩ := Ls_nat V0 (classes_of V0 h) i d
    exact neg_real (Xs V0 i) (Ls V0 i) d y hy q hq
  choose w h0 hw using key
  exact ⟨w, h0, hw⟩

/-- They descend along the places. -/
theorem descends (h : Separated V0) (i : Fin 32) (w : Fin 8732 → ℝ) (hw : ∀ d, neg (Xs V0 i) (Ls V0 i) d = (w d : EReal)) : Antitone (w ∘ perm (row' V0) i) := by
  intro r r' hr
  have e (d : Fin 8732) : @Eq EReal (row' V0 (ix2 i d)) (((-w d : ℝ)) : EReal) := by
    rw [EReal.coe_neg, ← hw]; exact row'_eq V0 (classes_of V0 h) i d
  have key := perm_ascends (row' V0) i hr
  rw [e, e, EReal.coe_le_coe_iff] at key
  exact neg_le_neg_iff.mp key

/-- The last one taken stands clear of the next. -/
theorem clear_of (h : Separated V0) (i : Fin 32) (w : Fin 8732 → ℝ) (hw : ∀ d, neg (Xs V0 i) (Ls V0 i) d = (w d : EReal))
    (r : Fin 8732) (hr : r.val + 1 = Cert.KernelIdeal.Value.want (matched (Ls V0 i))) :
    w (perm (row' V0) i 0) * (2 : ℝ)⁻¹ ^ 35 ≤ w (perm (row' V0) i r) - Cert.Search.at' (w ∘ perm (row' V0) i) (Cert.KernelIdeal.Value.want (matched (Ls V0 i))) := by
  have h1 := h.2.2
  rw [pre_eq] at h1
  have h2 := (part11_apart (A1 V0) (A3 V0) (res_main_v217 V0) (res_main_v218 V0) (res_main_v241 V0) _ i r (Host.sort S32x8732 1 (comparator_f32_d1 (F := Ideal)) (row' V0)) rfl).symm.trans (congrFun h1 (ix2 i r))
  have hS : ∀ S : FVec Ideal S32x8732 .f32, Host.sort S32x8732 1 (comparator_f32_d1 (F := Ideal)) (row' V0) = S → ∀ r, -S (ix2 i r) = ((w (perm (row' V0) i r) : ℝ) : EReal) := by
    intro S e r
    rw [← hw, ← e, sort_apply, perm_apply]
    refine (congrArg (fun a : EReal => -a) (row'_eq V0 (classes_of V0 h) i _)).trans (neg_neg _)
  have hN : ∀ N : FVec Ideal S32 .f32, res_main_v218 V0 = N → N (ix1 i) = ((matched (Ls V0 i) : ℝ) : EReal) := fun N e => by
    rw [← e, ← npos_real]; exact v218_eq V0 i
  generalize eS : Host.sort S32x8732 1 (comparator_f32_d1 (F := Ideal)) (row' V0) = S at h2
  generalize eN : res_main_v218 V0 = N at h2
  simp only [hS S eS, hN N eN] at h2
  have hs : (FloatOps.sitofp (F := Ideal) FTy.f32 (BitVec.ofNat 32 r.val) : EReal) = ((r.val : ℝ) : EReal) := Cert.KernelIdeal.Value.sitofp_ofNat (by omega)
  have e35 : Ideal.ofBits FTy.f32 771751936#32 = (((2 : ℝ)⁻¹ ^ 35 : ℝ) : EReal) := by
    simp [Ideal.ofBits, Ideal.ieee, -EReal.coe_mul]; norm_num
  rcases or_bits h2 with h3 | h3
  · refine absurd ?_ h3
    rw [hs, Cert.KernelIdeal.Value.want_coe, ← hr]
    push_cast
    rfl
  · have e : (if h : r.val < 8731 then ((w (perm (row' V0) i ⟨1 + r.val, by omega⟩) : ℝ) : EReal) else 0)
        = ((Cert.Search.at' (w ∘ perm (row' V0) i) (Cert.KernelIdeal.Value.want (matched (Ls V0 i))) : ℝ) : EReal) := by
      rw [← hr]
      unfold Cert.Search.at'
      by_cases hl : r.val < 8731
      · rw [dif_pos hl, dif_pos (by omega)]
        simp only [Nat.add_comm, Function.comp_apply]
      · rw [dif_neg hl, dif_neg (by omega)]
        rfl
    rw [e, e35, ← EReal.coe_mul, ← EReal.coe_sub, EReal.coe_le_coe_iff] at h3
    exact h3

end Cert.ReferenceIdeal.Value

end
-- ==== Proof.Equal.lean ====
/-
The kernel's loss is the reference's.
-/
module

public import proofs.«01_k».proof.Proof.Lanes
public import proofs.«01_k».proof.Proof.Blocks
public import proofs.«01_k».proof.Proof.PreRead

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-! ## One image -/

section Image

variable {DB : Vec Ideal S4x8732 .f32} {PB : Vec Ideal S1x4x8732 .f32} {XL : Vec Ideal S1x81x8732 .f32} {BX : Vec Ideal S1x16x4 .f32} {LB : Vec Ideal S1x16x1 .i32}
variable {db : Fin 4 → Fin 8732 → EReal} {pb : Fin 4 → Fin 8732 → EReal} {x : Fin 81 → Fin 8732 → EReal} {bx : Fin 16 → Fin 4 → EReal} {lg : Fin 16 → BitVec 32}
variable (eD : dbs DB = db) (eP : pbs PB = pb) (eX : xs XL = x) (eB : bxs BX = bx) (eL : lgs LB = lg) (h : ∀ g, 0 ≤ (lg g).toInt)

include eD eB eL h in
theorem image_count : kCount DB BX LB = npos (lab lg (iou db bx)) := by
  subst eD eB eL
  exact kCount_eq DB BX LB h

include eD eP eB eL h in
theorem image_abs : kAbs DB PB BX LB = gap db bx pb (lab lg (iou db bx)) (owner (iou db bx)) := by
  subst eD eP eB eL
  exact kAbs_eq DB PB BX LB h

include eD eX eB eL h in
theorem image_pos : kPos DB XL BX LB = pos x (lab lg (iou db bx)) := by
  subst eD eX eB eL
  exact kPos_eq DB XL BX LB h

include eD eX eB eL h in
theorem image_top (w : Fin 8732 → ℝ) (hw : ∀ d, neg x (lab lg (iou db bx)) d = (w d : EReal)) (h0 : ∀ d, 0 ≤ w d) (σ : Fin 8732 ≃ Fin 8732) (hs : Antitone (w ∘ σ))
    (gap : ∀ r : Fin 8732, r.val + 1 = want (matched (lab lg (iou db bx))) →
      w (σ 0) * (2 : ℝ)⁻¹ ^ 35 ≤ w (σ r) - Cert.Search.at' (w ∘ σ) (want (matched (lab lg (iou db bx))))) :
    kTop DB XL BX LB = ∑ r, neg x (lab lg (iou db bx)) (σ r) * Cert.ReferenceIdeal.Value.kept r (npos (lab lg (iou db bx))) := by
  subst eD eX eB eL
  have hc : kCount DB BX LB = ((matched (ls DB BX LB) : ℝ) : EReal) := (kCount_eq DB BX LB h).trans (npos_real _)
  have hn : ∀ d, k0_pay41 (kMask DB BX LB) (kLoss DB XL BX LB) (ix2 0 d) = (w d : EReal) := fun d => (kNeg_eq DB XL BX LB h d).trans (hw d)
  unfold kTop kSearch
  rw [hc]
  refine (topSum_eq (kMask DB BX LB) (kLoss DB XL BX LB) (matched (ls DB BX LB)) w hn σ hs h0 gap).trans ?_
  rw [← coe_sum]
  refine Finset.sum_congr rfl fun r _ => ?_
  rw [npos_real, Cert.ReferenceIdeal.Value.kept_eq, hw]
  split <;> simp

end Image

/-! ## All of them -/

variable (m : (ℓ : Loc nD τ sig) → Buf (Elt Ideal) ℓ) (c : Dev nD)

theorem lane_sum (k : Fin 128) (f : Fin 32 → EReal) (hf : ∀ t : Fin cfg0.N, contrib m c t (ix2 0 k) = f (img t 0) + f (img t 1)) :
    @Eq EReal ((result m c : FVec Ideal S1x128 .f32) (ix2 0 k)) (∑ i, f i) := by
  refine (chain_apply m c k 15 _).trans ?_
  rw [← sum_pairs]
  exact Finset.sum_congr rfl fun t _ => hf _

theorem contrib_eq (t : Fin cfg0.N) (A N P T : Fin 32 → EReal)
    (hA : ∀ (j : Fin 2) (i0 i2 i3), kAbs (iblk m c 4 t : Vec Ideal S4x8732 .f32) (View.ld (iblk m c 0 t : Vec Ideal S2x4x8732 .f32) (Rect.unit ![j.val, 0, 0] ![1, 4, 8732] i0))
      (View.ld (iblk m c 2 t : Vec Ideal S2x16x4 .f32) (Rect.unit ![j.val, 0, 0] ![1, 16, 4] i2)) (View.ld (iblk m c 3 t : Vec Ideal S2x16x1 .i32) (Rect.unit ![j.val, 0, 0] ![1, 16, 1] i3)) = A (img t j))
    (hN : ∀ (j : Fin 2) (i2 i3), kCount (iblk m c 4 t : Vec Ideal S4x8732 .f32)
      (View.ld (iblk m c 2 t : Vec Ideal S2x16x4 .f32) (Rect.unit ![j.val, 0, 0] ![1, 16, 4] i2)) (View.ld (iblk m c 3 t : Vec Ideal S2x16x1 .i32) (Rect.unit ![j.val, 0, 0] ![1, 16, 1] i3)) = N (img t j))
    (hP : ∀ (j : Fin 2) (i1 i2 i3), kPos (iblk m c 4 t : Vec Ideal S4x8732 .f32) (View.ld (iblk m c 1 t : Vec Ideal S2x81x8732 .f32) (Rect.unit ![j.val, 0, 0] ![1, 81, 8732] i1))
      (View.ld (iblk m c 2 t : Vec Ideal S2x16x4 .f32) (Rect.unit ![j.val, 0, 0] ![1, 16, 4] i2)) (View.ld (iblk m c 3 t : Vec Ideal S2x16x1 .i32) (Rect.unit ![j.val, 0, 0] ![1, 16, 1] i3)) = P (img t j))
    (hT : ∀ (j : Fin 2) (i1 i2 i3), kTop (iblk m c 4 t : Vec Ideal S4x8732 .f32) (View.ld (iblk m c 1 t : Vec Ideal S2x81x8732 .f32) (Rect.unit ![j.val, 0, 0] ![1, 81, 8732] i1))
      (View.ld (iblk m c 2 t : Vec Ideal S2x16x4 .f32) (Rect.unit ![j.val, 0, 0] ![1, 16, 4] i2)) (View.ld (iblk m c 3 t : Vec Ideal S2x16x1 .i32) (Rect.unit ![j.val, 0, 0] ![1, 16, 1] i3)) = T (img t j)) :
    contrib m c t = lay (A (img t 0)) (A (img t 1)) (N (img t 0)) (N (img t 1)) (P (img t 0)) (P (img t 1)) (T (img t 0)) (T (img t 1)) := by
  unfold contrib stepOf
  rw [kStep_eq]
  rw [← hA 0 inb_S2x4x8732_S1x4x8732_0_0_0 inb_S2x16x4_S1x16x4_0_0_0 inb_S2x16x1_S1x16x1_0_0_0,
    ← hA 1 inb_S2x4x8732_S1x4x8732_1_0_0 inb_S2x16x4_S1x16x4_1_0_0 inb_S2x16x1_S1x16x1_1_0_0,
    ← hN 0 inb_S2x16x4_S1x16x4_0_0_0 inb_S2x16x1_S1x16x1_0_0_0, ← hN 1 inb_S2x16x4_S1x16x4_1_0_0 inb_S2x16x1_S1x16x1_1_0_0,
    ← hP 0 inb_S2x81x8732_S1x81x8732_0_0_0 inb_S2x16x4_S1x16x4_0_0_0 inb_S2x16x1_S1x16x1_0_0_0,
    ← hP 1 inb_S2x81x8732_S1x81x8732_1_0_0 inb_S2x16x4_S1x16x4_1_0_0 inb_S2x16x1_S1x16x1_1_0_0,
    ← hT 0 inb_S2x81x8732_S1x81x8732_0_0_0 inb_S2x16x4_S1x16x4_0_0_0 inb_S2x16x1_S1x16x1_0_0_0,
    ← hT 1 inb_S2x81x8732_S1x81x8732_1_0_0 inb_S2x16x4_S1x16x4_1_0_0 inb_S2x16x1_S1x16x1_1_0_0]
  rfl

/-- The loss of four sums. -/
theorem total_eq (A N P T : Fin 32 → EReal)
    (hc : ∀ t : Fin cfg0.N, contrib m c t = lay (A (img t 0)) (A (img t 1)) (N (img t 0)) (N (img t 1)) (P (img t 0)) (P (img t 1)) (T (img t 0)) (T (img t 1))) :
    @Eq EReal (total (F := Ideal) (result m c : FVec Ideal S1x128 .f32) ix0) (comb (∑ i, A i) (∑ i, N i) (∑ i, P i) (∑ i, T i)) := by
  refine (total_apply _).trans ?_
  rw [lane_sum m c 0 A fun t => by rw [hc, lay_0], lane_sum m c 1 N fun t => by rw [hc, lay_1],
    lane_sum m c 2 P fun t => by rw [hc, lay_2], lane_sum m c 3 T fun t => by rw [hc, lay_3]]

section Both

variable [Cert.Pre_separated.Facts]
variable (V0 : Valuation Cert.ReferenceIdeal.τ Cert.ReferenceIdeal.sig (Elt Ideal))

/-- The distances of one image. -/
def refGap (i : Fin 32) : EReal :=
  gap (Cert.ReferenceIdeal.Value.Db V0) (Cert.ReferenceIdeal.Value.Bx V0 i) (Cert.ReferenceIdeal.Value.Pb V0 i) (Cert.ReferenceIdeal.Value.Ls V0 i) (owner (Cert.ReferenceIdeal.Value.Vs V0 i))

/-- Its matched boxes. -/
def refCount (i : Fin 32) : EReal := npos (Cert.ReferenceIdeal.Value.Ls V0 i)

/-- Their losses. -/
def refPos (i : Fin 32) : EReal := pos (Cert.ReferenceIdeal.Value.Xs V0 i) (Cert.ReferenceIdeal.Value.Ls V0 i)

/-- The hardest of the others'. -/
def refTop (i : Fin 32) : EReal :=
  ∑ r : Fin 8732, neg (Cert.ReferenceIdeal.Value.Xs V0 i) (Cert.ReferenceIdeal.Value.Ls V0 i) (Cert.ReferenceIdeal.Value.perm (Cert.ReferenceIdeal.Value.row' V0) i r)
    * Cert.ReferenceIdeal.Value.kept r (npos (Cert.ReferenceIdeal.Value.Ls V0 i))

section Lane

variable {V0}
variable {t : Fin cfg0.N} {DB : Vec Ideal S4x8732 .f32} {PB : Vec Ideal S1x4x8732 .f32} {XL : Vec Ideal S1x81x8732 .f32} {BX : Vec Ideal S1x16x4 .f32} {LB : Vec Ideal S1x16x1 .i32}
variable {i : Fin 32} (eD : dbs DB = Cert.ReferenceIdeal.Value.Db V0) (eP : pbs PB = Cert.ReferenceIdeal.Value.Pb V0 i) (eX : xs XL = Cert.ReferenceIdeal.Value.Xs V0 i)
variable (eB : bxs BX = Cert.ReferenceIdeal.Value.Bx V0 i) (eL : lgs LB = Cert.ReferenceIdeal.Value.Lg V0 i) (h : Cert.ReferenceIdeal.Value.Separated V0)

include eD eP eB eL h in
theorem lane_gap : kAbs DB PB BX LB = refGap V0 i :=
  image_abs eD eP eB eL fun g => (Cert.ReferenceIdeal.Value.classes_of V0 h i g).1

include eD eB eL h in
theorem lane_count : kCount DB BX LB = refCount V0 i :=
  image_count eD eB eL fun g => (Cert.ReferenceIdeal.Value.classes_of V0 h i g).1

include eD eX eB eL h in
theorem lane_pos : kPos DB XL BX LB = refPos V0 i :=
  image_pos eD eX eB eL fun g => (Cert.ReferenceIdeal.Value.classes_of V0 h i g).1

include eD eX eB eL h in
theorem lane_top : kTop DB XL BX LB = refTop V0 i := by
  obtain ⟨w, h0, hw⟩ := Cert.ReferenceIdeal.Value.weights_of V0 h i
  exact image_top eD eX eB eL (fun g => (Cert.ReferenceIdeal.Value.classes_of V0 h i g).1) w hw h0 _
    (Cert.ReferenceIdeal.Value.descends V0 h i w hw) (Cert.ReferenceIdeal.Value.clear_of V0 h i w hw)

end Lane

/-- The two programs, on the same arguments, compute the same loss. -/
theorem equal (e0 : Cert.ReferenceIdeal.Value.A0 V0 = a0 m c) (e1 : Cert.ReferenceIdeal.Value.A1 V0 = a1 m c) (e2 : Cert.ReferenceIdeal.Value.A2 V0 = a2 m c)
    (e3 : Cert.ReferenceIdeal.Value.A3 V0 = a3 m c) (e4 : Cert.ReferenceIdeal.Value.A4 V0 = a4 m c) (h : Cert.ReferenceIdeal.Value.Separated V0) :
    @Eq EReal (total (F := Ideal) (result m c : FVec Ideal S1x128 .f32) ix0) (Cert.ReferenceIdeal.Value.res_main_v265 V0 ix0) := by
  have eD : Db m c = Cert.ReferenceIdeal.Value.Db V0 := funext fun k => funext fun d => (congrFun e4 _).symm
  have eB (i : Fin 32) : Bx m c i = Cert.ReferenceIdeal.Value.Bx V0 i := funext fun k => funext fun d => (congrFun e2 _).symm
  have eL (i : Fin 32) : Lg m c i = Cert.ReferenceIdeal.Value.Lg V0 i := funext fun g => (congrFun e3 _).symm
  have eP (i : Fin 32) : Pb m c i = Cert.ReferenceIdeal.Value.Pb V0 i := funext fun k => funext fun d => (congrFun e0 _).symm
  have eX (i : Fin 32) : Xs m c i = Cert.ReferenceIdeal.Value.Xs V0 i := funext fun k => funext fun d => (congrFun e1 _).symm
  have hc (t : Fin cfg0.N) := contrib_eq m c t (refGap V0) (refCount V0) (refPos V0) (refTop V0)
    (fun j i0 i2 i3 => lane_gap ((ld4 m c t).trans eD) ((ld0 m c t j i0).trans (eP _)) ((ld2 m c t j i2).trans (eB _)) ((ld3 m c t j i3).trans (eL _)) h)
    (fun j i2 i3 => lane_count ((ld4 m c t).trans eD) ((ld2 m c t j i2).trans (eB _)) ((ld3 m c t j i3).trans (eL _)) h)
    (fun j i1 i2 i3 => lane_pos ((ld4 m c t).trans eD) ((ld1 m c t j i1).trans (eX _)) ((ld2 m c t j i2).trans (eB _)) ((ld3 m c t j i3).trans (eL _)) h)
    (fun j i1 i2 i3 => lane_top ((ld4 m c t).trans eD) ((ld1 m c t j i1).trans (eX _)) ((ld2 m c t j i2).trans (eB _)) ((ld3 m c t j i3).trans (eL _)) h)
  refine (total_eq m c _ _ _ _ hc).trans ?_
  refine Eq.trans ?_ (Cert.ReferenceIdeal.Value.v265_eq V0 (Cert.ReferenceIdeal.Value.classes_of V0 h)).symm
  unfold refGap refCount refPos refTop comb Cert.ReferenceIdeal.Value.comb
  with_reducible rfl

end Both

end Cert.KernelIdeal.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_separated
public import proofs.«01_k».proof.Proof.RefRun
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference leaves its arguments as they were; it has no semaphores. -/
theorem frame_ref : Cert.quiescent_ReferenceIdeal (hReferenceIdeal := Cert.ReferenceIdeal.Gen.facts) := fun m ρ _ =>
  (θ_run _ _ _).mono (fun r h => ⟨fun c => ⟨(h c).2.1, (h c).2.2.1, (h c).2.2.2.1, (h c).2.2.2.2.1, (h c).2.2.2.2.2⟩,
    sem_eq_zero_of_no_sems rfl _⟩) (Cert.ReferenceIdeal.Value.run m ρ)

/-- The kernel's and the reference's loss are the same number, where the precondition holds. -/
theorem same_loss : Cert.algebraic_KernelIdeal_ReferenceIdeal_pre_separated (hKernelIdeal := Cert.KernelIdeal.Gen.facts)
    (hReferenceIdeal := Cert.ReferenceIdeal.Gen.facts) (hPre_separated := Cert.Pre_separated.Gen.facts) := by
  intro m ρ m' ρ' hpre hargs
  refine ⟨fun c => Cert.KernelIdeal.Value.total (F := Ideal) (Cert.KernelIdeal.Value.result m c), ?_, ?_⟩
  · exact (θ_run _ _ _).mono (fun r h c => ⟨h.1 c, h.2 c⟩)
      (θ_run_and (Cert.KernelIdeal.Value.run m ρ) (Cert.KernelIdeal.Gen.unchanged m ρ))
  · refine (θ_run _ _ _).mono (fun r h c => ⟨(h c).1.trans ?_, (h c).2⟩) (Cert.ReferenceIdeal.Value.run m' ρ')
    obtain ⟨e0, e1, e2, e3, e4⟩ := hargs c
    haveI := Cert.Pre_separated.Gen.facts
    have hs : Cert.ReferenceIdeal.Value.Separated (StableHlo.launchContents m' c) := by
      have h := hpre c
      rw [← e0, ← e1, ← e2, ← e3, ← e4] at h
      exact h
    have key := Cert.KernelIdeal.Value.equal m c (StableHlo.launchContents m' c) e0 e1 e2 e3 e4 hs
    funext j
    rw [ValueIdx.eq_ix0 j]
    exact key.symm

theorem claim : Cert.Claim := ⟨Cert.Kernel.Gen.facts, Cert.KernelIdeal.Gen.facts, Cert.ReferenceIdeal.Gen.facts, Cert.Pre_separated.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, trivial, same_loss⟩

end Cert.Proof

end
